-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S32 : Shape := ⟨1, ![32]⟩
abbrev S_ : Shape := ⟨0, ![]⟩
abbrev S1 : Shape := ⟨1, ![1]⟩
abbrev S8 : Shape := ⟨1, ![8]⟩
abbrev S4096x8192 : Shape := ⟨2, ![4096, 8192]⟩
abbrev S2x64x8192 : Shape := ⟨3, ![2, 64, 8192]⟩
abbrev S64x8192 : Shape := ⟨2, ![64, 8192]⟩
abbrev S8x128 : Shape := ⟨2, ![8, 128]⟩
abbrev S5x8x128 : Shape := ⟨3, ![5, 8, 128]⟩
abbrev S2 : Shape := ⟨1, ![2]⟩
abbrev S5 : Shape := ⟨1, ![5]⟩
abbrev S64x128 : Shape := ⟨2, ![64, 128]⟩
abbrev S1x64x8192 : Shape := ⟨3, ![1, 64, 8192]⟩
abbrev S1x1x1 : Shape := ⟨3, ![1, 1, 1]⟩
abbrev S1x8x128 : Shape := ⟨3, ![1, 8, 128]⟩

abbrev nBuf : Space → Nat
  | .hbm => 61
  | .vmem => 17
  | .smem => 1
  | _ => 0

abbrev bufTy : (tb : Table) → Fin (tcTables nBuf tb) → BufTy
  | .hbm, ⟨0, _⟩ => ⟨S4096x128, .bf16⟩
  | .hbm, ⟨1, _⟩ => ⟨S128x8192, .bf16⟩
  | .hbm, ⟨2, _⟩ => ⟨S32, .i32⟩
  | .hbm, ⟨3, _⟩ => ⟨S32, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S1, .i32⟩
  | .hbm, ⟨52, _⟩ => ⟨S1, .i32⟩
  | .hbm, ⟨53, _⟩ => ⟨S1, .i32⟩
  | .hbm, ⟨54, _⟩ => ⟨S1, .i32⟩
  | .hbm, ⟨55, _⟩ => ⟨S1, .i32⟩
  | .hbm, ⟨56, _⟩ => ⟨S1, .i32⟩
  | .hbm, ⟨57, _⟩ => ⟨S1, .i32⟩
  | .hbm, ⟨58, _⟩ => ⟨S1, .i32⟩
  | .hbm, ⟨59, _⟩ => ⟨S8, .i32⟩
  | .hbm, ⟨60, _⟩ => ⟨S4096x8192, .f32⟩
  | .local _ .vmem, ⟨0, _⟩ => ⟨S4096x128, .bf16⟩
  | .local _ .vmem, ⟨1, _⟩ => ⟨S128x8192, .bf16⟩
  | .local _ .vmem, ⟨2, _⟩ => ⟨S128x8192, .bf16⟩
  | .local _ .vmem, ⟨3, _⟩ => ⟨S2x64x8192, .bf16⟩
  | .local _ .vmem, ⟨4, _⟩ => ⟨S2x64x8192, .bf16⟩
  | .local _ .vmem, ⟨5, _⟩ => ⟨S2x64x8192, .bf16⟩
  | .local _ .vmem, ⟨6, _⟩ => ⟨S2x64x8192, .bf16⟩
  | .local _ .vmem, ⟨7, _⟩ => ⟨S64x8192, .f32⟩
  | .local _ .vmem, ⟨8, _⟩ => ⟨S64x8192, .f32⟩
  | .local _ .vmem, ⟨9, _⟩ => ⟨S2x64x8192, .i8⟩
  | .local _ .vmem, ⟨10, _⟩ => ⟨S2x64x8192, .i8⟩
  | .local _ .vmem, ⟨11, _⟩ => ⟨S2x64x8192, .i8⟩
  | .local _ .vmem, ⟨12, _⟩ => ⟨S2x64x8192, .i8⟩
  | .local _ .vmem, ⟨13, _⟩ => ⟨S2x64x8192, .f32⟩
  | .local _ .vmem, ⟨14, _⟩ => ⟨S2x64x8192, .f32⟩
  | .local _ .vmem, ⟨15, _⟩ => ⟨S8x128, .f32⟩
  | .local _ .vmem, ⟨16, _⟩ => ⟨S5x8x128, .f32⟩
  | .local _ .smem, ⟨0, _⟩ => ⟨S8, .i32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_3 : Ref sig .tc := ⟨.hbm, 10, rfl⟩
abbrev main_v5 : Ref sig .tc := ⟨.hbm, 11, rfl⟩
abbrev main_c_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_5 : Ref sig .tc := ⟨.hbm, 17, rfl⟩
abbrev main_v10 : Ref sig .tc := ⟨.hbm, 18, rfl⟩
abbrev main_c_6 : Ref sig .tc := ⟨.hbm, 19, rfl⟩
abbrev main_v11 : Ref sig .tc := ⟨.hbm, 20, rfl⟩
abbrev main_c_7 : Ref sig .tc := ⟨.hbm, 21, rfl⟩
abbrev main_v12 : Ref sig .tc := ⟨.hbm, 22, rfl⟩
abbrev main_c_8 : Ref sig .tc := ⟨.hbm, 23, rfl⟩
abbrev main_v13 : Ref sig .tc := ⟨.hbm, 24, rfl⟩
abbrev main_c_9 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_10 : Ref sig .tc := ⟨.hbm, 30, rfl⟩
abbrev main_v18 : Ref sig .tc := ⟨.hbm, 31, rfl⟩
abbrev main_c_11 : Ref sig .tc := ⟨.hbm, 32, rfl⟩
abbrev main_v19 : Ref sig .tc := ⟨.hbm, 33, rfl⟩
abbrev main_c_12 : Ref sig .tc := ⟨.hbm, 34, rfl⟩
abbrev main_v20 : Ref sig .tc := ⟨.hbm, 35, rfl⟩
abbrev main_c_13 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_14 : Ref sig .tc := ⟨.hbm, 41, rfl⟩
abbrev main_v25 : Ref sig .tc := ⟨.hbm, 42, rfl⟩
abbrev main_c_15 : Ref sig .tc := ⟨.hbm, 43, rfl⟩
abbrev main_v26 : Ref sig .tc := ⟨.hbm, 44, rfl⟩
abbrev main_c_16 : Ref sig .tc := ⟨.hbm, 45, rfl⟩
abbrev main_v27 : Ref sig .tc := ⟨.hbm, 46, rfl⟩
abbrev main_c_17 : Ref sig .tc := ⟨.hbm, 47, rfl⟩
abbrev main_v28 : Ref sig .tc := ⟨.hbm, 48, rfl⟩
abbrev main_c_18 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_scratch14 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v4 : BitVec 32 := Scalar.muli v1 c1_i32_0
  let v5 : BitVec 32 := Scalar.addi c0_i32 v4
  v5.toNat

def k0_dev2 (v2 : BitVec 32) : Nat :=
  let c0_i32_3 : BitVec 32 := 0#32
  let c1_i32_2 : BitVec 32 := 1#32
  let v6 : BitVec 32 := Scalar.muli v2 c1_i32_2
  let v7 : BitVec 32 := Scalar.addi c0_i32_3 v6
  v7.toNat

def k0_off1 (v0 : BitVec 32) : Fin 2 → Nat :=
  let c128_i32 : BitVec 32 := 128#32
  let v13 : BitVec 32 := Scalar.muli v0 c128_i32
  let v14 : Index := Scalar.indexCast v13
  let c0_8 : Index := 0#32
  ![v14.toNat, 0]

def k0_off2 (v0 : BitVec 32) : Fin 2 → Nat :=
  let c128_i32_11 : BitVec 32 := 128#32
  let v19 : BitVec 32 := Scalar.muli v0 c128_i32_11
  let c64_i32 : BitVec 32 := 64#32
  let v20 : BitVec 32 := Scalar.addi v19 c64_i32
  let v21 : Index := Scalar.indexCast v20
  let c0_12 : Index := 0#32
  ![v21.toNat, 0]
def k0_dev3 (v2 : BitVec 32) : Nat :=
  let c0_i32_27 : BitVec 32 := 0#32
  let c1_i32_26 : BitVec 32 := 1#32
  let v34 : BitVec 32 := Scalar.muli v2 c1_i32_26
  let v35 : BitVec 32 := Scalar.addi c0_i32_27 v34
  v35.toNat
def k0_dev4 (v1 : BitVec 32) : Nat :=
  let c0_i32_37 : BitVec 32 := 0#32
  let c1_i32_36 : BitVec 32 := 1#32
  let v44 : BitVec 32 := Scalar.muli v1 c1_i32_36
  let v45 : BitVec 32 := Scalar.addi c0_i32_37 v44
  v45.toNat
def k0_off3 (v0 : BitVec 32) (c1_i32_42 : BitVec 32) : Fin 2 → Nat :=
  let v54 : BitVec 32 := Scalar.subi v0 c1_i32_42
  let c32_i32 : BitVec 32 := 32#32
  let v55 : BitVec 32 := Scalar.addi v54 c32_i32
  let c32_i32_43 : BitVec 32 := 32#32
  let v56 : BitVec 32 := Scalar.remsi v55 c32_i32_43
  let c128_i32_44 : BitVec 32 := 128#32
  let v57 : BitVec 32 := Scalar.muli v56 c128_i32_44
  let v58 : Index := Scalar.indexCast v57
  let c0_45 : Index := 0#32
  ![v58.toNat, 0]
def k0_off4 (v0 : BitVec 32) (c1_i32_49 : BitVec 32) : Fin 2 → Nat :=
  let v63 : BitVec 32 := Scalar.addi v0 c1_i32_49
  let c32_i32_50 : BitVec 32 := 32#32
  let v64 : BitVec 32 := Scalar.remsi v63 c32_i32_50
  let c128_i32_51 : BitVec 32 := 128#32
  let v65 : BitVec 32 := Scalar.muli v64 c128_i32_51
  let c64_i32_52 : BitVec 32 := 64#32
  let v66 : BitVec 32 := Scalar.addi v65 c64_i32_52
  let v67 : Index := Scalar.indexCast v66
  let c0_53 : Index := 0#32
  ![v67.toNat, 0]
def k0_dev5 (v2 : BitVec 32) : Nat :=
  let c0_i32_112 : BitVec 32 := 0#32
  let c1_i32_111 : BitVec 32 := 1#32
  let v116 : BitVec 32 := Scalar.muli v2 c1_i32_111
  let v117 : BitVec 32 := Scalar.addi c0_i32_112 v116
  v117.toNat
def k0_dev6 (v1 : BitVec 32) : Nat :=
  let c0_i32_122 : BitVec 32 := 0#32
  let c1_i32_121 : BitVec 32 := 1#32
  let v126 : BitVec 32 := Scalar.muli v1 c1_i32_121
  let v127 : BitVec 32 := Scalar.addi c0_i32_122 v126
  v127.toNat
def k0_dev7 (v2 : BitVec 32) : Nat :=
  let c0_i32_198 : BitVec 32 := 0#32
  let c1_i32_197 : BitVec 32 := 1#32
  let v198 : BitVec 32 := Scalar.muli v2 c1_i32_197
  let v199 : BitVec 32 := Scalar.addi c0_i32_198 v198
  v199.toNat
def k0_dev8 (v1 : BitVec 32) : Nat :=
  let c0_i32_208 : BitVec 32 := 0#32
  let c1_i32_207 : BitVec 32 := 1#32
  let v208 : BitVec 32 := Scalar.muli v1 c1_i32_207
  let v209 : BitVec 32 := Scalar.addi c0_i32_208 v208
  v209.toNat
def k0_dev9 (v2 : BitVec 32) : Nat :=
  let c0_i32_283 : BitVec 32 := 0#32
  let c1_i32_282 : BitVec 32 := 1#32
  let v280 : BitVec 32 := Scalar.muli v2 c1_i32_282
  let v281 : BitVec 32 := Scalar.addi c0_i32_283 v280
  v281.toNat
def k0_dev10 (v1 : BitVec 32) : Nat :=
  let c0_i32_293 : BitVec 32 := 0#32
  let c1_i32_292 : BitVec 32 := 1#32
  let v290 : BitVec 32 := Scalar.muli v1 c1_i32_292
  let v291 : BitVec 32 := Scalar.addi c0_i32_293 v290
  v291.toNat
def k0_dev11 (v2 : BitVec 32) : Nat :=
  let c0_i32_368 : BitVec 32 := 0#32
  let c1_i32_367 : BitVec 32 := 1#32
  let v362 : BitVec 32 := Scalar.muli v2 c1_i32_367
  let v363 : BitVec 32 := Scalar.addi c0_i32_368 v362
  v363.toNat
def k0_dev12 (v1 : BitVec 32) : Nat :=
  let c0_i32_378 : BitVec 32 := 0#32
  let c1_i32_377 : BitVec 32 := 1#32
  let v372 : BitVec 32 := Scalar.muli v1 c1_i32_377
  let v373 : BitVec 32 := Scalar.addi c0_i32_378 v372
  v373.toNat
def k0_dev13 (v2 : BitVec 32) : Nat :=
  let c0_i32_453 : BitVec 32 := 0#32
  let c1_i32_452 : BitVec 32 := 1#32
  let v444 : BitVec 32 := Scalar.muli v2 c1_i32_452
  let v445 : BitVec 32 := Scalar.addi c0_i32_453 v444
  v445.toNat
def k0_dev14 (v1 : BitVec 32) : Nat :=
  let c0_i32_463 : BitVec 32 := 0#32
  let c1_i32_462 : BitVec 32 := 1#32
  let v454 : BitVec 32 := Scalar.muli v1 c1_i32_462
  let v455 : BitVec 32 := Scalar.addi c0_i32_463 v454
  v455.toNat
def k0_dev15 (v2 : BitVec 32) : Nat :=
  let c0_i32_538 : BitVec 32 := 0#32
  let c1_i32_537 : BitVec 32 := 1#32
  let v526 : BitVec 32 := Scalar.muli v2 c1_i32_537
  let v527 : BitVec 32 := Scalar.addi c0_i32_538 v526
  v527.toNat
def k0_dev16 (v1 : BitVec 32) : Nat :=
  let c0_i32_548 : BitVec 32 := 0#32
  let c1_i32_547 : BitVec 32 := 1#32
  let v536 : BitVec 32 := Scalar.muli v1 c1_i32_547
  let v537 : BitVec 32 := Scalar.addi c0_i32_548 v536
  v537.toNat
def k0_dev17 (v2 : BitVec 32) : Nat :=
  let c0_i32_623 : BitVec 32 := 0#32
  let c1_i32_622 : BitVec 32 := 1#32
  let v608 : BitVec 32 := Scalar.muli v2 c1_i32_622
  let v609 : BitVec 32 := Scalar.addi c0_i32_623 v608
  v609.toNat
def k0_dev18 (v1 : BitVec 32) : Nat :=
  let c0_i32_633 : BitVec 32 := 0#32
  let c1_i32_632 : BitVec 32 := 1#32
  let v618 : BitVec 32 := Scalar.muli v1 c1_i32_632
  let v619 : BitVec 32 := Scalar.addi c0_i32_633 v618
  v619.toNat
def k0_dev19 (v2 : BitVec 32) : Nat :=
  let c0_i32_708 : BitVec 32 := 0#32
  let c1_i32_707 : BitVec 32 := 1#32
  let v690 : BitVec 32 := Scalar.muli v2 c1_i32_707
  let v691 : BitVec 32 := Scalar.addi c0_i32_708 v690
  v691.toNat
def k0_dev20 (v1 : BitVec 32) : Nat :=
  let c0_i32_718 : BitVec 32 := 0#32
  let c1_i32_717 : BitVec 32 := 1#32
  let v700 : BitVec 32 := Scalar.muli v1 c1_i32_717
  let v701 : BitVec 32 := Scalar.addi c0_i32_718 v700
  v701.toNat
def k0_dev21 (v2 : BitVec 32) : Nat :=
  let c0_i32_793 : BitVec 32 := 0#32
  let c1_i32_792 : BitVec 32 := 1#32
  let v772 : BitVec 32 := Scalar.muli v2 c1_i32_792
  let v773 : BitVec 32 := Scalar.addi c0_i32_793 v772
  v773.toNat
def k0_dev22 (v1 : BitVec 32) : Nat :=
  let c0_i32_803 : BitVec 32 := 0#32
  let c1_i32_802 : BitVec 32 := 1#32
  let v782 : BitVec 32 := Scalar.muli v1 c1_i32_802
  let v783 : BitVec 32 := Scalar.addi c0_i32_803 v782
  v783.toNat
def k0_dev23 (v2 : BitVec 32) : Nat :=
  let c0_i32_878 : BitVec 32 := 0#32
  let c1_i32_877 : BitVec 32 := 1#32
  let v854 : BitVec 32 := Scalar.muli v2 c1_i32_877
  let v855 : BitVec 32 := Scalar.addi c0_i32_878 v854
  v855.toNat
def k0_dev24 (v1 : BitVec 32) : Nat :=
  let c0_i32_888 : BitVec 32 := 0#32
  let c1_i32_887 : BitVec 32 := 1#32
  let v864 : BitVec 32 := Scalar.muli v1 c1_i32_887
  let v865 : BitVec 32 := Scalar.addi c0_i32_888 v864
  v865.toNat
def k0_dev25 (v2 : BitVec 32) : Nat :=
  let c0_i32_963 : BitVec 32 := 0#32
  let c1_i32_962 : BitVec 32 := 1#32
  let v936 : BitVec 32 := Scalar.muli v2 c1_i32_962
  let v937 : BitVec 32 := Scalar.addi c0_i32_963 v936
  v937.toNat
def k0_dev26 (v1 : BitVec 32) : Nat :=
  let c0_i32_973 : BitVec 32 := 0#32
  let c1_i32_972 : BitVec 32 := 1#32
  let v946 : BitVec 32 := Scalar.muli v1 c1_i32_972
  let v947 : BitVec 32 := Scalar.addi c0_i32_973 v946
  v947.toNat
def k0_dev27 (v2 : BitVec 32) : Nat :=
  let c0_i32_1048 : BitVec 32 := 0#32
  let c1_i32_1047 : BitVec 32 := 1#32
  let v1018 : BitVec 32 := Scalar.muli v2 c1_i32_1047
  let v1019 : BitVec 32 := Scalar.addi c0_i32_1048 v1018
  v1019.toNat
def k0_dev28 (v1 : BitVec 32) : Nat :=
  let c0_i32_1058 : BitVec 32 := 0#32
  let c1_i32_1057 : BitVec 32 := 1#32
  let v1028 : BitVec 32 := Scalar.muli v1 c1_i32_1057
  let v1029 : BitVec 32 := Scalar.addi c0_i32_1058 v1028
  v1029.toNat
def k0_dev29 (v2 : BitVec 32) : Nat :=
  let c0_i32_1133 : BitVec 32 := 0#32
  let c1_i32_1132 : BitVec 32 := 1#32
  let v1100 : BitVec 32 := Scalar.muli v2 c1_i32_1132
  let v1101 : BitVec 32 := Scalar.addi c0_i32_1133 v1100
  v1101.toNat
def k0_dev30 (v1 : BitVec 32) : Nat :=
  let c0_i32_1143 : BitVec 32 := 0#32
  let c1_i32_1142 : BitVec 32 := 1#32
  let v1110 : BitVec 32 := Scalar.muli v1 c1_i32_1142
  let v1111 : BitVec 32 := Scalar.addi c0_i32_1143 v1110
  v1111.toNat
def k0_dev31 (v2 : BitVec 32) : Nat :=
  let c0_i32_1218 : BitVec 32 := 0#32
  let c1_i32_1217 : BitVec 32 := 1#32
  let v1182 : BitVec 32 := Scalar.muli v2 c1_i32_1217
  let v1183 : BitVec 32 := Scalar.addi c0_i32_1218 v1182
  v1183.toNat
def k0_dev32 (v1 : BitVec 32) : Nat :=
  let c0_i32_1228 : BitVec 32 := 0#32
  let c1_i32_1227 : BitVec 32 := 1#32
  let v1192 : BitVec 32 := Scalar.muli v1 c1_i32_1227
  let v1193 : BitVec 32 := Scalar.addi c0_i32_1228 v1192
  v1193.toNat
def k0_dev33 (v2 : BitVec 32) : Nat :=
  let c0_i32_1303 : BitVec 32 := 0#32
  let c1_i32_1302 : BitVec 32 := 1#32
  let v1264 : BitVec 32 := Scalar.muli v2 c1_i32_1302
  let v1265 : BitVec 32 := Scalar.addi c0_i32_1303 v1264
  v1265.toNat
def k0_dev34 (v1 : BitVec 32) : Nat :=
  let c0_i32_1313 : BitVec 32 := 0#32
  let c1_i32_1312 : BitVec 32 := 1#32
  let v1274 : BitVec 32 := Scalar.muli v1 c1_i32_1312
  let v1275 : BitVec 32 := Scalar.addi c0_i32_1313 v1274
  v1275.toNat
def k0_dev35 (v2 : BitVec 32) : Nat :=
  let c0_i32_1388 : BitVec 32 := 0#32
  let c1_i32_1387 : BitVec 32 := 1#32
  let v1346 : BitVec 32 := Scalar.muli v2 c1_i32_1387
  let v1347 : BitVec 32 := Scalar.addi c0_i32_1388 v1346
  v1347.toNat
def k0_dev36 (v1 : BitVec 32) : Nat :=
  let c0_i32_1398 : BitVec 32 := 0#32
  let c1_i32_1397 : BitVec 32 := 1#32
  let v1356 : BitVec 32 := Scalar.muli v1 c1_i32_1397
  let v1357 : BitVec 32 := Scalar.addi c0_i32_1398 v1356
  v1357.toNat
def k0_dev37 (v2 : BitVec 32) : Nat :=
  let c0_i32_1473 : BitVec 32 := 0#32
  let c1_i32_1472 : BitVec 32 := 1#32
  let v1428 : BitVec 32 := Scalar.muli v2 c1_i32_1472
  let v1429 : BitVec 32 := Scalar.addi c0_i32_1473 v1428
  v1429.toNat
def k0_dev38 (v1 : BitVec 32) : Nat :=
  let c0_i32_1483 : BitVec 32 := 0#32
  let c1_i32_1482 : BitVec 32 := 1#32
  let v1438 : BitVec 32 := Scalar.muli v1 c1_i32_1482
  let v1439 : BitVec 32 := Scalar.addi c0_i32_1483 v1438
  v1439.toNat
def k0_dev39 (v2 : BitVec 32) : Nat :=
  let c0_i32_1558 : BitVec 32 := 0#32
  let c1_i32_1557 : BitVec 32 := 1#32
  let v1510 : BitVec 32 := Scalar.muli v2 c1_i32_1557
  let v1511 : BitVec 32 := Scalar.addi c0_i32_1558 v1510
  v1511.toNat
def k0_dev40 (v1 : BitVec 32) : Nat :=
  let c0_i32_1568 : BitVec 32 := 0#32
  let c1_i32_1567 : BitVec 32 := 1#32
  let v1520 : BitVec 32 := Scalar.muli v1 c1_i32_1567
  let v1521 : BitVec 32 := Scalar.addi c0_i32_1568 v1520
  v1521.toNat
def k0_dev41 (v2 : BitVec 32) : Nat :=
  let c0_i32_1643 : BitVec 32 := 0#32
  let c1_i32_1642 : BitVec 32 := 1#32
  let v1592 : BitVec 32 := Scalar.muli v2 c1_i32_1642
  let v1593 : BitVec 32 := Scalar.addi c0_i32_1643 v1592
  v1593.toNat
def k0_dev42 (v1 : BitVec 32) : Nat :=
  let c0_i32_1653 : BitVec 32 := 0#32
  let c1_i32_1652 : BitVec 32 := 1#32
  let v1602 : BitVec 32 := Scalar.muli v1 c1_i32_1652
  let v1603 : BitVec 32 := Scalar.addi c0_i32_1653 v1602
  v1603.toNat
def k0_dev43 (v2 : BitVec 32) : Nat :=
  let c0_i32_1728 : BitVec 32 := 0#32
  let c1_i32_1727 : BitVec 32 := 1#32
  let v1674 : BitVec 32 := Scalar.muli v2 c1_i32_1727
  let v1675 : BitVec 32 := Scalar.addi c0_i32_1728 v1674
  v1675.toNat
def k0_dev44 (v1 : BitVec 32) : Nat :=
  let c0_i32_1738 : BitVec 32 := 0#32
  let c1_i32_1737 : BitVec 32 := 1#32
  let v1684 : BitVec 32 := Scalar.muli v1 c1_i32_1737
  let v1685 : BitVec 32 := Scalar.addi c0_i32_1738 v1684
  v1685.toNat
def k0_dev45 (v2 : BitVec 32) : Nat :=
  let c0_i32_1813 : BitVec 32 := 0#32
  let c1_i32_1812 : BitVec 32 := 1#32
  let v1756 : BitVec 32 := Scalar.muli v2 c1_i32_1812
  let v1757 : BitVec 32 := Scalar.addi c0_i32_1813 v1756
  v1757.toNat
def k0_dev46 (v1 : BitVec 32) : Nat :=
  let c0_i32_1823 : BitVec 32 := 0#32
  let c1_i32_1822 : BitVec 32 := 1#32
  let v1766 : BitVec 32 := Scalar.muli v1 c1_i32_1822
  let v1767 : BitVec 32 := Scalar.addi c0_i32_1823 v1766
  v1767.toNat
def k0_dev47 (v2 : BitVec 32) : Nat :=
  let c0_i32_1898 : BitVec 32 := 0#32
  let c1_i32_1897 : BitVec 32 := 1#32
  let v1838 : BitVec 32 := Scalar.muli v2 c1_i32_1897
  let v1839 : BitVec 32 := Scalar.addi c0_i32_1898 v1838
  v1839.toNat
def k0_dev48 (v1 : BitVec 32) : Nat :=
  let c0_i32_1908 : BitVec 32 := 0#32
  let c1_i32_1907 : BitVec 32 := 1#32
  let v1848 : BitVec 32 := Scalar.muli v1 c1_i32_1907
  let v1849 : BitVec 32 := Scalar.addi c0_i32_1908 v1848
  v1849.toNat
def k0_dev49 (v2 : BitVec 32) : Nat :=
  let c0_i32_1983 : BitVec 32 := 0#32
  let c1_i32_1982 : BitVec 32 := 1#32
  let v1920 : BitVec 32 := Scalar.muli v2 c1_i32_1982
  let v1921 : BitVec 32 := Scalar.addi c0_i32_1983 v1920
  v1921.toNat
def k0_dev50 (v1 : BitVec 32) : Nat :=
  let c0_i32_1993 : BitVec 32 := 0#32
  let c1_i32_1992 : BitVec 32 := 1#32
  let v1930 : BitVec 32 := Scalar.muli v1 c1_i32_1992
  let v1931 : BitVec 32 := Scalar.addi c0_i32_1993 v1930
  v1931.toNat
def k0_dev51 (v2 : BitVec 32) : Nat :=
  let c0_i32_2068 : BitVec 32 := 0#32
  let c1_i32_2067 : BitVec 32 := 1#32
  let v2002 : BitVec 32 := Scalar.muli v2 c1_i32_2067
  let v2003 : BitVec 32 := Scalar.addi c0_i32_2068 v2002
  v2003.toNat
def k0_dev52 (v1 : BitVec 32) : Nat :=
  let c0_i32_2078 : BitVec 32 := 0#32
  let c1_i32_2077 : BitVec 32 := 1#32
  let v2012 : BitVec 32 := Scalar.muli v1 c1_i32_2077
  let v2013 : BitVec 32 := Scalar.addi c0_i32_2078 v2012
  v2013.toNat
def k0_dev53 (v2 : BitVec 32) : Nat :=
  let c0_i32_2153 : BitVec 32 := 0#32
  let c1_i32_2152 : BitVec 32 := 1#32
  let v2084 : BitVec 32 := Scalar.muli v2 c1_i32_2152
  let v2085 : BitVec 32 := Scalar.addi c0_i32_2153 v2084
  v2085.toNat
def k0_dev54 (v1 : BitVec 32) : Nat :=
  let c0_i32_2163 : BitVec 32 := 0#32
  let c1_i32_2162 : BitVec 32 := 1#32
  let v2094 : BitVec 32 := Scalar.muli v1 c1_i32_2162
  let v2095 : BitVec 32 := Scalar.addi c0_i32_2163 v2094
  v2095.toNat
def k0_dev55 (v2 : BitVec 32) : Nat :=
  let c0_i32_2238 : BitVec 32 := 0#32
  let c1_i32_2237 : BitVec 32 := 1#32
  let v2166 : BitVec 32 := Scalar.muli v2 c1_i32_2237
  let v2167 : BitVec 32 := Scalar.addi c0_i32_2238 v2166
  v2167.toNat
def k0_dev56 (v1 : BitVec 32) : Nat :=
  let c0_i32_2248 : BitVec 32 := 0#32
  let c1_i32_2247 : BitVec 32 := 1#32
  let v2176 : BitVec 32 := Scalar.muli v1 c1_i32_2247
  let v2177 : BitVec 32 := Scalar.addi c0_i32_2248 v2176
  v2177.toNat
def k0_dev57 (v2 : BitVec 32) : Nat :=
  let c0_i32_2323 : BitVec 32 := 0#32
  let c1_i32_2322 : BitVec 32 := 1#32
  let v2248 : BitVec 32 := Scalar.muli v2 c1_i32_2322
  let v2249 : BitVec 32 := Scalar.addi c0_i32_2323 v2248
  v2249.toNat
def k0_dev58 (v1 : BitVec 32) : Nat :=
  let c0_i32_2333 : BitVec 32 := 0#32
  let c1_i32_2332 : BitVec 32 := 1#32
  let v2258 : BitVec 32 := Scalar.muli v1 c1_i32_2332
  let v2259 : BitVec 32 := Scalar.addi c0_i32_2333 v2258
  v2259.toNat
def k0_dev59 (v2 : BitVec 32) : Nat :=
  let c0_i32_2408 : BitVec 32 := 0#32
  let c1_i32_2407 : BitVec 32 := 1#32
  let v2330 : BitVec 32 := Scalar.muli v2 c1_i32_2407
  let v2331 : BitVec 32 := Scalar.addi c0_i32_2408 v2330
  v2331.toNat
def k0_dev60 (v1 : BitVec 32) : Nat :=
  let c0_i32_2418 : BitVec 32 := 0#32
  let c1_i32_2417 : BitVec 32 := 1#32
  let v2340 : BitVec 32 := Scalar.muli v1 c1_i32_2417
  let v2341 : BitVec 32 := Scalar.addi c0_i32_2418 v2340
  v2341.toNat
def k0_dev61 (v2 : BitVec 32) : Nat :=
  let c0_i32_2493 : BitVec 32 := 0#32
  let c1_i32_2492 : BitVec 32 := 1#32
  let v2412 : BitVec 32 := Scalar.muli v2 c1_i32_2492
  let v2413 : BitVec 32 := Scalar.addi c0_i32_2493 v2412
  v2413.toNat
def k0_dev62 (v1 : BitVec 32) : Nat :=
  let c0_i32_2503 : BitVec 32 := 0#32
  let c1_i32_2502 : BitVec 32 := 1#32
  let v2422 : BitVec 32 := Scalar.muli v1 c1_i32_2502
  let v2423 : BitVec 32 := Scalar.addi c0_i32_2503 v2422
  v2423.toNat
def k0_dev63 (v2 : BitVec 32) : Nat :=
  let c0_i32_2578 : BitVec 32 := 0#32
  let c1_i32_2577 : BitVec 32 := 1#32
  let v2494 : BitVec 32 := Scalar.muli v2 c1_i32_2577
  let v2495 : BitVec 32 := Scalar.addi c0_i32_2578 v2494
  v2495.toNat
def k0_dev64 (v1 : BitVec 32) : Nat :=
  let c0_i32_2588 : BitVec 32 := 0#32
  let c1_i32_2587 : BitVec 32 := 1#32
  let v2504 : BitVec 32 := Scalar.muli v1 c1_i32_2587
  let v2505 : BitVec 32 := Scalar.addi c0_i32_2588 v2504
  v2505.toNat
def k0_dev65 (v2586 : BitVec 32) : Nat :=
  let c0_i32_2669 : BitVec 32 := 0#32
  let c1_i32_2668 : BitVec 32 := 1#32
  let v2593 : BitVec 32 := Scalar.muli v2586 c1_i32_2668
  let v2594 : BitVec 32 := Scalar.addi c0_i32_2669 v2593
  v2594.toNat

def k0_chk4 (v2586 : BitVec 32) : Prop :=
  ((k0_dev65 v2586) < nD)
theorem k0_dev65_lt : ∀ (v2586 : BitVec 32) (k0_hw4 : k0_chk4 v2586), (k0_dev65 v2586) < nD := fun v2586 k0_hw4 => k0_hw4

def k0_dev66 (v2614 : BitVec 32) : Nat :=
  let c0_i32_2693 : BitVec 32 := 0#32
  let c1_i32_2692 : BitVec 32 := 1#32
  let v2621 : BitVec 32 := Scalar.muli v2614 c1_i32_2692
  let v2622 : BitVec 32 := Scalar.addi c0_i32_2693 v2621
  v2622.toNat

def k0_chk5 (v2614 : BitVec 32) : Prop :=
  ((k0_dev66 v2614) < nD)
theorem k0_dev66_lt : ∀ (v2614 : BitVec 32) (k0_hw5 : k0_chk5 v2614), (k0_dev66 v2614) < nD := fun v2614 k0_hw5 => k0_hw5

def k0_dev67 (v2642 : BitVec 32) : Nat :=
  let c0_i32_2717 : BitVec 32 := 0#32
  let c1_i32_2716 : BitVec 32 := 1#32
  let v2649 : BitVec 32 := Scalar.muli v2642 c1_i32_2716
  let v2650 : BitVec 32 := Scalar.addi c0_i32_2717 v2649
  v2650.toNat

def k0_chk6 (v2642 : BitVec 32) : Prop :=
  ((k0_dev67 v2642) < nD)
theorem k0_dev67_lt : ∀ (v2642 : BitVec 32) (k0_hw6 : k0_chk6 v2642), (k0_dev67 v2642) < nD := fun v2642 k0_hw6 => k0_hw6

def k0_dev68 (v2670 : BitVec 32) : Nat :=
  let c0_i32_2741 : BitVec 32 := 0#32
  let c1_i32_2740 : BitVec 32 := 1#32
  let v2677 : BitVec 32 := Scalar.muli v2670 c1_i32_2740
  let v2678 : BitVec 32 := Scalar.addi c0_i32_2741 v2677
  v2678.toNat

def k0_chk7 (v2670 : BitVec 32) : Prop :=
  ((k0_dev68 v2670) < nD)
theorem k0_dev68_lt : ∀ (v2670 : BitVec 32) (k0_hw7 : k0_chk7 v2670), (k0_dev68 v2670) < nD := fun v2670 k0_hw7 => k0_hw7

def k0_dev69 (v2698 : BitVec 32) : Nat :=
  let c0_i32_2765 : BitVec 32 := 0#32
  let c1_i32_2764 : BitVec 32 := 1#32
  let v2705 : BitVec 32 := Scalar.muli v2698 c1_i32_2764
  let v2706 : BitVec 32 := Scalar.addi c0_i32_2765 v2705
  v2706.toNat

def k0_chk8 (v2698 : BitVec 32) : Prop :=
  ((k0_dev69 v2698) < nD)
theorem k0_dev69_lt : ∀ (v2698 : BitVec 32) (k0_hw8 : k0_chk8 v2698), (k0_dev69 v2698) < nD := fun v2698 k0_hw8 => k0_hw8

def k0_off5 (v0 : BitVec 32) : Fin 2 → Nat :=
  let c1_i32_2785 : BitVec 32 := 1#32
  let v2728 : BitVec 32 := Scalar.addi v0 c1_i32_2785
  let c32_i32_2786 : BitVec 32 := 32#32
  let v2729 : BitVec 32 := Scalar.remsi v2728 c32_i32_2786
  let c128_i32_2806 : BitVec 32 := 128#32
  let v2767 : BitVec 32 := Scalar.muli v2729 c128_i32_2806
  let c0_i32_2811 : BitVec 32 := 0#32
  ![v2767.toNat, 0]
def k0_off6 (v0 : BitVec 32) : Fin 2 → Nat :=
  let c1_i32_2787 : BitVec 32 := 1#32
  let v2730 : BitVec 32 := Scalar.subi v0 c1_i32_2787
  let c32_i32_2788 : BitVec 32 := 32#32
  let v2731 : BitVec 32 := Scalar.addi v2730 c32_i32_2788
  let c32_i32_2789 : BitVec 32 := 32#32
  let v2732 : BitVec 32 := Scalar.remsi v2731 c32_i32_2789
  let c128_i32_2807 : BitVec 32 := 128#32
  let v2768 : BitVec 32 := Scalar.muli v2732 c128_i32_2807
  let c64_i32_2808 : BitVec 32 := 64#32
  let v2769 : BitVec 32 := Scalar.addi v2768 c64_i32_2808
  let c0_i32_2816 : BitVec 32 := 0#32
  ![v2769.toNat, 0]
def k0_dev70 (v2 : BitVec 32) : Nat :=
  let c0_i32_2830 : BitVec 32 := 0#32
  let c1_i32_2829 : BitVec 32 := 1#32
  let v2786 : BitVec 32 := Scalar.muli v2 c1_i32_2829
  let v2787 : BitVec 32 := Scalar.addi c0_i32_2830 v2786
  v2787.toNat
def k0_dev71 (v1 : BitVec 32) : Nat :=
  let c0_i32_2840 : BitVec 32 := 0#32
  let c1_i32_2839 : BitVec 32 := 1#32
  let v2796 : BitVec 32 := Scalar.muli v1 c1_i32_2839
  let v2797 : BitVec 32 := Scalar.addi c0_i32_2840 v2796
  v2797.toNat
def k0_off7 (v0 : BitVec 32) (c0_i32_2895 : BitVec 32) : Fin 2 → Nat :=
  let v2844 : BitVec 32 := Scalar.subi v0 c0_i32_2895
  let c32_i32_2896 : BitVec 32 := 32#32
  let v2845 : BitVec 32 := Scalar.addi v2844 c32_i32_2896
  let c32_i32_2897 : BitVec 32 := 32#32
  let v2846 : BitVec 32 := Scalar.remsi v2845 c32_i32_2897
  let c128_i32_2906 : BitVec 32 := 128#32
  let v2861 : BitVec 32 := Scalar.muli v2846 c128_i32_2906
  let c0_i32_2911 : BitVec 32 := 0#32
  ![v2861.toNat, 0]
def k0_off8 (v0 : BitVec 32) (c0_i32_2898 : BitVec 32) : Fin 2 → Nat :=
  let v2847 : BitVec 32 := Scalar.addi v0 c0_i32_2898
  let c32_i32_2899 : BitVec 32 := 32#32
  let v2848 : BitVec 32 := Scalar.remsi v2847 c32_i32_2899
  let c128_i32_2907 : BitVec 32 := 128#32
  let v2862 : BitVec 32 := Scalar.muli v2848 c128_i32_2907
  let c64_i32_2908 : BitVec 32 := 64#32
  let v2863 : BitVec 32 := Scalar.addi v2862 c64_i32_2908
  let c0_i32_2916 : BitVec 32 := 0#32
  ![v2863.toNat, 0]

def k0_chk3 (v0 : BitVec 32) : Prop :=
  (∀ a, (k0_off1 v0) a + S64x128.size a ≤ S4096x128.size a) ∧
  (∀ a, (k0_off2 v0) a + S64x128.size a ≤ S4096x128.size a) ∧
  (∀ (r : Fin 31), ∀ a, (k0_off3 v0 (BitVec.ofNat 32 (1 + r.val))) a + S64x128.size a ≤ S4096x128.size a) ∧
  (∀ (r : Fin 31), ∀ a, (k0_off4 v0 (BitVec.ofNat 32 (1 + r.val))) a + S64x128.size a ≤ S4096x128.size a) ∧
  (∀ a, (k0_off5 v0) a + S64x8192.size a ≤ S4096x8192.size a) ∧
  (∀ a, (k0_off6 v0) a + S64x8192.size a ≤ S4096x8192.size a) ∧
  (∀ (r : Fin 31), ∀ a, (k0_off7 v0 (BitVec.ofNat 32 r.val)) a + S64x8192.size a ≤ S4096x8192.size a) ∧
  (∀ (r : Fin 31), ∀ a, (k0_off8 v0 (BitVec.ofNat 32 r.val)) a + S64x8192.size a ≤ S4096x8192.size a)
theorem k0_off1_inb : ∀ (v0 : BitVec 32) (k0_hw3 : k0_chk3 v0), ∀ a, (k0_off1 v0) a + S64x128.size a ≤ S4096x128.size a := fun v0 k0_hw3 => k0_hw3.1
theorem k0_off2_inb : ∀ (v0 : BitVec 32) (k0_hw3 : k0_chk3 v0), ∀ a, (k0_off2 v0) a + S64x128.size a ≤ S4096x128.size a := fun v0 k0_hw3 => k0_hw3.2.1
theorem k0_off3_inb : ∀ (v0 : BitVec 32) (k0_hw3 : k0_chk3 v0), ∀ (r : Fin 31), ∀ a, (k0_off3 v0 (BitVec.ofNat 32 (1 + r.val))) a + S64x128.size a ≤ S4096x128.size a := fun v0 k0_hw3 r => k0_hw3.2.2.1 r
theorem k0_off4_inb : ∀ (v0 : BitVec 32) (k0_hw3 : k0_chk3 v0), ∀ (r : Fin 31), ∀ a, (k0_off4 v0 (BitVec.ofNat 32 (1 + r.val))) a + S64x128.size a ≤ S4096x128.size a := fun v0 k0_hw3 r => k0_hw3.2.2.2.1 r
theorem k0_off5_inb : ∀ (v0 : BitVec 32) (k0_hw3 : k0_chk3 v0), ∀ a, (k0_off5 v0) a + S64x8192.size a ≤ S4096x8192.size a := fun v0 k0_hw3 => k0_hw3.2.2.2.2.1
theorem k0_off6_inb : ∀ (v0 : BitVec 32) (k0_hw3 : k0_chk3 v0), ∀ a, (k0_off6 v0) a + S64x8192.size a ≤ S4096x8192.size a := fun v0 k0_hw3 => k0_hw3.2.2.2.2.2.1
theorem k0_off7_inb : ∀ (v0 : BitVec 32) (k0_hw3 : k0_chk3 v0), ∀ (r : Fin 31), ∀ a, (k0_off7 v0 (BitVec.ofNat 32 r.val)) a + S64x8192.size a ≤ S4096x8192.size a := fun v0 k0_hw3 r => k0_hw3.2.2.2.2.2.2.1 r
theorem k0_off8_inb : ∀ (v0 : BitVec 32) (k0_hw3 : k0_chk3 v0), ∀ (r : Fin 31), ∀ a, (k0_off8 v0 (BitVec.ofNat 32 r.val)) a + S64x8192.size a ≤ S4096x8192.size a := fun v0 k0_hw3 r => k0_hw3.2.2.2.2.2.2.2 r

def k0_dev72 (v2 : BitVec 32) : Nat :=
  let c0_i32_2924 : BitVec 32 := 0#32
  let c1_i32_2923 : BitVec 32 := 1#32
  let v2874 : BitVec 32 := Scalar.muli v2 c1_i32_2923
  let v2875 : BitVec 32 := Scalar.addi c0_i32_2924 v2874
  v2875.toNat
def k0_dev73 (v1 : BitVec 32) : Nat :=
  let c0_i32_2934 : BitVec 32 := 0#32
  let c1_i32_2933 : BitVec 32 := 1#32
  let v2884 : BitVec 32 := Scalar.muli v1 c1_i32_2933
  let v2885 : BitVec 32 := Scalar.addi c0_i32_2934 v2884
  v2885.toNat
def k0_dev74 (v2 : BitVec 32) : Nat :=
  let c0_i32_3028 : BitVec 32 := 0#32
  let c1_i32_3027 : BitVec 32 := 1#32
  let v2972 : BitVec 32 := Scalar.muli v2 c1_i32_3027
  let v2973 : BitVec 32 := Scalar.addi c0_i32_3028 v2972
  v2973.toNat
def k0_dev75 (v1 : BitVec 32) : Nat :=
  let c0_i32_3038 : BitVec 32 := 0#32
  let c1_i32_3037 : BitVec 32 := 1#32
  let v2982 : BitVec 32 := Scalar.muli v1 c1_i32_3037
  let v2983 : BitVec 32 := Scalar.addi c0_i32_3038 v2982
  v2983.toNat
def k0_dev76 (v2 : BitVec 32) : Nat :=
  let c0_i32_3132 : BitVec 32 := 0#32
  let c1_i32_3131 : BitVec 32 := 1#32
  let v3070 : BitVec 32 := Scalar.muli v2 c1_i32_3131
  let v3071 : BitVec 32 := Scalar.addi c0_i32_3132 v3070
  v3071.toNat
def k0_dev77 (v1 : BitVec 32) : Nat :=
  let c0_i32_3142 : BitVec 32 := 0#32
  let c1_i32_3141 : BitVec 32 := 1#32
  let v3080 : BitVec 32 := Scalar.muli v1 c1_i32_3141
  let v3081 : BitVec 32 := Scalar.addi c0_i32_3142 v3080
  v3081.toNat
def k0_dev78 (v2 : BitVec 32) : Nat :=
  let c0_i32_3236 : BitVec 32 := 0#32
  let c1_i32_3235 : BitVec 32 := 1#32
  let v3168 : BitVec 32 := Scalar.muli v2 c1_i32_3235
  let v3169 : BitVec 32 := Scalar.addi c0_i32_3236 v3168
  v3169.toNat
def k0_dev79 (v1 : BitVec 32) : Nat :=
  let c0_i32_3246 : BitVec 32 := 0#32
  let c1_i32_3245 : BitVec 32 := 1#32
  let v3178 : BitVec 32 := Scalar.muli v1 c1_i32_3245
  let v3179 : BitVec 32 := Scalar.addi c0_i32_3246 v3178
  v3179.toNat
def k0_dev80 (v2 : BitVec 32) : Nat :=
  let c0_i32_3340 : BitVec 32 := 0#32
  let c1_i32_3339 : BitVec 32 := 1#32
  let v3266 : BitVec 32 := Scalar.muli v2 c1_i32_3339
  let v3267 : BitVec 32 := Scalar.addi c0_i32_3340 v3266
  v3267.toNat
def k0_dev81 (v1 : BitVec 32) : Nat :=
  let c0_i32_3350 : BitVec 32 := 0#32
  let c1_i32_3349 : BitVec 32 := 1#32
  let v3276 : BitVec 32 := Scalar.muli v1 c1_i32_3349
  let v3277 : BitVec 32 := Scalar.addi c0_i32_3350 v3276
  v3277.toNat
def k0_dev82 (v2 : BitVec 32) : Nat :=
  let c0_i32_3444 : BitVec 32 := 0#32
  let c1_i32_3443 : BitVec 32 := 1#32
  let v3364 : BitVec 32 := Scalar.muli v2 c1_i32_3443
  let v3365 : BitVec 32 := Scalar.addi c0_i32_3444 v3364
  v3365.toNat
def k0_dev83 (v1 : BitVec 32) : Nat :=
  let c0_i32_3454 : BitVec 32 := 0#32
  let c1_i32_3453 : BitVec 32 := 1#32
  let v3374 : BitVec 32 := Scalar.muli v1 c1_i32_3453
  let v3375 : BitVec 32 := Scalar.addi c0_i32_3454 v3374
  v3375.toNat
def k0_dev84 (v2 : BitVec 32) : Nat :=
  let c0_i32_3548 : BitVec 32 := 0#32
  let c1_i32_3547 : BitVec 32 := 1#32
  let v3462 : BitVec 32 := Scalar.muli v2 c1_i32_3547
  let v3463 : BitVec 32 := Scalar.addi c0_i32_3548 v3462
  v3463.toNat
def k0_dev85 (v1 : BitVec 32) : Nat :=
  let c0_i32_3558 : BitVec 32 := 0#32
  let c1_i32_3557 : BitVec 32 := 1#32
  let v3472 : BitVec 32 := Scalar.muli v1 c1_i32_3557
  let v3473 : BitVec 32 := Scalar.addi c0_i32_3558 v3472
  v3473.toNat
def k0_dev86 (v2 : BitVec 32) : Nat :=
  let c0_i32_3652 : BitVec 32 := 0#32
  let c1_i32_3651 : BitVec 32 := 1#32
  let v3560 : BitVec 32 := Scalar.muli v2 c1_i32_3651
  let v3561 : BitVec 32 := Scalar.addi c0_i32_3652 v3560
  v3561.toNat
def k0_dev87 (v1 : BitVec 32) : Nat :=
  let c0_i32_3662 : BitVec 32 := 0#32
  let c1_i32_3661 : BitVec 32 := 1#32
  let v3570 : BitVec 32 := Scalar.muli v1 c1_i32_3661
  let v3571 : BitVec 32 := Scalar.addi c0_i32_3662 v3570
  v3571.toNat
def k0_dev88 (v2 : BitVec 32) : Nat :=
  let c0_i32_3756 : BitVec 32 := 0#32
  let c1_i32_3755 : BitVec 32 := 1#32
  let v3658 : BitVec 32 := Scalar.muli v2 c1_i32_3755
  let v3659 : BitVec 32 := Scalar.addi c0_i32_3756 v3658
  v3659.toNat
def k0_dev89 (v1 : BitVec 32) : Nat :=
  let c0_i32_3766 : BitVec 32 := 0#32
  let c1_i32_3765 : BitVec 32 := 1#32
  let v3668 : BitVec 32 := Scalar.muli v1 c1_i32_3765
  let v3669 : BitVec 32 := Scalar.addi c0_i32_3766 v3668
  v3669.toNat
def k0_dev90 (v2 : BitVec 32) : Nat :=
  let c0_i32_3860 : BitVec 32 := 0#32
  let c1_i32_3859 : BitVec 32 := 1#32
  let v3756 : BitVec 32 := Scalar.muli v2 c1_i32_3859
  let v3757 : BitVec 32 := Scalar.addi c0_i32_3860 v3756
  v3757.toNat
def k0_dev91 (v1 : BitVec 32) : Nat :=
  let c0_i32_3870 : BitVec 32 := 0#32
  let c1_i32_3869 : BitVec 32 := 1#32
  let v3766 : BitVec 32 := Scalar.muli v1 c1_i32_3869
  let v3767 : BitVec 32 := Scalar.addi c0_i32_3870 v3766
  v3767.toNat
def k0_dev92 (v2 : BitVec 32) : Nat :=
  let c0_i32_3964 : BitVec 32 := 0#32
  let c1_i32_3963 : BitVec 32 := 1#32
  let v3854 : BitVec 32 := Scalar.muli v2 c1_i32_3963
  let v3855 : BitVec 32 := Scalar.addi c0_i32_3964 v3854
  v3855.toNat
def k0_dev93 (v1 : BitVec 32) : Nat :=
  let c0_i32_3974 : BitVec 32 := 0#32
  let c1_i32_3973 : BitVec 32 := 1#32
  let v3864 : BitVec 32 := Scalar.muli v1 c1_i32_3973
  let v3865 : BitVec 32 := Scalar.addi c0_i32_3974 v3864
  v3865.toNat
def k0_dev94 (v2 : BitVec 32) : Nat :=
  let c0_i32_4068 : BitVec 32 := 0#32
  let c1_i32_4067 : BitVec 32 := 1#32
  let v3952 : BitVec 32 := Scalar.muli v2 c1_i32_4067
  let v3953 : BitVec 32 := Scalar.addi c0_i32_4068 v3952
  v3953.toNat
def k0_dev95 (v1 : BitVec 32) : Nat :=
  let c0_i32_4078 : BitVec 32 := 0#32
  let c1_i32_4077 : BitVec 32 := 1#32
  let v3962 : BitVec 32 := Scalar.muli v1 c1_i32_4077
  let v3963 : BitVec 32 := Scalar.addi c0_i32_4078 v3962
  v3963.toNat
def k0_dev96 (v2 : BitVec 32) : Nat :=
  let c0_i32_4172 : BitVec 32 := 0#32
  let c1_i32_4171 : BitVec 32 := 1#32
  let v4050 : BitVec 32 := Scalar.muli v2 c1_i32_4171
  let v4051 : BitVec 32 := Scalar.addi c0_i32_4172 v4050
  v4051.toNat
def k0_dev97 (v1 : BitVec 32) : Nat :=
  let c0_i32_4182 : BitVec 32 := 0#32
  let c1_i32_4181 : BitVec 32 := 1#32
  let v4060 : BitVec 32 := Scalar.muli v1 c1_i32_4181
  let v4061 : BitVec 32 := Scalar.addi c0_i32_4182 v4060
  v4061.toNat
def k0_dev98 (v2 : BitVec 32) : Nat :=
  let c0_i32_4276 : BitVec 32 := 0#32
  let c1_i32_4275 : BitVec 32 := 1#32
  let v4148 : BitVec 32 := Scalar.muli v2 c1_i32_4275
  let v4149 : BitVec 32 := Scalar.addi c0_i32_4276 v4148
  v4149.toNat
def k0_dev99 (v1 : BitVec 32) : Nat :=
  let c0_i32_4286 : BitVec 32 := 0#32
  let c1_i32_4285 : BitVec 32 := 1#32
  let v4158 : BitVec 32 := Scalar.muli v1 c1_i32_4285
  let v4159 : BitVec 32 := Scalar.addi c0_i32_4286 v4158
  v4159.toNat
def k0_dev100 (v2 : BitVec 32) : Nat :=
  let c0_i32_4380 : BitVec 32 := 0#32
  let c1_i32_4379 : BitVec 32 := 1#32
  let v4246 : BitVec 32 := Scalar.muli v2 c1_i32_4379
  let v4247 : BitVec 32 := Scalar.addi c0_i32_4380 v4246
  v4247.toNat
def k0_dev101 (v1 : BitVec 32) : Nat :=
  let c0_i32_4390 : BitVec 32 := 0#32
  let c1_i32_4389 : BitVec 32 := 1#32
  let v4256 : BitVec 32 := Scalar.muli v1 c1_i32_4389
  let v4257 : BitVec 32 := Scalar.addi c0_i32_4390 v4256
  v4257.toNat
def k0_dev102 (v2 : BitVec 32) : Nat :=
  let c0_i32_4484 : BitVec 32 := 0#32
  let c1_i32_4483 : BitVec 32 := 1#32
  let v4344 : BitVec 32 := Scalar.muli v2 c1_i32_4483
  let v4345 : BitVec 32 := Scalar.addi c0_i32_4484 v4344
  v4345.toNat
def k0_dev103 (v1 : BitVec 32) : Nat :=
  let c0_i32_4494 : BitVec 32 := 0#32
  let c1_i32_4493 : BitVec 32 := 1#32
  let v4354 : BitVec 32 := Scalar.muli v1 c1_i32_4493
  let v4355 : BitVec 32 := Scalar.addi c0_i32_4494 v4354
  v4355.toNat
def k0_dev104 (v2 : BitVec 32) : Nat :=
  let c0_i32_4588 : BitVec 32 := 0#32
  let c1_i32_4587 : BitVec 32 := 1#32
  let v4442 : BitVec 32 := Scalar.muli v2 c1_i32_4587
  let v4443 : BitVec 32 := Scalar.addi c0_i32_4588 v4442
  v4443.toNat
def k0_dev105 (v1 : BitVec 32) : Nat :=
  let c0_i32_4598 : BitVec 32 := 0#32
  let c1_i32_4597 : BitVec 32 := 1#32
  let v4452 : BitVec 32 := Scalar.muli v1 c1_i32_4597
  let v4453 : BitVec 32 := Scalar.addi c0_i32_4598 v4452
  v4453.toNat
def k0_dev106 (v2 : BitVec 32) : Nat :=
  let c0_i32_4692 : BitVec 32 := 0#32
  let c1_i32_4691 : BitVec 32 := 1#32
  let v4540 : BitVec 32 := Scalar.muli v2 c1_i32_4691
  let v4541 : BitVec 32 := Scalar.addi c0_i32_4692 v4540
  v4541.toNat
def k0_dev107 (v1 : BitVec 32) : Nat :=
  let c0_i32_4702 : BitVec 32 := 0#32
  let c1_i32_4701 : BitVec 32 := 1#32
  let v4550 : BitVec 32 := Scalar.muli v1 c1_i32_4701
  let v4551 : BitVec 32 := Scalar.addi c0_i32_4702 v4550
  v4551.toNat
def k0_dev108 (v2 : BitVec 32) : Nat :=
  let c0_i32_4796 : BitVec 32 := 0#32
  let c1_i32_4795 : BitVec 32 := 1#32
  let v4638 : BitVec 32 := Scalar.muli v2 c1_i32_4795
  let v4639 : BitVec 32 := Scalar.addi c0_i32_4796 v4638
  v4639.toNat
def k0_dev109 (v1 : BitVec 32) : Nat :=
  let c0_i32_4806 : BitVec 32 := 0#32
  let c1_i32_4805 : BitVec 32 := 1#32
  let v4648 : BitVec 32 := Scalar.muli v1 c1_i32_4805
  let v4649 : BitVec 32 := Scalar.addi c0_i32_4806 v4648
  v4649.toNat
def k0_dev110 (v2 : BitVec 32) : Nat :=
  let c0_i32_4900 : BitVec 32 := 0#32
  let c1_i32_4899 : BitVec 32 := 1#32
  let v4736 : BitVec 32 := Scalar.muli v2 c1_i32_4899
  let v4737 : BitVec 32 := Scalar.addi c0_i32_4900 v4736
  v4737.toNat
def k0_dev111 (v1 : BitVec 32) : Nat :=
  let c0_i32_4910 : BitVec 32 := 0#32
  let c1_i32_4909 : BitVec 32 := 1#32
  let v4746 : BitVec 32 := Scalar.muli v1 c1_i32_4909
  let v4747 : BitVec 32 := Scalar.addi c0_i32_4910 v4746
  v4747.toNat
def k0_dev112 (v2 : BitVec 32) : Nat :=
  let c0_i32_5004 : BitVec 32 := 0#32
  let c1_i32_5003 : BitVec 32 := 1#32
  let v4834 : BitVec 32 := Scalar.muli v2 c1_i32_5003
  let v4835 : BitVec 32 := Scalar.addi c0_i32_5004 v4834
  v4835.toNat
def k0_dev113 (v1 : BitVec 32) : Nat :=
  let c0_i32_5014 : BitVec 32 := 0#32
  let c1_i32_5013 : BitVec 32 := 1#32
  let v4844 : BitVec 32 := Scalar.muli v1 c1_i32_5013
  let v4845 : BitVec 32 := Scalar.addi c0_i32_5014 v4844
  v4845.toNat
def k0_dev114 (v2 : BitVec 32) : Nat :=
  let c0_i32_5108 : BitVec 32 := 0#32
  let c1_i32_5107 : BitVec 32 := 1#32
  let v4932 : BitVec 32 := Scalar.muli v2 c1_i32_5107
  let v4933 : BitVec 32 := Scalar.addi c0_i32_5108 v4932
  v4933.toNat
def k0_dev115 (v1 : BitVec 32) : Nat :=
  let c0_i32_5118 : BitVec 32 := 0#32
  let c1_i32_5117 : BitVec 32 := 1#32
  let v4942 : BitVec 32 := Scalar.muli v1 c1_i32_5117
  let v4943 : BitVec 32 := Scalar.addi c0_i32_5118 v4942
  v4943.toNat
def k0_dev116 (v2 : BitVec 32) : Nat :=
  let c0_i32_5212 : BitVec 32 := 0#32
  let c1_i32_5211 : BitVec 32 := 1#32
  let v5030 : BitVec 32 := Scalar.muli v2 c1_i32_5211
  let v5031 : BitVec 32 := Scalar.addi c0_i32_5212 v5030
  v5031.toNat
def k0_dev117 (v1 : BitVec 32) : Nat :=
  let c0_i32_5222 : BitVec 32 := 0#32
  let c1_i32_5221 : BitVec 32 := 1#32
  let v5040 : BitVec 32 := Scalar.muli v1 c1_i32_5221
  let v5041 : BitVec 32 := Scalar.addi c0_i32_5222 v5040
  v5041.toNat
def k0_dev118 (v2 : BitVec 32) : Nat :=
  let c0_i32_5316 : BitVec 32 := 0#32
  let c1_i32_5315 : BitVec 32 := 1#32
  let v5128 : BitVec 32 := Scalar.muli v2 c1_i32_5315
  let v5129 : BitVec 32 := Scalar.addi c0_i32_5316 v5128
  v5129.toNat
def k0_dev119 (v1 : BitVec 32) : Nat :=
  let c0_i32_5326 : BitVec 32 := 0#32
  let c1_i32_5325 : BitVec 32 := 1#32
  let v5138 : BitVec 32 := Scalar.muli v1 c1_i32_5325
  let v5139 : BitVec 32 := Scalar.addi c0_i32_5326 v5138
  v5139.toNat
def k0_dev120 (v2 : BitVec 32) : Nat :=
  let c0_i32_5420 : BitVec 32 := 0#32
  let c1_i32_5419 : BitVec 32 := 1#32
  let v5226 : BitVec 32 := Scalar.muli v2 c1_i32_5419
  let v5227 : BitVec 32 := Scalar.addi c0_i32_5420 v5226
  v5227.toNat
def k0_dev121 (v1 : BitVec 32) : Nat :=
  let c0_i32_5430 : BitVec 32 := 0#32
  let c1_i32_5429 : BitVec 32 := 1#32
  let v5236 : BitVec 32 := Scalar.muli v1 c1_i32_5429
  let v5237 : BitVec 32 := Scalar.addi c0_i32_5430 v5236
  v5237.toNat
def k0_dev122 (v2 : BitVec 32) : Nat :=
  let c0_i32_5524 : BitVec 32 := 0#32
  let c1_i32_5523 : BitVec 32 := 1#32
  let v5324 : BitVec 32 := Scalar.muli v2 c1_i32_5523
  let v5325 : BitVec 32 := Scalar.addi c0_i32_5524 v5324
  v5325.toNat
def k0_dev123 (v1 : BitVec 32) : Nat :=
  let c0_i32_5534 : BitVec 32 := 0#32
  let c1_i32_5533 : BitVec 32 := 1#32
  let v5334 : BitVec 32 := Scalar.muli v1 c1_i32_5533
  let v5335 : BitVec 32 := Scalar.addi c0_i32_5534 v5334
  v5335.toNat
def k0_dev124 (v2 : BitVec 32) : Nat :=
  let c0_i32_5628 : BitVec 32 := 0#32
  let c1_i32_5627 : BitVec 32 := 1#32
  let v5422 : BitVec 32 := Scalar.muli v2 c1_i32_5627
  let v5423 : BitVec 32 := Scalar.addi c0_i32_5628 v5422
  v5423.toNat
def k0_dev125 (v1 : BitVec 32) : Nat :=
  let c0_i32_5638 : BitVec 32 := 0#32
  let c1_i32_5637 : BitVec 32 := 1#32
  let v5432 : BitVec 32 := Scalar.muli v1 c1_i32_5637
  let v5433 : BitVec 32 := Scalar.addi c0_i32_5638 v5432
  v5433.toNat
def k0_dev126 (v2 : BitVec 32) : Nat :=
  let c0_i32_5732 : BitVec 32 := 0#32
  let c1_i32_5731 : BitVec 32 := 1#32
  let v5520 : BitVec 32 := Scalar.muli v2 c1_i32_5731
  let v5521 : BitVec 32 := Scalar.addi c0_i32_5732 v5520
  v5521.toNat
def k0_dev127 (v1 : BitVec 32) : Nat :=
  let c0_i32_5742 : BitVec 32 := 0#32
  let c1_i32_5741 : BitVec 32 := 1#32
  let v5530 : BitVec 32 := Scalar.muli v1 c1_i32_5741
  let v5531 : BitVec 32 := Scalar.addi c0_i32_5742 v5530
  v5531.toNat
def k0_dev128 (v2 : BitVec 32) : Nat :=
  let c0_i32_5836 : BitVec 32 := 0#32
  let c1_i32_5835 : BitVec 32 := 1#32
  let v5618 : BitVec 32 := Scalar.muli v2 c1_i32_5835
  let v5619 : BitVec 32 := Scalar.addi c0_i32_5836 v5618
  v5619.toNat
def k0_dev129 (v1 : BitVec 32) : Nat :=
  let c0_i32_5846 : BitVec 32 := 0#32
  let c1_i32_5845 : BitVec 32 := 1#32
  let v5628 : BitVec 32 := Scalar.muli v1 c1_i32_5845
  let v5629 : BitVec 32 := Scalar.addi c0_i32_5846 v5628
  v5629.toNat
def k0_dev130 (v2 : BitVec 32) : Nat :=
  let c0_i32_5940 : BitVec 32 := 0#32
  let c1_i32_5939 : BitVec 32 := 1#32
  let v5716 : BitVec 32 := Scalar.muli v2 c1_i32_5939
  let v5717 : BitVec 32 := Scalar.addi c0_i32_5940 v5716
  v5717.toNat

def k0_chk2_0 (v2 : BitVec 32) : Prop :=
  ((k0_dev2 v2) < nD) ∧
  ((k0_dev3 v2) < nD) ∧
  ((k0_dev5 v2) < nD) ∧
  ((k0_dev7 v2) < nD) ∧
  ((k0_dev9 v2) < nD) ∧
  ((k0_dev11 v2) < nD) ∧
  ((k0_dev13 v2) < nD) ∧
  ((k0_dev15 v2) < nD) ∧
  ((k0_dev17 v2) < nD) ∧
  ((k0_dev19 v2) < nD) ∧
  ((k0_dev21 v2) < nD) ∧
  ((k0_dev23 v2) < nD) ∧
  ((k0_dev25 v2) < nD) ∧
  ((k0_dev27 v2) < nD) ∧
  ((k0_dev29 v2) < nD) ∧
  ((k0_dev31 v2) < nD) ∧
  ((k0_dev33 v2) < nD) ∧
  ((k0_dev35 v2) < nD) ∧
  ((k0_dev37 v2) < nD) ∧
  ((k0_dev39 v2) < nD) ∧
  ((k0_dev41 v2) < nD) ∧
  ((k0_dev43 v2) < nD) ∧
  ((k0_dev45 v2) < nD) ∧
  ((k0_dev47 v2) < nD) ∧
  ((k0_dev49 v2) < nD) ∧
  ((k0_dev51 v2) < nD) ∧
  ((k0_dev53 v2) < nD) ∧
  ((k0_dev55 v2) < nD) ∧
  ((k0_dev57 v2) < nD) ∧
  ((k0_dev59 v2) < nD) ∧
  ((k0_dev61 v2) < nD) ∧
  ((k0_dev63 v2) < nD)
def k0_chk2_1 (v2 : BitVec 32) : Prop :=
  ((k0_dev70 v2) < nD) ∧
  ((k0_dev72 v2) < nD) ∧
  ((k0_dev74 v2) < nD) ∧
  ((k0_dev76 v2) < nD) ∧
  ((k0_dev78 v2) < nD) ∧
  ((k0_dev80 v2) < nD) ∧
  ((k0_dev82 v2) < nD) ∧
  ((k0_dev84 v2) < nD) ∧
  ((k0_dev86 v2) < nD) ∧
  ((k0_dev88 v2) < nD) ∧
  ((k0_dev90 v2) < nD) ∧
  ((k0_dev92 v2) < nD) ∧
  ((k0_dev94 v2) < nD) ∧
  ((k0_dev96 v2) < nD) ∧
  ((k0_dev98 v2) < nD) ∧
  ((k0_dev100 v2) < nD) ∧
  ((k0_dev102 v2) < nD) ∧
  ((k0_dev104 v2) < nD) ∧
  ((k0_dev106 v2) < nD) ∧
  ((k0_dev108 v2) < nD) ∧
  ((k0_dev110 v2) < nD) ∧
  ((k0_dev112 v2) < nD) ∧
  ((k0_dev114 v2) < nD) ∧
  ((k0_dev116 v2) < nD) ∧
  ((k0_dev118 v2) < nD) ∧
  ((k0_dev120 v2) < nD) ∧
  ((k0_dev122 v2) < nD) ∧
  ((k0_dev124 v2) < nD) ∧
  ((k0_dev126 v2) < nD) ∧
  ((k0_dev128 v2) < nD) ∧
  ((k0_dev130 v2) < nD)
def k0_chk2 (v2 : BitVec 32) : Prop :=
  k0_chk2_0 v2 ∧
  k0_chk2_1 v2
theorem k0_dev2_lt : ∀ (v2 : BitVec 32) (k0_hw2 : k0_chk2 v2), (k0_dev2 v2) < nD := fun v2 k0_hw2 => k0_hw2.1.1
theorem k0_dev3_lt : ∀ (v2 : BitVec 32) (k0_hw2 : k0_chk2 v2), (k0_dev3 v2) < nD := fun v2 k0_hw2 => k0_hw2.1.2.1
theorem k0_dev5_lt : ∀ (v2 : BitVec 32) (k0_hw2 : k0_chk2 v2), (k0_dev5 v2) < nD := fun v2 k0_hw2 => k0_hw2.1.2.2.1
theorem k0_dev7_lt : ∀ (v2 : BitVec 32) (k0_hw2 : k0_chk2 v2), (k0_dev7 v2) < nD := fun v2 k0_hw2 => k0_hw2.1.2.2.2.1
theorem k0_dev9_lt : ∀ (v2 : BitVec 32) (k0_hw2 : k0_chk2 v2), (k0_dev9 v2) < nD := fun v2 k0_hw2 => k0_hw2.1.2.2.2.2.1
theorem k0_dev11_lt : ∀ (v2 : BitVec 32) (k0_hw2 : k0_chk2 v2), (k0_dev11 v2) < nD := fun v2 k0_hw2 => k0_hw2.1.2.2.2.2.2.1
theorem k0_dev13_lt : ∀ (v2 : BitVec 32) (k0_hw2 : k0_chk2 v2), (k0_dev13 v2) < nD := fun v2 k0_hw2 => k0_hw2.1.2.2.2.2.2.2.1
theorem k0_dev15_lt : ∀ (v2 : BitVec 32) (k0_hw2 : k0_chk2 v2), (k0_dev15 v2) < nD := fun v2 k0_hw2 => k0_hw2.1.2.2.2.2.2.2.2.1
theorem k0_dev17_lt : ∀ (v2 : BitVec 32) (k0_hw2 : k0_chk2 v2), (k0_dev17 v2) < nD := fun v2 k0_hw2 => k0_hw2.1.2.2.2.2.2.2.2.2.1
theorem k0_dev19_lt : ∀ (v2 : BitVec 32) (k0_hw2 : k0_chk2 v2), (k0_dev19 v2) < nD := fun v2 k0_hw2 => k0_hw2.1.2.2.2.2.2.2.2.2.2.1
theorem k0_dev21_lt : ∀ (v2 : BitVec 32) (k0_hw2 : k0_chk2 v2), (k0_dev21 v2) < nD := fun v2 k0_hw2 => k0_hw2.1.2.2.2.2.2.2.2.2.2.2.1
theorem k0_dev23_lt : ∀ (v2 : BitVec 32) (k0_hw2 : k0_chk2 v2), (k0_dev23 v2) < nD := fun v2 k0_hw2 => k0_hw2.1.2.2.2.2.2.2.2.2.2.2.2.1
theorem k0_dev25_lt : ∀ (v2 : BitVec 32) (k0_hw2 : k0_chk2 v2), (k0_dev25 v2) < nD := fun v2 k0_hw2 => k0_hw2.1.2.2.2.2.2.2.2.2.2.2.2.2.1
theorem k0_dev27_lt : ∀ (v2 : BitVec 32) (k0_hw2 : k0_chk2 v2), (k0_dev27 v2) < nD := fun v2 k0_hw2 => k0_hw2.1.2.2.2.2.2.2.2.2.2.2.2.2.2.1
theorem k0_dev29_lt : ∀ (v2 : BitVec 32) (k0_hw2 : k0_chk2 v2), (k0_dev29 v2) < nD := fun v2 k0_hw2 => k0_hw2.1.2.2.2.2.2.2.2.2.2.2.2.2.2.2.1
theorem k0_dev31_lt : ∀ (v2 : BitVec 32) (k0_hw2 : k0_chk2 v2), (k0_dev31 v2) < nD := fun v2 k0_hw2 => k0_hw2.1.2.2.2.2.2.2.2.2.2.2.2.2.2.2.2.1
theorem k0_dev33_lt : ∀ (v2 : BitVec 32) (k0_hw2 : k0_chk2 v2), (k0_dev33 v2) < nD := fun v2 k0_hw2 => k0_hw2.1.2.2.2.2.2.2.2.2.2.2.2.2.2.2.2.2.1
theorem k0_dev35_lt : ∀ (v2 : BitVec 32) (k0_hw2 : k0_chk2 v2), (k0_dev35 v2) < nD := fun v2 k0_hw2 => k0_hw2.1.2.2.2.2.2.2.2.2.2.2.2.2.2.2.2.2.2.1
theorem k0_dev37_lt : ∀ (v2 : BitVec 32) (k0_hw2 : k0_chk2 v2), (k0_dev37 v2) < nD := fun v2 k0_hw2 => k0_hw2.1.2.2.2.2.2.2.2.2.2.2.2.2.2.2.2.2.2.2.1
theorem k0_dev39_lt : ∀ (v2 : BitVec 32) (k0_hw2 : k0_chk2 v2), (k0_dev39 v2) < nD := fun v2 k0_hw2 => k0_hw2.1.2.2.2.2.2.2.2.2.2.2.2.2.2.2.2.2.2.2.2.1
theorem k0_dev41_lt : ∀ (v2 : BitVec 32) (k0_hw2 : k0_chk2 v2), (k0_dev41 v2) < nD := fun v2 k0_hw2 => k0_hw2.1.2.2.2.2.2.2.2.2.2.2.2.2.2.2.2.2.2.2.2.2.1
theorem k0_dev43_lt : ∀ (v2 : BitVec 32) (k0_hw2 : k0_chk2 v2), (k0_dev43 v2) < nD := fun v2 k0_hw2 => k0_hw2.1.2.2.2.2.2.2.2.2.2.2.2.2.2.2.2.2.2.2.2.2.2.1
theorem k0_dev45_lt : ∀ (v2 : BitVec 32) (k0_hw2 : k0_chk2 v2), (k0_dev45 v2) < nD := fun v2 k0_hw2 => k0_hw2.1.2.2.2.2.2.2.2.2.2.2.2.2.2.2.2.2.2.2.2.2.2.2.1
theorem k0_dev47_lt : ∀ (v2 : BitVec 32) (k0_hw2 : k0_chk2 v2), (k0_dev47 v2) < nD := fun v2 k0_hw2 => k0_hw2.1.2.2.2.2.2.2.2.2.2.2.2.2.2.2.2.2.2.2.2.2.2.2.2.1
theorem k0_dev49_lt : ∀ (v2 : BitVec 32) (k0_hw2 : k0_chk2 v2), (k0_dev49 v2) < nD := fun v2 k0_hw2 => k0_hw2.1.2.2.2.2.2.2.2.2.2.2.2.2.2.2.2.2.2.2.2.2.2.2.2.2.1
theorem k0_dev51_lt : ∀ (v2 : BitVec 32) (k0_hw2 : k0_chk2 v2), (k0_dev51 v2) < nD := fun v2 k0_hw2 => k0_hw2.1.2.2.2.2.2.2.2.2.2.2.2.2.2.2.2.2.2.2.2.2.2.2.2.2.2.1
theorem k0_dev53_lt : ∀ (v2 : BitVec 32) (k0_hw2 : k0_chk2 v2), (k0_dev53 v2) < nD := fun v2 k0_hw2 => k0_hw2.1.2.2.2.2.2.2.2.2.2.2.2.2.2.2.2.2.2.2.2.2.2.2.2.2.2.2.1
theorem k0_dev55_lt : ∀ (v2 : BitVec 32) (k0_hw2 : k0_chk2 v2), (k0_dev55 v2) < nD := fun v2 k0_hw2 => k0_hw2.1.2.2.2.2.2.2.2.2.2.2.2.2.2.2.2.2.2.2.2.2.2.2.2.2.2.2.2.1
theorem k0_dev57_lt : ∀ (v2 : BitVec 32) (k0_hw2 : k0_chk2 v2), (k0_dev57 v2) < nD := fun v2 k0_hw2 => k0_hw2.1.2.2.2.2.2.2.2.2.2.2.2.2.2.2.2.2.2.2.2.2.2.2.2.2.2.2.2.2.1
theorem k0_dev59_lt : ∀ (v2 : BitVec 32) (k0_hw2 : k0_chk2 v2), (k0_dev59 v2) < nD := fun v2 k0_hw2 => k0_hw2.1.2.2.2.2.2.2.2.2.2.2.2.2.2.2.2.2.2.2.2.2.2.2.2.2.2.2.2.2.2.1
theorem k0_dev61_lt : ∀ (v2 : BitVec 32) (k0_hw2 : k0_chk2 v2), (k0_dev61 v2) < nD := fun v2 k0_hw2 => k0_hw2.1.2.2.2.2.2.2.2.2.2.2.2.2.2.2.2.2.2.2.2.2.2.2.2.2.2.2.2.2.2.2.1
theorem k0_dev63_lt : ∀ (v2 : BitVec 32) (k0_hw2 : k0_chk2 v2), (k0_dev63 v2) < nD := fun v2 k0_hw2 => k0_hw2.1.2.2.2.2.2.2.2.2.2.2.2.2.2.2.2.2.2.2.2.2.2.2.2.2.2.2.2.2.2.2.2
theorem k0_dev70_lt : ∀ (v2 : BitVec 32) (k0_hw2 : k0_chk2 v2), (k0_dev70 v2) < nD := fun v2 k0_hw2 => k0_hw2.2.1
theorem k0_dev72_lt : ∀ (v2 : BitVec 32) (k0_hw2 : k0_chk2 v2), (k0_dev72 v2) < nD := fun v2 k0_hw2 => k0_hw2.2.2.1
theorem k0_dev74_lt : ∀ (v2 : BitVec 32) (k0_hw2 : k0_chk2 v2), (k0_dev74 v2) < nD := fun v2 k0_hw2 => k0_hw2.2.2.2.1
theorem k0_dev76_lt : ∀ (v2 : BitVec 32) (k0_hw2 : k0_chk2 v2), (k0_dev76 v2) < nD := fun v2 k0_hw2 => k0_hw2.2.2.2.2.1
theorem k0_dev78_lt : ∀ (v2 : BitVec 32) (k0_hw2 : k0_chk2 v2), (k0_dev78 v2) < nD := fun v2 k0_hw2 => k0_hw2.2.2.2.2.2.1
theorem k0_dev80_lt : ∀ (v2 : BitVec 32) (k0_hw2 : k0_chk2 v2), (k0_dev80 v2) < nD := fun v2 k0_hw2 => k0_hw2.2.2.2.2.2.2.1
theorem k0_dev82_lt : ∀ (v2 : BitVec 32) (k0_hw2 : k0_chk2 v2), (k0_dev82 v2) < nD := fun v2 k0_hw2 => k0_hw2.2.2.2.2.2.2.2.1
theorem k0_dev84_lt : ∀ (v2 : BitVec 32) (k0_hw2 : k0_chk2 v2), (k0_dev84 v2) < nD := fun v2 k0_hw2 => k0_hw2.2.2.2.2.2.2.2.2.1
theorem k0_dev86_lt : ∀ (v2 : BitVec 32) (k0_hw2 : k0_chk2 v2), (k0_dev86 v2) < nD := fun v2 k0_hw2 => k0_hw2.2.2.2.2.2.2.2.2.2.1
theorem k0_dev88_lt : ∀ (v2 : BitVec 32) (k0_hw2 : k0_chk2 v2), (k0_dev88 v2) < nD := fun v2 k0_hw2 => k0_hw2.2.2.2.2.2.2.2.2.2.2.1
theorem k0_dev90_lt : ∀ (v2 : BitVec 32) (k0_hw2 : k0_chk2 v2), (k0_dev90 v2) < nD := fun v2 k0_hw2 => k0_hw2.2.2.2.2.2.2.2.2.2.2.2.1
theorem k0_dev92_lt : ∀ (v2 : BitVec 32) (k0_hw2 : k0_chk2 v2), (k0_dev92 v2) < nD := fun v2 k0_hw2 => k0_hw2.2.2.2.2.2.2.2.2.2.2.2.2.1
theorem k0_dev94_lt : ∀ (v2 : BitVec 32) (k0_hw2 : k0_chk2 v2), (k0_dev94 v2) < nD := fun v2 k0_hw2 => k0_hw2.2.2.2.2.2.2.2.2.2.2.2.2.2.1
theorem k0_dev96_lt : ∀ (v2 : BitVec 32) (k0_hw2 : k0_chk2 v2), (k0_dev96 v2) < nD := fun v2 k0_hw2 => k0_hw2.2.2.2.2.2.2.2.2.2.2.2.2.2.2.1
theorem k0_dev98_lt : ∀ (v2 : BitVec 32) (k0_hw2 : k0_chk2 v2), (k0_dev98 v2) < nD := fun v2 k0_hw2 => k0_hw2.2.2.2.2.2.2.2.2.2.2.2.2.2.2.2.1
theorem k0_dev100_lt : ∀ (v2 : BitVec 32) (k0_hw2 : k0_chk2 v2), (k0_dev100 v2) < nD := fun v2 k0_hw2 => k0_hw2.2.2.2.2.2.2.2.2.2.2.2.2.2.2.2.2.1
theorem k0_dev102_lt : ∀ (v2 : BitVec 32) (k0_hw2 : k0_chk2 v2), (k0_dev102 v2) < nD := fun v2 k0_hw2 => k0_hw2.2.2.2.2.2.2.2.2.2.2.2.2.2.2.2.2.2.1
theorem k0_dev104_lt : ∀ (v2 : BitVec 32) (k0_hw2 : k0_chk2 v2), (k0_dev104 v2) < nD := fun v2 k0_hw2 => k0_hw2.2.2.2.2.2.2.2.2.2.2.2.2.2.2.2.2.2.2.1
theorem k0_dev106_lt : ∀ (v2 : BitVec 32) (k0_hw2 : k0_chk2 v2), (k0_dev106 v2) < nD := fun v2 k0_hw2 => k0_hw2.2.2.2.2.2.2.2.2.2.2.2.2.2.2.2.2.2.2.2.1
theorem k0_dev108_lt : ∀ (v2 : BitVec 32) (k0_hw2 : k0_chk2 v2), (k0_dev108 v2) < nD := fun v2 k0_hw2 => k0_hw2.2.2.2.2.2.2.2.2.2.2.2.2.2.2.2.2.2.2.2.2.1
theorem k0_dev110_lt : ∀ (v2 : BitVec 32) (k0_hw2 : k0_chk2 v2), (k0_dev110 v2) < nD := fun v2 k0_hw2 => k0_hw2.2.2.2.2.2.2.2.2.2.2.2.2.2.2.2.2.2.2.2.2.2.1
theorem k0_dev112_lt : ∀ (v2 : BitVec 32) (k0_hw2 : k0_chk2 v2), (k0_dev112 v2) < nD := fun v2 k0_hw2 => k0_hw2.2.2.2.2.2.2.2.2.2.2.2.2.2.2.2.2.2.2.2.2.2.2.1
theorem k0_dev114_lt : ∀ (v2 : BitVec 32) (k0_hw2 : k0_chk2 v2), (k0_dev114 v2) < nD := fun v2 k0_hw2 => k0_hw2.2.2.2.2.2.2.2.2.2.2.2.2.2.2.2.2.2.2.2.2.2.2.2.1
theorem k0_dev116_lt : ∀ (v2 : BitVec 32) (k0_hw2 : k0_chk2 v2), (k0_dev116 v2) < nD := fun v2 k0_hw2 => k0_hw2.2.2.2.2.2.2.2.2.2.2.2.2.2.2.2.2.2.2.2.2.2.2.2.2.1
theorem k0_dev118_lt : ∀ (v2 : BitVec 32) (k0_hw2 : k0_chk2 v2), (k0_dev118 v2) < nD := fun v2 k0_hw2 => k0_hw2.2.2.2.2.2.2.2.2.2.2.2.2.2.2.2.2.2.2.2.2.2.2.2.2.2.1
theorem k0_dev120_lt : ∀ (v2 : BitVec 32) (k0_hw2 : k0_chk2 v2), (k0_dev120 v2) < nD := fun v2 k0_hw2 => k0_hw2.2.2.2.2.2.2.2.2.2.2.2.2.2.2.2.2.2.2.2.2.2.2.2.2.2.2.1
theorem k0_dev122_lt : ∀ (v2 : BitVec 32) (k0_hw2 : k0_chk2 v2), (k0_dev122 v2) < nD := fun v2 k0_hw2 => k0_hw2.2.2.2.2.2.2.2.2.2.2.2.2.2.2.2.2.2.2.2.2.2.2.2.2.2.2.2.1
theorem k0_dev124_lt : ∀ (v2 : BitVec 32) (k0_hw2 : k0_chk2 v2), (k0_dev124 v2) < nD := fun v2 k0_hw2 => k0_hw2.2.2.2.2.2.2.2.2.2.2.2.2.2.2.2.2.2.2.2.2.2.2.2.2.2.2.2.2.1
theorem k0_dev126_lt : ∀ (v2 : BitVec 32) (k0_hw2 : k0_chk2 v2), (k0_dev126 v2) < nD := fun v2 k0_hw2 => k0_hw2.2.2.2.2.2.2.2.2.2.2.2.2.2.2.2.2.2.2.2.2.2.2.2.2.2.2.2.2.2.1
theorem k0_dev128_lt : ∀ (v2 : BitVec 32) (k0_hw2 : k0_chk2 v2), (k0_dev128 v2) < nD := fun v2 k0_hw2 => k0_hw2.2.2.2.2.2.2.2.2.2.2.2.2.2.2.2.2.2.2.2.2.2.2.2.2.2.2.2.2.2.2.1
theorem k0_dev130_lt : ∀ (v2 : BitVec 32) (k0_hw2 : k0_chk2 v2), (k0_dev130 v2) < nD := fun v2 k0_hw2 => k0_hw2.2.2.2.2.2.2.2.2.2.2.2.2.2.2.2.2.2.2.2.2.2.2.2.2.2.2.2.2.2.2.2

def k0_dev131 (v1 : BitVec 32) : Nat :=
  let c0_i32_5950 : BitVec 32 := 0#32
  let c1_i32_5949 : BitVec 32 := 1#32
  let v5726 : BitVec 32 := Scalar.muli v1 c1_i32_5949
  let v5727 : BitVec 32 := Scalar.addi c0_i32_5950 v5726
  v5727.toNat

def k0_chk1_0 (v1 : BitVec 32) : Prop :=
  ((k0_dev1 v1) < nD) ∧
  ((k0_dev4 v1) < nD) ∧
  ((k0_dev6 v1) < nD) ∧
  ((k0_dev8 v1) < nD) ∧
  ((k0_dev10 v1) < nD) ∧
  ((k0_dev12 v1) < nD) ∧
  ((k0_dev14 v1) < nD) ∧
  ((k0_dev16 v1) < nD) ∧
  ((k0_dev18 v1) < nD) ∧
  ((k0_dev20 v1) < nD) ∧
  ((k0_dev22 v1) < nD) ∧
  ((k0_dev24 v1) < nD) ∧
  ((k0_dev26 v1) < nD) ∧
  ((k0_dev28 v1) < nD) ∧
  ((k0_dev30 v1) < nD) ∧
  ((k0_dev32 v1) < nD) ∧
  ((k0_dev34 v1) < nD) ∧
  ((k0_dev36 v1) < nD) ∧
  ((k0_dev38 v1) < nD) ∧
  ((k0_dev40 v1) < nD) ∧
  ((k0_dev42 v1) < nD) ∧
  ((k0_dev44 v1) < nD) ∧
  ((k0_dev46 v1) < nD) ∧
  ((k0_dev48 v1) < nD) ∧
  ((k0_dev50 v1) < nD) ∧
  ((k0_dev52 v1) < nD) ∧
  ((k0_dev54 v1) < nD) ∧
  ((k0_dev56 v1) < nD) ∧
  ((k0_dev58 v1) < nD) ∧
  ((k0_dev60 v1) < nD) ∧
  ((k0_dev62 v1) < nD) ∧
  ((k0_dev64 v1) < nD)
def k0_chk1_1 (v1 : BitVec 32) : Prop :=
  ((k0_dev71 v1) < nD) ∧
  ((k0_dev73 v1) < nD) ∧
  ((k0_dev75 v1) < nD) ∧
  ((k0_dev77 v1) < nD) ∧
  ((k0_dev79 v1) < nD) ∧
  ((k0_dev81 v1) < nD) ∧
  ((k0_dev83 v1) < nD) ∧
  ((k0_dev85 v1) < nD) ∧
  ((k0_dev87 v1) < nD) ∧
  ((k0_dev89 v1) < nD) ∧
  ((k0_dev91 v1) < nD) ∧
  ((k0_dev93 v1) < nD) ∧
  ((k0_dev95 v1) < nD) ∧
  ((k0_dev97 v1) < nD) ∧
  ((k0_dev99 v1) < nD) ∧
  ((k0_dev101 v1) < nD) ∧
  ((k0_dev103 v1) < nD) ∧
  ((k0_dev105 v1) < nD) ∧
  ((k0_dev107 v1) < nD) ∧
  ((k0_dev109 v1) < nD) ∧
  ((k0_dev111 v1) < nD) ∧
  ((k0_dev113 v1) < nD) ∧
  ((k0_dev115 v1) < nD) ∧
  ((k0_dev117 v1) < nD) ∧
  ((k0_dev119 v1) < nD) ∧
  ((k0_dev121 v1) < nD) ∧
  ((k0_dev123 v1) < nD) ∧
  ((k0_dev125 v1) < nD) ∧
  ((k0_dev127 v1) < nD) ∧
  ((k0_dev129 v1) < nD) ∧
  ((k0_dev131 v1) < nD)
def k0_chk1 (v1 : BitVec 32) : Prop :=
  k0_chk1_0 v1 ∧
  k0_chk1_1 v1
theorem k0_dev1_lt : ∀ (v1 : BitVec 32) (k0_hw1 : k0_chk1 v1), (k0_dev1 v1) < nD := fun v1 k0_hw1 => k0_hw1.1.1
theorem k0_dev4_lt : ∀ (v1 : BitVec 32) (k0_hw1 : k0_chk1 v1), (k0_dev4 v1) < nD := fun v1 k0_hw1 => k0_hw1.1.2.1
theorem k0_dev6_lt : ∀ (v1 : BitVec 32) (k0_hw1 : k0_chk1 v1), (k0_dev6 v1) < nD := fun v1 k0_hw1 => k0_hw1.1.2.2.1
theorem k0_dev8_lt : ∀ (v1 : BitVec 32) (k0_hw1 : k0_chk1 v1), (k0_dev8 v1) < nD := fun v1 k0_hw1 => k0_hw1.1.2.2.2.1
theorem k0_dev10_lt : ∀ (v1 : BitVec 32) (k0_hw1 : k0_chk1 v1), (k0_dev10 v1) < nD := fun v1 k0_hw1 => k0_hw1.1.2.2.2.2.1
theorem k0_dev12_lt : ∀ (v1 : BitVec 32) (k0_hw1 : k0_chk1 v1), (k0_dev12 v1) < nD := fun v1 k0_hw1 => k0_hw1.1.2.2.2.2.2.1
theorem k0_dev14_lt : ∀ (v1 : BitVec 32) (k0_hw1 : k0_chk1 v1), (k0_dev14 v1) < nD := fun v1 k0_hw1 => k0_hw1.1.2.2.2.2.2.2.1
theorem k0_dev16_lt : ∀ (v1 : BitVec 32) (k0_hw1 : k0_chk1 v1), (k0_dev16 v1) < nD := fun v1 k0_hw1 => k0_hw1.1.2.2.2.2.2.2.2.1
theorem k0_dev18_lt : ∀ (v1 : BitVec 32) (k0_hw1 : k0_chk1 v1), (k0_dev18 v1) < nD := fun v1 k0_hw1 => k0_hw1.1.2.2.2.2.2.2.2.2.1
theorem k0_dev20_lt : ∀ (v1 : BitVec 32) (k0_hw1 : k0_chk1 v1), (k0_dev20 v1) < nD := fun v1 k0_hw1 => k0_hw1.1.2.2.2.2.2.2.2.2.2.1
theorem k0_dev22_lt : ∀ (v1 : BitVec 32) (k0_hw1 : k0_chk1 v1), (k0_dev22 v1) < nD := fun v1 k0_hw1 => k0_hw1.1.2.2.2.2.2.2.2.2.2.2.1
theorem k0_dev24_lt : ∀ (v1 : BitVec 32) (k0_hw1 : k0_chk1 v1), (k0_dev24 v1) < nD := fun v1 k0_hw1 => k0_hw1.1.2.2.2.2.2.2.2.2.2.2.2.1
theorem k0_dev26_lt : ∀ (v1 : BitVec 32) (k0_hw1 : k0_chk1 v1), (k0_dev26 v1) < nD := fun v1 k0_hw1 => k0_hw1.1.2.2.2.2.2.2.2.2.2.2.2.2.1
theorem k0_dev28_lt : ∀ (v1 : BitVec 32) (k0_hw1 : k0_chk1 v1), (k0_dev28 v1) < nD := fun v1 k0_hw1 => k0_hw1.1.2.2.2.2.2.2.2.2.2.2.2.2.2.1
theorem k0_dev30_lt : ∀ (v1 : BitVec 32) (k0_hw1 : k0_chk1 v1), (k0_dev30 v1) < nD := fun v1 k0_hw1 => k0_hw1.1.2.2.2.2.2.2.2.2.2.2.2.2.2.2.1
theorem k0_dev32_lt : ∀ (v1 : BitVec 32) (k0_hw1 : k0_chk1 v1), (k0_dev32 v1) < nD := fun v1 k0_hw1 => k0_hw1.1.2.2.2.2.2.2.2.2.2.2.2.2.2.2.2.1
theorem k0_dev34_lt : ∀ (v1 : BitVec 32) (k0_hw1 : k0_chk1 v1), (k0_dev34 v1) < nD := fun v1 k0_hw1 => k0_hw1.1.2.2.2.2.2.2.2.2.2.2.2.2.2.2.2.2.1
theorem k0_dev36_lt : ∀ (v1 : BitVec 32) (k0_hw1 : k0_chk1 v1), (k0_dev36 v1) < nD := fun v1 k0_hw1 => k0_hw1.1.2.2.2.2.2.2.2.2.2.2.2.2.2.2.2.2.2.1
theorem k0_dev38_lt : ∀ (v1 : BitVec 32) (k0_hw1 : k0_chk1 v1), (k0_dev38 v1) < nD := fun v1 k0_hw1 => k0_hw1.1.2.2.2.2.2.2.2.2.2.2.2.2.2.2.2.2.2.2.1
theorem k0_dev40_lt : ∀ (v1 : BitVec 32) (k0_hw1 : k0_chk1 v1), (k0_dev40 v1) < nD := fun v1 k0_hw1 => k0_hw1.1.2.2.2.2.2.2.2.2.2.2.2.2.2.2.2.2.2.2.2.1
theorem k0_dev42_lt : ∀ (v1 : BitVec 32) (k0_hw1 : k0_chk1 v1), (k0_dev42 v1) < nD := fun v1 k0_hw1 => k0_hw1.1.2.2.2.2.2.2.2.2.2.2.2.2.2.2.2.2.2.2.2.2.1
theorem k0_dev44_lt : ∀ (v1 : BitVec 32) (k0_hw1 : k0_chk1 v1), (k0_dev44 v1) < nD := fun v1 k0_hw1 => k0_hw1.1.2.2.2.2.2.2.2.2.2.2.2.2.2.2.2.2.2.2.2.2.2.1
theorem k0_dev46_lt : ∀ (v1 : BitVec 32) (k0_hw1 : k0_chk1 v1), (k0_dev46 v1) < nD := fun v1 k0_hw1 => k0_hw1.1.2.2.2.2.2.2.2.2.2.2.2.2.2.2.2.2.2.2.2.2.2.2.1
theorem k0_dev48_lt : ∀ (v1 : BitVec 32) (k0_hw1 : k0_chk1 v1), (k0_dev48 v1) < nD := fun v1 k0_hw1 => k0_hw1.1.2.2.2.2.2.2.2.2.2.2.2.2.2.2.2.2.2.2.2.2.2.2.2.1
theorem k0_dev50_lt : ∀ (v1 : BitVec 32) (k0_hw1 : k0_chk1 v1), (k0_dev50 v1) < nD := fun v1 k0_hw1 => k0_hw1.1.2.2.2.2.2.2.2.2.2.2.2.2.2.2.2.2.2.2.2.2.2.2.2.2.1
theorem k0_dev52_lt : ∀ (v1 : BitVec 32) (k0_hw1 : k0_chk1 v1), (k0_dev52 v1) < nD := fun v1 k0_hw1 => k0_hw1.1.2.2.2.2.2.2.2.2.2.2.2.2.2.2.2.2.2.2.2.2.2.2.2.2.2.1
theorem k0_dev54_lt : ∀ (v1 : BitVec 32) (k0_hw1 : k0_chk1 v1), (k0_dev54 v1) < nD := fun v1 k0_hw1 => k0_hw1.1.2.2.2.2.2.2.2.2.2.2.2.2.2.2.2.2.2.2.2.2.2.2.2.2.2.2.1
theorem k0_dev56_lt : ∀ (v1 : BitVec 32) (k0_hw1 : k0_chk1 v1), (k0_dev56 v1) < nD := fun v1 k0_hw1 => k0_hw1.1.2.2.2.2.2.2.2.2.2.2.2.2.2.2.2.2.2.2.2.2.2.2.2.2.2.2.2.1
theorem k0_dev58_lt : ∀ (v1 : BitVec 32) (k0_hw1 : k0_chk1 v1), (k0_dev58 v1) < nD := fun v1 k0_hw1 => k0_hw1.1.2.2.2.2.2.2.2.2.2.2.2.2.2.2.2.2.2.2.2.2.2.2.2.2.2.2.2.2.1
theorem k0_dev60_lt : ∀ (v1 : BitVec 32) (k0_hw1 : k0_chk1 v1), (k0_dev60 v1) < nD := fun v1 k0_hw1 => k0_hw1.1.2.2.2.2.2.2.2.2.2.2.2.2.2.2.2.2.2.2.2.2.2.2.2.2.2.2.2.2.2.1
theorem k0_dev62_lt : ∀ (v1 : BitVec 32) (k0_hw1 : k0_chk1 v1), (k0_dev62 v1) < nD := fun v1 k0_hw1 => k0_hw1.1.2.2.2.2.2.2.2.2.2.2.2.2.2.2.2.2.2.2.2.2.2.2.2.2.2.2.2.2.2.2.1
theorem k0_dev64_lt : ∀ (v1 : BitVec 32) (k0_hw1 : k0_chk1 v1), (k0_dev64 v1) < nD := fun v1 k0_hw1 => k0_hw1.1.2.2.2.2.2.2.2.2.2.2.2.2.2.2.2.2.2.2.2.2.2.2.2.2.2.2.2.2.2.2.2
theorem k0_dev71_lt : ∀ (v1 : BitVec 32) (k0_hw1 : k0_chk1 v1), (k0_dev71 v1) < nD := fun v1 k0_hw1 => k0_hw1.2.1
theorem k0_dev73_lt : ∀ (v1 : BitVec 32) (k0_hw1 : k0_chk1 v1), (k0_dev73 v1) < nD := fun v1 k0_hw1 => k0_hw1.2.2.1
theorem k0_dev75_lt : ∀ (v1 : BitVec 32) (k0_hw1 : k0_chk1 v1), (k0_dev75 v1) < nD := fun v1 k0_hw1 => k0_hw1.2.2.2.1
theorem k0_dev77_lt : ∀ (v1 : BitVec 32) (k0_hw1 : k0_chk1 v1), (k0_dev77 v1) < nD := fun v1 k0_hw1 => k0_hw1.2.2.2.2.1
theorem k0_dev79_lt : ∀ (v1 : BitVec 32) (k0_hw1 : k0_chk1 v1), (k0_dev79 v1) < nD := fun v1 k0_hw1 => k0_hw1.2.2.2.2.2.1
theorem k0_dev81_lt : ∀ (v1 : BitVec 32) (k0_hw1 : k0_chk1 v1), (k0_dev81 v1) < nD := fun v1 k0_hw1 => k0_hw1.2.2.2.2.2.2.1
theorem k0_dev83_lt : ∀ (v1 : BitVec 32) (k0_hw1 : k0_chk1 v1), (k0_dev83 v1) < nD := fun v1 k0_hw1 => k0_hw1.2.2.2.2.2.2.2.1
theorem k0_dev85_lt : ∀ (v1 : BitVec 32) (k0_hw1 : k0_chk1 v1), (k0_dev85 v1) < nD := fun v1 k0_hw1 => k0_hw1.2.2.2.2.2.2.2.2.1
theorem k0_dev87_lt : ∀ (v1 : BitVec 32) (k0_hw1 : k0_chk1 v1), (k0_dev87 v1) < nD := fun v1 k0_hw1 => k0_hw1.2.2.2.2.2.2.2.2.2.1
theorem k0_dev89_lt : ∀ (v1 : BitVec 32) (k0_hw1 : k0_chk1 v1), (k0_dev89 v1) < nD := fun v1 k0_hw1 => k0_hw1.2.2.2.2.2.2.2.2.2.2.1
theorem k0_dev91_lt : ∀ (v1 : BitVec 32) (k0_hw1 : k0_chk1 v1), (k0_dev91 v1) < nD := fun v1 k0_hw1 => k0_hw1.2.2.2.2.2.2.2.2.2.2.2.1
theorem k0_dev93_lt : ∀ (v1 : BitVec 32) (k0_hw1 : k0_chk1 v1), (k0_dev93 v1) < nD := fun v1 k0_hw1 => k0_hw1.2.2.2.2.2.2.2.2.2.2.2.2.1
theorem k0_dev95_lt : ∀ (v1 : BitVec 32) (k0_hw1 : k0_chk1 v1), (k0_dev95 v1) < nD := fun v1 k0_hw1 => k0_hw1.2.2.2.2.2.2.2.2.2.2.2.2.2.1
theorem k0_dev97_lt : ∀ (v1 : BitVec 32) (k0_hw1 : k0_chk1 v1), (k0_dev97 v1) < nD := fun v1 k0_hw1 => k0_hw1.2.2.2.2.2.2.2.2.2.2.2.2.2.2.1
theorem k0_dev99_lt : ∀ (v1 : BitVec 32) (k0_hw1 : k0_chk1 v1), (k0_dev99 v1) < nD := fun v1 k0_hw1 => k0_hw1.2.2.2.2.2.2.2.2.2.2.2.2.2.2.2.1
theorem k0_dev101_lt : ∀ (v1 : BitVec 32) (k0_hw1 : k0_chk1 v1), (k0_dev101 v1) < nD := fun v1 k0_hw1 => k0_hw1.2.2.2.2.2.2.2.2.2.2.2.2.2.2.2.2.1
theorem k0_dev103_lt : ∀ (v1 : BitVec 32) (k0_hw1 : k0_chk1 v1), (k0_dev103 v1) < nD := fun v1 k0_hw1 => k0_hw1.2.2.2.2.2.2.2.2.2.2.2.2.2.2.2.2.2.1
theorem k0_dev105_lt : ∀ (v1 : BitVec 32) (k0_hw1 : k0_chk1 v1), (k0_dev105 v1) < nD := fun v1 k0_hw1 => k0_hw1.2.2.2.2.2.2.2.2.2.2.2.2.2.2.2.2.2.2.1
theorem k0_dev107_lt : ∀ (v1 : BitVec 32) (k0_hw1 : k0_chk1 v1), (k0_dev107 v1) < nD := fun v1 k0_hw1 => k0_hw1.2.2.2.2.2.2.2.2.2.2.2.2.2.2.2.2.2.2.2.1
theorem k0_dev109_lt : ∀ (v1 : BitVec 32) (k0_hw1 : k0_chk1 v1), (k0_dev109 v1) < nD := fun v1 k0_hw1 => k0_hw1.2.2.2.2.2.2.2.2.2.2.2.2.2.2.2.2.2.2.2.2.1
theorem k0_dev111_lt : ∀ (v1 : BitVec 32) (k0_hw1 : k0_chk1 v1), (k0_dev111 v1) < nD := fun v1 k0_hw1 => k0_hw1.2.2.2.2.2.2.2.2.2.2.2.2.2.2.2.2.2.2.2.2.2.1
theorem k0_dev113_lt : ∀ (v1 : BitVec 32) (k0_hw1 : k0_chk1 v1), (k0_dev113 v1) < nD := fun v1 k0_hw1 => k0_hw1.2.2.2.2.2.2.2.2.2.2.2.2.2.2.2.2.2.2.2.2.2.2.1
theorem k0_dev115_lt : ∀ (v1 : BitVec 32) (k0_hw1 : k0_chk1 v1), (k0_dev115 v1) < nD := fun v1 k0_hw1 => k0_hw1.2.2.2.2.2.2.2.2.2.2.2.2.2.2.2.2.2.2.2.2.2.2.2.1
theorem k0_dev117_lt : ∀ (v1 : BitVec 32) (k0_hw1 : k0_chk1 v1), (k0_dev117 v1) < nD := fun v1 k0_hw1 => k0_hw1.2.2.2.2.2.2.2.2.2.2.2.2.2.2.2.2.2.2.2.2.2.2.2.2.1
theorem k0_dev119_lt : ∀ (v1 : BitVec 32) (k0_hw1 : k0_chk1 v1), (k0_dev119 v1) < nD := fun v1 k0_hw1 => k0_hw1.2.2.2.2.2.2.2.2.2.2.2.2.2.2.2.2.2.2.2.2.2.2.2.2.2.1
theorem k0_dev121_lt : ∀ (v1 : BitVec 32) (k0_hw1 : k0_chk1 v1), (k0_dev121 v1) < nD := fun v1 k0_hw1 => k0_hw1.2.2.2.2.2.2.2.2.2.2.2.2.2.2.2.2.2.2.2.2.2.2.2.2.2.2.1
theorem k0_dev123_lt : ∀ (v1 : BitVec 32) (k0_hw1 : k0_chk1 v1), (k0_dev123 v1) < nD := fun v1 k0_hw1 => k0_hw1.2.2.2.2.2.2.2.2.2.2.2.2.2.2.2.2.2.2.2.2.2.2.2.2.2.2.2.1
theorem k0_dev125_lt : ∀ (v1 : BitVec 32) (k0_hw1 : k0_chk1 v1), (k0_dev125 v1) < nD := fun v1 k0_hw1 => k0_hw1.2.2.2.2.2.2.2.2.2.2.2.2.2.2.2.2.2.2.2.2.2.2.2.2.2.2.2.2.1
theorem k0_dev127_lt : ∀ (v1 : BitVec 32) (k0_hw1 : k0_chk1 v1), (k0_dev127 v1) < nD := fun v1 k0_hw1 => k0_hw1.2.2.2.2.2.2.2.2.2.2.2.2.2.2.2.2.2.2.2.2.2.2.2.2.2.2.2.2.2.1
theorem k0_dev129_lt : ∀ (v1 : BitVec 32) (k0_hw1 : k0_chk1 v1), (k0_dev129 v1) < nD := fun v1 k0_hw1 => k0_hw1.2.2.2.2.2.2.2.2.2.2.2.2.2.2.2.2.2.2.2.2.2.2.2.2.2.2.2.2.2.2.1
theorem k0_dev131_lt : ∀ (v1 : BitVec 32) (k0_hw1 : k0_chk1 v1), (k0_dev131 v1) < nD := fun v1 k0_hw1 => k0_hw1.2.2.2.2.2.2.2.2.2.2.2.2.2.2.2.2.2.2.2.2.2.2.2.2.2.2.2.2.2.2.2

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Proof.KRollEq.lean ====
module

public import proofs.«01_k».proof.Proof.KRolled
public import Idealize.ShloMosaic.Lib.Tactic

@[expose] public section

set_option maxRecDepth 1000000

noncomputable section

namespace Cert.Kernel.Ring

open Idealize.ShloMosaic Idealize.ShloMosaic.TcCoe Idealize.SL.Sem
open Cert.Kernel Cert.Kernel.Gen

variable {F : FTy → Type} [FloatOps F]

set_option maxHeartbeats 0 in
/-- The printed body is the rolled one. -/
theorem body_eq : cc0_body (F := F) (Memref.whole cc0_stg0_0) (Memref.isWhole_whole _) (Memref.whole cc0_stg1_0) (Memref.isWhole_whole _) (Memref.whole cc0_stg2_0) (Memref.isWhole_whole _) (Memref.whole main_v39) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 = body := by
  sl_kernel_rfl

end Cert.Kernel.Ring
-- ==== Proof.IRolled.lean ====
/-
  The kernel body with its unrolled loops written as loops: the same memory operations in the same order, one
  definition per phase of a step, indexed by the side of the ring (0 = to the right, 1 = to the left) and the step.
-/
module

public import proofs.«01_k».proof.Proof.Gen.KernelIdeal
public import Idealize.ShloMosaic.Lib.Tactic

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-- The programs of one core of this kernel. -/
abbrev P (F : FTy → Type) [FloatOps F] (α : Type) : Type 1 := Prog (TpuEff nD τ sig (Elt F) Λ₀ .tc) α

/-! ## Buffers, slots, semaphores -/

abbrev scalM : Memref sig .tc .smem S8 .i32 := Memref.whole cc0_stg0_0
abbrev xM : Memref sig .tc .vmem S4096x128 .bf16 := Memref.whole cc0_stg1_0
abbrev wM : Memref sig .tc .vmem S128x8192 .bf16 := Memref.whole cc0_stg2_0
abbrev outM : Memref sig .tc .hbm S4096x8192 .f32 := Memref.whole main_v39
abbrev wbM : Memref sig .tc .vmem S128x8192 .bf16 := Memref.whole cc0_scratch0
/-- The send buffer of a side, reduce-scatter phase. -/
abbrev rsSnd : Fin 2 → Memref sig .tc .vmem S2x64x8192 .bf16
  | 0 => Memref.whole cc0_scratch1 | 1 => Memref.whole cc0_scratch3
/-- The receive buffer of a side, reduce-scatter phase. -/
abbrev rsRcv : Fin 2 → Memref sig .tc .vmem S2x64x8192 .bf16
  | 0 => Memref.whole cc0_scratch2 | 1 => Memref.whole cc0_scratch4
/-- The reduced half chunk of a side. -/
abbrev redM : Fin 2 → Memref sig .tc .vmem S64x8192 .f32
  | 0 => Memref.whole cc0_scratch5 | 1 => Memref.whole cc0_scratch6
/-- The send buffer of a side, all-gather phase. -/
abbrev agSnd : Fin 2 → Memref sig .tc .vmem S2x64x8192 .i8
  | 0 => Memref.whole cc0_scratch7 | 1 => Memref.whole cc0_scratch9
/-- The receive buffer of a side, all-gather phase. -/
abbrev agRcv : Fin 2 → Memref sig .tc .vmem S2x64x8192 .i8
  | 0 => Memref.whole cc0_scratch8 | 1 => Memref.whole cc0_scratch10
/-- The staging buffer of the output rows of a side. -/
abbrev stgM : Fin 2 → Memref sig .tc .vmem S2x64x8192 .f32
  | 0 => Memref.whole cc0_scratch11 | 1 => Memref.whole cc0_scratch12
abbrev bfSnd : Memref sig .tc .vmem S8x128 .f32 := Memref.whole cc0_scratch13
abbrev bfRcv : Memref sig .tc .vmem S5x8x128 .f32 := Memref.whole cc0_scratch14

theorem rsSnd_whole (b : Fin 2) : (rsSnd b).IsWhole := by
  match b with | 0 => exact Memref.isWhole_whole _ | 1 => exact Memref.isWhole_whole _
theorem rsRcv_whole (b : Fin 2) : (rsRcv b).IsWhole := by
  match b with | 0 => exact Memref.isWhole_whole _ | 1 => exact Memref.isWhole_whole _
theorem agSnd_whole (b : Fin 2) : (agSnd b).IsWhole := by
  match b with | 0 => exact Memref.isWhole_whole _ | 1 => exact Memref.isWhole_whole _
theorem agRcv_whole (b : Fin 2) : (agRcv b).IsWhole := by
  match b with | 0 => exact Memref.isWhole_whole _ | 1 => exact Memref.isWhole_whole _

theorem slot_inb (p : Fin 2) : ∀ a, (![p.val, 0, 0] : Fin 3 → Nat) a + S1x64x8192.size a ≤ S2x64x8192.size a := by
  match p with | 0 => exact inb_S2x64x8192_S1x64x8192_0_0_0 | 1 => exact inb_S2x64x8192_S1x64x8192_1_0_0
theorem bf_inb (k : Fin 5) : ∀ a, (![k.val, 0, 0] : Fin 3 → Nat) a + S1x8x128.size a ≤ S5x8x128.size a := by
  revert k; decide
theorem sem2_inb (p : Fin 2) : ∀ a, (![p.val] : Fin 1 → Nat) a + S1.size a ≤ S2.size a := by revert p; decide
theorem sem5_inb (k : Fin 5) : ∀ a, (![k.val] : Fin 1 → Nat) a + S1.size a ≤ S5.size a := by revert k; decide
theorem scal_inb (k : Fin 8) : ∀ a, (![k.val] : Fin 1 → Nat) a + S1.size a ≤ S8.size a := by revert k; decide

/-- Slot `p` of a two-slot buffer. -/
abbrev slotR (p : Fin 2) : Rect S2x64x8192 := Rect.unit (s := S2x64x8192) ![p.val, 0, 0] S1x64x8192.size (slot_inb p)
abbrev slot {e : EltTy} (M : Memref sig .tc .vmem S2x64x8192 e) (p : Fin 2) : Memref sig .tc .vmem S64x8192 e :=
  (M.slice (slotR p) (fun _ => rfl)).squeeze S64x8192 squeezes_S1x64x8192_S64x8192
abbrev bfR (k : Fin 5) : Rect S5x8x128 := Rect.unit (s := S5x8x128) ![k.val, 0, 0] S1x8x128.size (bf_inb k)
abbrev bfSlot (k : Fin 5) : Memref sig .tc .vmem S8x128 .f32 :=
  (bfRcv.slice (bfR k) (fun _ => rfl)).squeeze S8x128 squeezes_S1x8x128_S8x128
abbrev sem2 (A : DmaSems sig S2) (p : Fin 2) : DmaSem sig :=
  ((A.slice (Rect.unit (s := S2) ![p.val] S1.size (sem2_inb p))).squeeze S_ squeezes_S1_S_).sem
abbrev sem5 (A : DmaSems sig S5) (k : Fin 5) : DmaSem sig :=
  ((A.slice (Rect.unit (s := S5) ![k.val] S1.size (sem5_inb k))).squeeze S_ squeezes_S1_S_).sem

theorem packed_bf (p : Fin 2) : (slotR p).PackedRows (EltTy.packing .bf16) := by
  match p with | 0 => exact packedbf16_S2x64x8192_S1x64x8192_0_0_0 | 1 => exact packedbf16_S2x64x8192_S1x64x8192_1_0_0
theorem packed_i8 (p : Fin 2) : (slotR p).PackedRows (EltTy.packing .i8) := by
  match p with | 0 => exact packedi8_S2x64x8192_S1x64x8192_0_0_0 | 1 => exact packedi8_S2x64x8192_S1x64x8192_1_0_0
theorem words_bf (p : Fin 2) : (slotR p).WholeWords (EltTy.packing .bf16) := by
  match p with | 0 => exact wordsbf16_S2x64x8192_S1x64x8192_0_0_0 | 1 => exact wordsbf16_S2x64x8192_S1x64x8192_1_0_0
theorem words_i8 (p : Fin 2) : (slotR p).WholeWords (EltTy.packing .i8) := by
  match p with | 0 => exact wordsi8_S2x64x8192_S1x64x8192_0_0_0 | 1 => exact wordsi8_S2x64x8192_S1x64x8192_1_0_0

theorem wx_bf (M : Memref sig .tc .vmem S2x64x8192 .bf16) (h : M.IsWhole) (p : Fin 2) : (slot M p).view.WordExact :=
  (h.wordExact_slice rfl _ (words_bf p)).reshape _ _
theorem wx_i8 (M : Memref sig .tc .vmem S2x64x8192 .i8) (h : M.IsWhole) (p : Fin 2) : (slot M p).view.WordExact :=
  (h.wordExact_slice rfl _ (words_i8 p)).reshape _ _

abbrev sndS : Fin 2 → DmaSems sig S2 | 0 => cc0_scratch15 | 1 => cc0_scratch17
abbrev rcvS : Fin 2 → DmaSems sig S2 | 0 => cc0_scratch16 | 1 => cc0_scratch18
abbrev stoS : Fin 2 → DmaSems sig S2 | 0 => cc0_scratch21 | 1 => cc0_scratch22
abbrev bfSndS : DmaSem sig := cc0_scratch19.sem
abbrev barS : Sem sig := (SemArray.scalar (sig.barrier 0 rfl) : Sems sig S_).sem

/-- The slot step `s` uses. -/
abbrev par (s : Nat) : Fin 2 := ⟨s % 2, Nat.mod_lt _ (by decide)⟩

/-! ## Pure values -/

/-- One device's partial product of a half chunk. -/
abbrev dotV (xa : Vec F S64x128 .bf16) (w : Vec F S128x8192 .bf16) : FVec F S64x8192 .f32 :=
  matmul dot_S64x128_S128x8192_S64x8192_1_0_0_1_n_n none (shapeCast S64x128 xa shapeCasts_S64x128_S64x128) w (constant S64x8192 .f32 0x00000000#32)
/-- What a partial sum is sent as. -/
abbrev packV (v : FVec F S64x8192 .f32) : FVec F S1x64x8192 .bf16 :=
  shapeCast S1x64x8192 (truncf .bf16 v bitsLt_bf16_f32) shapeCasts_S64x8192_S1x64x8192
/-- What a received partial sum is read as. -/
abbrev unpackV (v : Vec F S1x64x8192 .bf16) : FVec F S64x8192 .f32 :=
  extf .f32 (shapeCast S64x8192 v shapeCasts_S1x64x8192_S64x8192 : FVec F S64x8192 .bf16) bitsLt_bf16_f32
/-- The greatest element of a half chunk. -/
abbrev maxV (v : Vec F S64x8192 .f32) : F .f32 :=
  extractAt ![0, 0, 0] (shapeCast S1x1x1 (multiReduction .maximumf [1, 2] S1 (shapeCast S1x64x8192 v shapeCasts_S64x8192_S1x64x8192 : FVec F S1x64x8192 .f32)
    0xFF800000#32 reduces_S1x64x8192_S1 (.inl rfl) rfl : FVec F S1 .f32) shapeCasts_S1_S1x1x1) inpos_S1x1x1_p0_0_0
/-- The greatest element of a received exchange block. -/
abbrev maxB (v : Vec F S1x8x128 .f32) : F .f32 :=
  extractAt ![0, 0, 0] (shapeCast S1x1x1 (multiReduction .maximumf [1, 2] S1
    (shapeCast S1x8x128 (shapeCast S8x128 v shapeCasts_S1x8x128_S8x128 : FVec F S8x128 .f32) shapeCasts_S8x128_S1x8x128 : FVec F S1x8x128 .f32)
    0xFF800000#32 reduces_S1x8x128_S1 (.inl rfl) rfl : FVec F S1 .f32) shapeCasts_S1_S1x1x1) inpos_S1x1x1_p0_0_0
/-- The block one exchange sends. -/
abbrev blockV (m : F .f32) : FVec F S8x128 .f32 :=
  shapeCast S8x128 (addf (broadcast S8x128 (Scalar.ofBits .f32 0x00000000#32 : F .f32)) (broadcast S8x128 m)) shapeCasts_S8x128_S8x128
/-- A half chunk quantised. -/
abbrev quantV (inv : F .f32) (v : Vec F S64x8192 .f32) : IVec S64x8192 8 :=
  fptosi 8 (minimumf (broadcast S64x8192 (Scalar.ofBits .f32 0x42FE0000#32 : F .f32))
    (maximumf (broadcast S64x8192 (Scalar.ofBits .f32 0x00000000#32 : F .f32))
      (roundeven (mulf (maximumf v (broadcast S64x8192 (Scalar.ofBits .f32 0x00000000#32 : F .f32))) (broadcast S64x8192 inv)))))
/-- A quantised half chunk scaled back. -/
abbrev dequantV (scale : F .f32) (q : IVec S64x8192 8) : FVec F S1x64x8192 .f32 :=
  shapeCast S1x64x8192 (mulf (sitofp .f32 q) (broadcast S64x8192 scale) : FVec F S64x8192 .f32) shapeCasts_S64x8192_S1x64x8192
abbrev pack8 (q : IVec S64x8192 8) : IVec S1x64x8192 8 := shapeCast S1x64x8192 q shapeCasts_S64x8192_S1x64x8192
abbrev unpack8 (v : Vec F S1x64x8192 .i8) : IVec S64x8192 8 := shapeCast S64x8192 v shapeCasts_S1x64x8192_S64x8192

/-! ## Phases of a step -/

/-- Load a slot of a two-slot buffer. -/
abbrev slotLd {e : EltTy} (M : Memref sig .tc .vmem S2x64x8192 e) (p : Fin 2) : P F (Vec F S1x64x8192 e) :=
  Prog.lift (.load M (slotR p).toLoadRect (View.loadsAt_vmem h_S1x64x8192))
abbrev wbLd : P F (Vec F S128x8192 .bf16) :=
  Prog.lift (.load wbM (Rect.unit (s := S128x8192) ![0, 0] S128x8192.size inb_S128x8192_S128x8192_0_0).toLoadRect (View.loadsAt_vmem h_S128x8192))

/-- Store into a send slot (the slot is read first and the value read dropped). -/
def rsPut (b : Fin 2) (p : Fin 2) (v : FVec F S1x64x8192 .bf16) : P F PUnit := do
  let _ ← slotLd (rsSnd b) p
  Prog.lift (.store (rsSnd b) (slotR p) v Finset.univ (View.stores_vmem h_S1x64x8192 ((rsSnd_whole b).storeExact_slice rfl _ (packed_bf p)) (fun _ => rfl)) (.inl rfl))
def agPut (b : Fin 2) (p : Fin 2) (v : IVec S1x64x8192 8) : P F PUnit := do
  let _ ← slotLd (agSnd b) p
  Prog.lift (.store (agSnd b) (slotR p) v Finset.univ (View.stores_vmem h_S1x64x8192 ((agSnd_whole b).storeExact_slice rfl _ (packed_i8 p)) (fun _ => rfl)) (.inl rfl))
def stPut (b : Fin 2) (p : Fin 2) (v : FVec F S1x64x8192 .f32) : P F PUnit := do
  let _ ← slotLd (stgM b) p
  Prog.lift (.store (stgM b) (slotR p) v Finset.univ (by
    match b with
    | 0 => exact View.stores_vmem_bits_univ h_S1x64x8192 rfl
    | 1 => exact View.stores_vmem_bits_univ h_S1x64x8192 rfl) (.inl rfl))
def redPut (b : Fin 2) (v : FVec F S64x8192 .f32) : P F PUnit := do
  let _ ← (Prog.lift (.load (redM b) (Rect.unit (s := S64x8192) ![0, 0] S64x8192.size inb_S64x8192_S64x8192_0_0).toLoadRect (View.loadsAt_vmem h_S64x8192)) : P F (Vec F S64x8192 .f32))
  Prog.lift (.store (redM b) (Rect.unit (s := S64x8192) ![0, 0] S64x8192.size inb_S64x8192_S64x8192_0_0) v Finset.univ (by
    match b with
    | 0 => exact View.stores_vmem_bits_univ h_S64x8192 rfl
    | 1 => exact View.stores_vmem_bits_univ h_S64x8192 rfl) (.inl rfl))
def redLd (b : Fin 2) : P F (Vec F S64x8192 .f32) :=
  Prog.lift (.load (redM b) (Rect.unit (s := S64x8192) ![0, 0] S64x8192.size inb_S64x8192_S64x8192_0_0).toLoadRect (View.loadsAt_vmem h_S64x8192))

/-- Start the copy of a send slot into the neighbour's receive slot. -/
def rsGo (b : Fin 2) (p : Fin 2) (d : Dev nD) : P F PUnit :=
  Prog.lift (.enqueueDma (slot (rsSnd b) p) (.remote (Dev.tc d) (slot (rsRcv b) p) (.dma (sem2 (sndS b) p))) (.dma (sem2 (rcvS b) p))
    (wx_bf _ (rsSnd_whole b) p) (wx_bf _ (rsRcv_whole b) p) ⟨⟨rfl, Or.inl rfl⟩, trivial⟩)
def agGo (b : Fin 2) (p : Fin 2) (d : Dev nD) : P F PUnit :=
  Prog.lift (.enqueueDma (slot (agSnd b) p) (.remote (Dev.tc d) (slot (agRcv b) p) (.dma (sem2 (sndS b) p))) (.dma (sem2 (rcvS b) p))
    (wx_i8 _ (agSnd_whole b) p) (wx_i8 _ (agRcv_whole b) p) ⟨⟨rfl, Or.inl rfl⟩, trivial⟩)
/-- Wait for a send slot, then for the receive slot. -/
def rsWait (b : Fin 2) (p : Fin 2) : P F PUnit := do
  Prog.lift (.waitDma2 (sem2 (sndS b) p) (slot (rsRcv b) p) (slot (rsSnd b) p) (wx_bf _ (rsRcv_whole b) p) (wx_bf _ (rsSnd_whole b) p))
  Prog.lift (.waitDma2 (sem2 (rcvS b) p) (slot (rsSnd b) p) (slot (rsRcv b) p) (wx_bf _ (rsSnd_whole b) p) (wx_bf _ (rsRcv_whole b) p))
def agWait (b : Fin 2) (p : Fin 2) : P F PUnit := do
  Prog.lift (.waitDma2 (sem2 (sndS b) p) (slot (agRcv b) p) (slot (agSnd b) p) (wx_i8 _ (agRcv_whole b) p) (wx_i8 _ (agSnd_whole b) p))
  Prog.lift (.waitDma2 (sem2 (rcvS b) p) (slot (agSnd b) p) (slot (agRcv b) p) (wx_i8 _ (agSnd_whole b) p) (wx_i8 _ (agRcv_whole b) p))

/-- The offsets of the rows of the next partial product, per side. -/
def offX (v0 : BitVec 32) : Fin 2 → Nat → Fin 2 → Nat
  | 0, 0 => k0_off1 v0 | 1, 0 => k0_off2 v0
  | 0, s + 1 => k0_off3 v0 (BitVec.ofNat 32 (1 + s)) | 1, s + 1 => k0_off4 v0 (BitVec.ofNat 32 (1 + s))
theorem offX_inb (v0 : BitVec 32) (h : k0_chk3 v0) (b : Fin 2) (s : Nat) (hs : s ≤ 31) : ∀ a, offX v0 b s a + S64x128.size a ≤ S4096x128.size a := by
  match b, s with
  | 0, 0 => exact k0_off1_inb v0 h
  | 1, 0 => exact k0_off2_inb v0 h
  | 0, s + 1 => exact k0_off3_inb v0 h ⟨s, hs⟩
  | 1, s + 1 => exact k0_off4_inb v0 h ⟨s, hs⟩
/-- The partial product step `s` adds, of one side. -/
def part (v0 : BitVec 32) (h : k0_chk3 v0) (b : Fin 2) (s : Nat) (hs : s ≤ 31) : P F (FVec F S64x8192 .f32) := do
  let xa ← (Prog.lift (.load xM (Rect.unit (s := S4096x128) (offX v0 b s) S64x128.size (offX_inb v0 h b s hs)).toLoadRect (View.loadsAt_vmem h_S64x128)) : P F (Vec F S64x128 .bf16))
  let w ← wbLd
  pure (dotV xa w)

/-- The output rows the side's `t`-th half chunk goes to. -/
def offO (v0 : BitVec 32) : Fin 2 → Nat → Fin 2 → Nat
  | 0, 0 => k0_off5 v0 | 1, 0 => k0_off6 v0
  | 0, t + 1 => k0_off7 v0 (BitVec.ofNat 32 t) | 1, t + 1 => k0_off8 v0 (BitVec.ofNat 32 t)
theorem offO_inb (v0 : BitVec 32) (h : k0_chk3 v0) (b : Fin 2) (t : Nat) (ht : t ≤ 31) : ∀ a, offO v0 b t a + S64x8192.size a ≤ S4096x8192.size a := by
  match b, t with
  | 0, 0 => exact k0_off5_inb v0 h
  | 1, 0 => exact k0_off6_inb v0 h
  | 0, t + 1 => exact k0_off7_inb v0 h ⟨t, ht⟩
  | 1, t + 1 => exact k0_off8_inb v0 h ⟨t, ht⟩
abbrev outRows (v0 : BitVec 32) (h : k0_chk3 v0) (b : Fin 2) (t : Nat) (ht : t ≤ 31) : Memref sig .tc .hbm S64x8192 .f32 :=
  outM.slice (Rect.unit (s := S4096x8192) (offO v0 b t) S64x8192.size (offO_inb v0 h b t ht)) (fun _ => rfl)
theorem wx_stg (b p : Fin 2) : (slot (stgM b) p).view.WordExact := by
  match b with
  | 0 => exact (View.wordExact_bits rfl).reshape _ _
  | 1 => exact (View.wordExact_bits rfl).reshape _ _
/-- Start the copy of a staged half chunk to its output rows. -/
def stGo (v0 : BitVec 32) (h : k0_chk3 v0) (b : Fin 2) (t : Nat) (ht : t ≤ 31) : P F PUnit :=
  Prog.lift (.enqueueDma (slot (stgM b) (par t)) (.here (outRows v0 h b t ht)) (.dma (sem2 (stoS b) (par t))) (wx_stg b (par t)) (View.wordExact_bits rfl) ⟨Or.inl rfl, trivial⟩)
def stWait (v0 : BitVec 32) (h : k0_chk3 v0) (b : Fin 2) (t : Nat) (ht : t ≤ 31) : P F PUnit :=
  Prog.lift (.waitDma2 (sem2 (stoS b) (par t)) (slot (stgM b) (par t)) (outRows v0 h b t ht) (wx_stg b (par t)) (View.wordExact_bits rfl))

/-! ## Steps -/

/-- The two neighbours, a side's target first. -/
def nbr (v1 : BitVec 32) (h1 : k0_chk1 v1) (v2 : BitVec 32) (h2 : k0_chk2 v2) : Fin 2 → Dev nD
  | 0 => ⟨k0_dev3 v2, k0_dev3_lt v2 h2⟩ | 1 => ⟨k0_dev4 v1, k0_dev4_lt v1 h1⟩

/-- What a core holds of its scalars. -/
structure Env where
  v0 : BitVec 32
  h0 : k0_chk3 v0
  v1 : BitVec 32
  h1 : k0_chk1 v1
  v2 : BitVec 32
  h2 : k0_chk2 v2
abbrev Env.nb (E : Env) : Fin 2 → Dev nD := nbr E.v1 E.h1 E.v2 E.h2

/-- The running loop: `n` steps from step `s` on. -/
def loop {σ : Type} {N : Nat} (f : (s : Nat) → s < N → σ → P F σ) : (n s : Nat) → s + n ≤ N → σ → P F σ
  | 0, _, _, st => pure st
  | n + 1, s, h, st => f s (by omega) st >>= loop f n (s + 1) (by omega)

/-- Send the two partial sums of step `s`, and form the next two partial products. -/
def rsSend (E : Env) (s : Nat) (hs : s < 31) (st : FVec F S64x8192 .f32 × FVec F S64x8192 .f32) : P F (FVec F S64x8192 .f32 × FVec F S64x8192 .f32) := do
  rsPut 0 (par s) (packV st.1)
  rsPut 1 (par s) (packV st.2)
  rsGo 0 (par s) (E.nb 0)
  rsGo 1 (par s) (E.nb 1)
  let a ← part E.v0 E.h0 0 (s + 1) hs
  let c ← part E.v0 E.h0 1 (s + 1) hs
  rsWait 0 (par s)
  rsWait 1 (par s)
  pure (a, c)
/-- One step of the reduce-scatter: send, wait, add what came. -/
def rsStep (E : Env) (s : Nat) (hs : s < 30) (st : FVec F S64x8192 .f32 × FVec F S64x8192 .f32) : P F (FVec F S64x8192 .f32 × FVec F S64x8192 .f32) := do
  let p ← rsSend E s (by omega) st
  let u ← slotLd (rsRcv 0) (par s)
  let v ← slotLd (rsRcv 1) (par s)
  pure (addf p.1 (unpackV u), addf p.2 (unpackV v))
/-- The last step, which stores the two reduced half chunks. -/
def rsLast (E : Env) (st : FVec F S64x8192 .f32 × FVec F S64x8192 .f32) : P F PUnit := do
  let p ← rsSend E 30 (by omega) st
  let u ← slotLd (rsRcv 0) 0
  redPut 0 (shapeCast S64x8192 (addf (unpackV u) p.1) shapeCasts_S64x8192_S64x8192)
  let v ← slotLd (rsRcv 1) 0
  redPut 1 (shapeCast S64x8192 (addf (unpackV v) p.2) shapeCasts_S64x8192_S64x8192)

/-- The partner a core exchanges with in round `k`, read from the scalars and checked. -/
def chkB (k : Fin 5) (v : BitVec 32) : Prop := match k with
  | 0 => k0_chk4 v | 1 => k0_chk5 v | 2 => k0_chk6 v | 3 => k0_chk7 v | 4 => k0_chk8 v
instance chkB_dec (k : Fin 5) (v : BitVec 32) : Decidable (chkB k v) := match k with
  | 0 => k0_chk4.dec v | 1 => k0_chk5.dec v | 2 => k0_chk6.dec v | 3 => k0_chk7.dec v | 4 => k0_chk8.dec v
theorem chkB_lt (k : Fin 5) (v : BitVec 32) (h : chkB k v) : k0_dev65 v < nD := by
  match k with
  | 0 => exact k0_dev65_lt v h | 1 => exact k0_dev66_lt v h | 2 => exact k0_dev67_lt v h | 3 => exact k0_dev68_lt v h | 4 => exact k0_dev69_lt v h
/-- One exchange of running maxima. -/
def bfStep (s : Nat) (hs : s < 5) (m : F .f32) : P F (F .f32) := do
  let v : Elt F .i32 ← smemLoad scalM (Rect.unit (s := S8) ![3 + s] S1.size (scal_inb ⟨3 + s, by omega⟩)) numel1_S1 rfl
  have h : chkB ⟨s, hs⟩ v := (← Prog.lift (TpuEff.assume (chkB ⟨s, hs⟩ v) (chkB_dec ⟨s, hs⟩ v))).down
  let _ ← (Prog.lift (.load bfSnd (Rect.unit (s := S8x128) ![0, 0] S8x128.size inb_S8x128_S8x128_0_0).toLoadRect (View.loadsAt_vmem h_S8x128)) : P F (Vec F S8x128 .f32))
  Prog.lift (.store bfSnd (Rect.unit (s := S8x128) ![0, 0] S8x128.size inb_S8x128_S8x128_0_0) (blockV m) Finset.univ (View.stores_vmem_bits_univ h_S8x128 rfl) (.inl rfl))
  Prog.lift (.enqueueDma bfSnd (.remote (Dev.tc (⟨k0_dev65 v, chkB_lt _ v h⟩ : Dev nD)) (bfSlot ⟨s, hs⟩) (.dma bfSndS)) (.dma (sem5 cc0_scratch20 ⟨s, hs⟩))
    (Memref.isWhole_whole _).wordExact ((View.wordExact_bits rfl).reshape _ _) ⟨⟨rfl, Or.inl rfl⟩, trivial⟩)
  Prog.lift (.waitDma2 bfSndS (bfSlot ⟨s, hs⟩) bfSnd ((View.wordExact_bits rfl).reshape _ _) (Memref.isWhole_whole _).wordExact)
  Prog.lift (.waitDma2 (sem5 cc0_scratch20 ⟨s, hs⟩) bfSnd (bfSlot ⟨s, hs⟩) (Memref.isWhole_whole _).wordExact ((View.wordExact_bits rfl).reshape _ _))
  let u ← (Prog.lift (.load bfRcv (bfR ⟨s, hs⟩).toLoadRect (View.loadsAt_vmem h_S1x8x128)) : P F (Vec F S1x8x128 .f32))
  pure (Scalar.maximumf m (maxB u))

/-- Send step `t` of the all-gather. -/
def agSend (E : Env) (t : Nat) : P F PUnit := do
  agGo 0 (par t) (E.nb 0)
  agGo 1 (par t) (E.nb 1)
/-- Wait for step `t` of the all-gather and read what came. -/
def agTake (t : Nat) : P F (IVec S64x8192 8 × IVec S64x8192 8) := do
  agWait 0 (par t)
  agWait 1 (par t)
  let u ← slotLd (agRcv 0) (par t)
  let v ← slotLd (agRcv 1) (par t)
  pure (unpack8 u, unpack8 v)
/-- Put the `t`-th half chunks on their way to the output. -/
def stOut (E : Env) (sc : F .f32) (t : Nat) (ht : t ≤ 31) (q : IVec S64x8192 8 × IVec S64x8192 8) : P F PUnit := do
  stPut 0 (par t) (dequantV sc q.1)
  stPut 1 (par t) (dequantV sc q.2)
  stGo E.v0 E.h0 0 t ht
  stGo E.v0 E.h0 1 t ht
/-- Forward what step `t` received as step `t + 1`'s message. -/
def agFwd (t : Nat) (q : IVec S64x8192 8 × IVec S64x8192 8) : P F PUnit := do
  agPut 0 (par t) (pack8 q.1)
  agPut 1 (par t) (pack8 q.2)
/-- Step `t + 2` of the all-gather, both staging slots in use. -/
def agStep (E : Env) (sc : F .f32) (t : Nat) (ht : t < 29) (_ : PUnit) : P F PUnit := do
  let q ← agTake (t + 1)
  agFwd (t + 2) q
  stWait E.v0 E.h0 0 t (by omega)
  stWait E.v0 E.h0 1 t (by omega)
  stOut E sc (t + 2) (by omega) q
  agSend E (t + 2)

/-- From the reduced half chunks to the end. -/
def agAll (E : Env) (m : F .f32) : P F PUnit := do
  let r0 ← redLd 0
  let r1 ← redLd 1
  let sc : F .f32 := Scalar.divf m (Scalar.ofBits .f32 0x42FE0000#32)
  let inv : F .f32 := Scalar.divf (Scalar.ofBits .f32 0x42FE0000#32) m
  let q : IVec S64x8192 8 × IVec S64x8192 8 := (quantV inv r0, quantV inv r1)
  stOut E sc 0 (by omega) q
  agFwd 0 q
  agSend E 0
  let q ← agTake 0
  agFwd 1 q
  stOut E sc 1 (by omega) q
  agSend E 1
  loop (agStep E sc) 29 0 (by omega) ⟨⟩
  let q ← agTake 30
  stWait E.v0 E.h0 0 29 (by omega)
  stWait E.v0 E.h0 1 29 (by omega)
  stOut E sc 31 (by omega) q
  stWait E.v0 E.h0 0 30 (by omega)
  stWait E.v0 E.h0 0 31 (by omega)
  stWait E.v0 E.h0 1 30 (by omega)
  stWait E.v0 E.h0 1 31 (by omega)

/-- The scalars, checked. -/
def readEnv : P F Env := do
  let v0 : Elt F .i32 ← smemLoad scalM (Rect.unit (s := S8) ![0] S1.size inb_S8_S1_0) numel1_S1 rfl
  have h0 : k0_chk3 v0 := (← Prog.lift (TpuEff.assume (k0_chk3 v0) (k0_chk3.dec v0))).down
  let v1 : Elt F .i32 ← smemLoad scalM (Rect.unit (s := S8) ![1] S1.size inb_S8_S1_1) numel1_S1 rfl
  have h1 : k0_chk1 v1 := (← Prog.lift (TpuEff.assume (k0_chk1 v1) (k0_chk1.dec v1))).down
  let v2 : Elt F .i32 ← smemLoad scalM (Rect.unit (s := S8) ![2] S1.size inb_S8_S1_2) numel1_S1 rfl
  have h2 : k0_chk2 v2 := (← Prog.lift (TpuEff.assume (k0_chk2 v2) (k0_chk2.dec v2))).down
  pure ⟨v0, h0, v1, h1, v2, h2⟩
/-- Meet both neighbours. -/
def meet (E : Env) : P F PUnit := do
  semSignalWord (⟨k0_dev1 E.v1, k0_dev1_lt E.v1 E.h1⟩ : Dev nD) barS 1#32
  semSignalWord (⟨k0_dev2 E.v2, k0_dev2_lt E.v2 E.h2⟩ : Dev nD) barS 1#32
  semWaitWord barS 2#32
/-- Keep the weights. -/
def keepW : P F PUnit := do
  let w ← (Prog.lift (.load wM (Rect.unit (s := S128x8192) ![0, 0] S128x8192.size inb_S128x8192_S128x8192_0_0).toLoadRect (View.loadsAt_vmem h_S128x8192)) : P F (Vec F S128x8192 .bf16))
  let _ ← wbLd
  Prog.lift (.store wbM (Rect.unit (s := S128x8192) ![0, 0] S128x8192.size inb_S128x8192_S128x8192_0_0) (shapeCast S128x8192 (shapeCast S128x8192 w shapeCasts_S128x8192_S128x8192 : FVec F S128x8192 .bf16) shapeCasts_S128x8192_S128x8192) Finset.univ (View.stores_vmem h_S128x8192 ((Memref.isWhole_whole _).storeExact_slice rfl _ packedbf16_S128x8192_S128x8192_0_0) (fun _ => rfl)) (.inl rfl))

/-- The whole body. -/
def body : P F PUnit := do
  let E ← readEnv
  meet E
  keepW
  let a ← part E.v0 E.h0 0 0 (by omega)
  let c ← part E.v0 E.h0 1 0 (by omega)
  let st ← loop (rsStep E) 30 0 (by omega) (a, c)
  rsLast E st
  let r0 ← redLd 0
  let r1 ← redLd 1
  let m ← loop bfStep 5 0 (by omega) (Scalar.maximumf (Scalar.maximumf (maxV r0) (maxV r1)) (Scalar.ofBits .f32 0x00000000#32))
  agAll E m

end Cert.KernelIdeal.Ring
-- ==== Proof.IGeo.lean ====
/-
  The mesh as the kernel sees it: ring positions, neighbours, exchange partners; the scalars a core reads; the row
  offsets in closed form; the order in which a core's messages leave.
-/
module

public import proofs.«01_k».proof.Proof.IRolled

@[expose] public section

set_option maxRecDepth 16384

noncomputable section

namespace Cert.KernelIdeal.Ring

open Idealize.ShloMosaic Idealize.ShloMosaic.TcCoe Idealize.SL.Sem
open Cert.KernelIdeal Cert.KernelIdeal.Gen

/-! ## Ring positions -/

/-- A device's position on the ring, and the device at a position. -/
def pos (c : Dev nD) : Fin 32 := ⟨(lit1 c).toNat % 32, Nat.mod_lt _ (by decide)⟩
def dev (p : Fin 32) : Dev nD := ⟨(lit0 p).toNat % 32, Nat.mod_lt _ (by decide)⟩
theorem dev_pos : ∀ c, dev (pos c) = c := by decide +kernel
theorem pos_dev : ∀ p, pos (dev p) = p := by decide +kernel
theorem pos_inj {c d : Dev nD} (h : pos c = pos d) : c = d := by rw [← dev_pos c, h, dev_pos]

/-- The other side. -/
abbrev ob (b : Fin 2) : Fin 2 := 1 - b
theorem ob_ob : ∀ b, ob (ob b) = b := by decide
/-- A side's neighbour: 0 the next on the ring, 1 the one before. -/
def nb (c : Dev nD) (b : Fin 2) : Dev nD := dev (if b = 0 then pos c + 1 else pos c - 1)
theorem nb_ob : ∀ b c, nb (nb c b) (ob b) = c := by decide +kernel
theorem ob_nb : ∀ b c, nb (nb c (ob b)) b = c := by decide +kernel
theorem pos_nb (c : Dev nD) (b : Fin 2) : pos (nb c b) = if b = 0 then pos c + 1 else pos c - 1 := pos_dev _
def nbE (b : Fin 2) : Dev nD ≃ Dev nD := ⟨fun c => nb c b, fun c => nb c (ob b), nb_ob b, ob_nb b⟩
/-- The partner of an exchange round. -/
def pt (c : Dev nD) (k : Fin 5) : Dev nD := ⟨(c.val ^^^ 2 ^ k.val) % 32, Nat.mod_lt _ (by decide)⟩
theorem pt_pt : ∀ k c, pt (pt c k) k = c := by decide +kernel
def ptE (k : Fin 5) : Dev nD ≃ Dev nD := ⟨fun c => pt c k, fun c => pt c k, pt_pt k, pt_pt k⟩

/-! ## The scalars -/

/-- What a core's table of scalars holds. -/
def scal (c : Dev nD) : Fin 8 → BitVec 32
  | 0 => BitVec.ofNat 32 (pos c).val | 1 => BitVec.ofNat 32 (nb c 1).val | 2 => BitVec.ofNat 32 (nb c 0).val
  | 3 => BitVec.ofNat 32 (pt c 0).val | 4 => BitVec.ofNat 32 (pt c 1).val | 5 => BitVec.ofNat 32 (pt c 2).val
  | 6 => BitVec.ofNat 32 (pt c 3).val | 7 => BitVec.ofNat 32 (pt c 4).val
theorem chk3 : ∀ c, k0_chk3 (scal c 0) := by decide +kernel
theorem chk1 : ∀ c, k0_chk1 (scal c 1) := by decide +kernel
theorem chk2 : ∀ c, k0_chk2 (scal c 2) := by decide +kernel
/-- What a core knows of its place. -/
def envOf (c : Dev nD) : Env := ⟨scal c 0, chk3 c, scal c 1, chk1 c, scal c 2, chk2 c⟩
theorem envOf_nb : ∀ c b, (envOf c).nb b = nb c b := by decide +kernel
theorem envOf_dev1 : ∀ c, k0_dev1 (envOf c).v1 = (nb c 1).val := by decide +kernel
theorem envOf_dev2 : ∀ c, k0_dev2 (envOf c).v2 = (nb c 0).val := by decide +kernel
/-- The scalar an exchange round reads. -/
abbrev scB (k : Fin 5) : Fin 8 := ⟨3 + k.val, by omega⟩
theorem chkB_ok : ∀ c k, chkB k (scal c (scB k)) := by decide +kernel
theorem scal_pt : ∀ c k, k0_dev65 (scal c (scB k)) = (pt c k).val := by decide +kernel

/-! ## The row offsets in closed form -/

/-- The chunk of the product a side's step `s` adds, and the chunk a side's `t`-th output rows lie in. -/
def chX (c : Dev nD) (b : Fin 2) (s : Fin 32) : Fin 32 := if b = 0 then pos c - s else pos c + s
def chO (c : Dev nD) (b : Fin 2) (t : Fin 32) : Fin 32 := if b = 0 then pos c + 1 - t else pos c - 1 + t
theorem offX_row : ∀ c b (s : Fin 32), offX (envOf c).v0 b s.val 0 = 128 * (chX c b s).val + 64 * b.val := by decide +kernel
theorem offX_col : ∀ c b (s : Fin 32), offX (envOf c).v0 b s.val 1 = 0 := by decide +kernel
theorem offO_row : ∀ c b (t : Fin 32), offO (envOf c).v0 b t.val 0 = 128 * (chO c b t).val + 64 * b.val := by decide +kernel
theorem offO_col : ∀ c b (t : Fin 32), offO (envOf c).v0 b t.val 1 = 0 := by decide +kernel

/-! ## How far a slot of the exchange travels on the ring -/

/-- The number of steps from a device to its partner, going right. -/
def dist (o : Dev nD) (k : Fin 5) : Nat := ((pos (pt o k)).val + 32 - (pos o).val) % 32
theorem dist_lt (o : Dev nD) (k : Fin 5) : dist o k < 32 := Nat.mod_lt _ (by decide)
theorem dist_pos : ∀ o k, 0 < dist o k := by decide +kernel
/-- The device `s` steps before. -/
def back (c : Dev nD) (s : Nat) : Dev nD := dev (pos c - Fin.ofNat 32 s)
theorem back_zero (c : Dev nD) : back c 0 = c := by revert c; decide +kernel
theorem back_nb (c : Dev nD) (s : Nat) : back (nb c 1) s = back c (s + 1) := by
  unfold back; rw [pos_nb, if_neg (by decide)]
  refine congrArg dev ?_
  generalize pos c = p
  ext; simp only [Fin.sub_def, Fin.ofNat]; have := p.isLt; show _ = _
  rw [show ((1 : Fin 32) : Nat) = 1 from rfl]; omega
theorem back_of_dist (c o : Dev nD) (k : Fin 5) (s : Nat) (hs : s < 32) (ho : o = back c s) : dist o k = s ↔ o = pt c k := by
  subst ho
  have h : ∀ (s : Fin 32) (c : Dev nD) (k : Fin 5), dist (back c s.val) k = s.val ↔ back c s.val = pt c k := by decide +kernel
  exact h ⟨s, hs⟩ c k

end Cert.KernelIdeal.Ring
-- ==== Proof.IVals.lean ====
/-
  The values of the run, as functions of every device's two operands: the partial sums of each step, the reduced half
  chunks, the running maxima, the quantised half chunks, the rows of the result.
-/
module

public import proofs.«01_k».proof.Proof.IGeo

@[expose] public section

set_option maxRecDepth 16384

noncomputable section

namespace Cert.KernelIdeal.Ring

open Idealize.ShloMosaic Idealize.ShloMosaic.TcCoe Idealize.SL.Sem
open Cert.KernelIdeal Cert.KernelIdeal.Gen

variable {F : FTy → Type} [FloatOps F]

/-- Every device's two operands. -/
structure In (F : FTy → Type) where
  x : Dev nD → Vec F S4096x128 .bf16
  w : Dev nD → Vec F S128x8192 .bf16

variable (I : In F)

abbrev wR : Rect S128x8192 := Rect.unit (s := S128x8192) ![0, 0] S128x8192.size inb_S128x8192_S128x8192_0_0
abbrev redR : Rect S64x8192 := Rect.unit (s := S64x8192) ![0, 0] S64x8192.size inb_S64x8192_S64x8192_0_0
abbrev bsR : Rect S8x128 := Rect.unit (s := S8x128) ![0, 0] S8x128.size inb_S8x128_S8x128_0_0

/-- The weights as they are kept. -/
def wbV (c : Dev nD) : Vec F S128x8192 .bf16 :=
  shapeCast S128x8192 (shapeCast S128x8192 ((wM.access wR).read (Elt F) (I.w c)) shapeCasts_S128x8192_S128x8192 : FVec F S128x8192 .bf16) shapeCasts_S128x8192_S128x8192
abbrev xR (c : Dev nD) (b : Fin 2) (s : ℕ) (hs : s ≤ 31) : Rect S4096x128 :=
  Rect.unit (s := S4096x128) (offX (envOf c).v0 b s) S64x128.size (offX_inb (envOf c).v0 (envOf c).h0 b s hs)
/-- The rows of the operand step `s` multiplies. -/
def xRow (c : Dev nD) (b : Fin 2) (s : ℕ) : Vec F S64x128 .bf16 :=
  if hs : s ≤ 31 then (xM.access (xR c b s hs)).read (Elt F) (I.x c) else (xM.access (xR c b 0 (by omega))).read (Elt F) (I.x c)
theorem xRow_eq (c : Dev nD) (b : Fin 2) (s : ℕ) (hs : s ≤ 31) : xRow I c b s = (xM.access (xR c b s hs)).read (Elt F) (I.x c) := dif_pos hs
/-- A device's own partial product of step `s`. -/
def partV (c : Dev nD) (b : Fin 2) (s : ℕ) : FVec F S64x8192 .f32 := dotV (xRow I c b s) (wbV I c)
/-- The partial sum a device sends in step `s`. -/
def psum : ℕ → Dev nD → Fin 2 → FVec F S64x8192 .f32
  | 0, c, b => partV I c b 0
  | s + 1, c, b => addf (partV I c b (s + 1)) (unpackV (packV (psum s (nb c (ob b)) b)))
/-- A device's reduced half chunk. -/
def red (c : Dev nD) (b : Fin 2) : FVec F S64x8192 .f32 :=
  shapeCast S64x8192 (addf (unpackV (packV (psum I 30 (nb c (ob b)) b))) (partV I c b 31)) shapeCasts_S64x8192_S64x8192
/-- The running maximum after `k` exchanges. -/
def mx : ℕ → Dev nD → F .f32
  | 0, c => Scalar.maximumf (Scalar.maximumf (maxV (red I c 0)) (maxV (red I c 1))) (Scalar.ofBits .f32 0x00000000#32)
  | k + 1, c => Scalar.maximumf (mx k c) (maxB (shapeCast S1x8x128 (blockV (mx k (pt c (Fin.ofNat 5 k)))) shapeCasts_S8x128_S1x8x128))
/-- The scale a device dequantises with, and the factor it quantises with. -/
def sc (c : Dev nD) : F .f32 := Scalar.divf (mx I 5 c) (Scalar.ofBits .f32 0x42FE0000#32)
def inv (c : Dev nD) : F .f32 := Scalar.divf (Scalar.ofBits .f32 0x42FE0000#32) (mx I 5 c)
/-- The quantised half chunk a device sends in step `t` of the all-gather. -/
def qv : ℕ → Dev nD → Fin 2 → IVec S64x8192 8
  | 0, c, b => quantV (inv I c) (red I c b)
  | t + 1, c, b => unpack8 (F := F) (pack8 (qv t (nb c (ob b)) b))
/-- The rows a device writes in step `t`. -/
def outV (c : Dev nD) (b : Fin 2) (t : ℕ) : Vec F S64x8192 .f32 :=
  fun i => dequantV (sc I c) (qv I t c b) (Shape.reshapeEquiv squeezes_S1x64x8192_S64x8192.numel_eq i)

/-- The output rows of step `t`. -/
abbrev outRows' (c : Dev nD) (b : Fin 2) (t : ℕ) (ht : t ≤ 31) : Memref sig .tc .hbm S64x8192 .f32 := outRows (envOf c).v0 (envOf c).h0 b t ht
def outW (c : Dev nD) (b : Fin 2) (t : ℕ) : Memref sig .tc .hbm S64x8192 .f32 :=
  if ht : t ≤ 31 then outRows' c b t ht else outRows' c b 0 (by omega)
theorem outW_eq (c : Dev nD) (b : Fin 2) (t : ℕ) (ht : t ≤ 31) : outW c b t = outRows' c b t ht := dif_pos ht

end Cert.KernelIdeal.Ring
-- ==== Proof.ISched.lean ====
/-
  The schedule of the kernel's semaphores: whose cell a semaphore is, how many rounds it has, what each round's units
  hand to the cell's owner; a core's messages in the order it sends them, which is the order it waits in; what a core
  owes at launch.
-/
module

public import proofs.«01_k».proof.Proof.IVals
public import Idealize.ShloMosaic.Lib.Rounds
public import Idealize.ShloMosaic.Lib.Pipeline.Kit
public import Idealize.ShloMosaic.Lib.Pipeline.Regions
public import Idealize.SL.BI.BigOpNat

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The protocol's algebra beside the pipeline library's. -/
abbrev UU : Type := UR sig nD τ × URounds (GSem nD τ sig) (Fin 2)
local notation "𝕄" => MT nD τ sig ℕ (Elt F) ℕ UU ℕ
abbrev ER : Emb (URounds (GSem nD τ sig) (Fin 2)) (MT nD τ sig ℕ (Elt F) ℕ UU ℕ) := embR

/-! ## Holding the elements under a view -/

/-- The elements under a view, reading `x` through it. -/
def holds {sp : Space} {s : Shape} {e : EltTy} (v : View sig .tc sp s e) (c : Dev nD) (x : s.Idx → Elt F e) : sProp 𝕄 :=
  iprop(∃ f, ⌜v.read (Elt F) f = x⌝ ∗ (v.loc (c : Thread nD τ) ↦[v.set]{fullShare} f))
/-- The elements under a view, at contents not chosen. -/
def anyV {sp : Space} {s : Shape} {e : EltTy} (v : View sig .tc sp s e) (c : Dev nD) : sProp 𝕄 :=
  iprop(∃ f, (v.loc (c : Thread nD τ) ↦[v.set]{fullShare} f))

instance holds_storable {sp : Space} {s : Shape} {e : EltTy} (v : View sig .tc sp s e) (c : Dev nD) (x : s.Idx → Elt F e) :
    BI.Storable (upEmb : UEmb _ 𝕄) (holds v c x) := by unfold holds; infer_instance
instance anyV_storable {sp : Space} {s : Shape} {e : EltTy} (v : View sig .tc sp s e) (c : Dev nD) :
    BI.Storable (upEmb : UEmb _ 𝕄) (anyV (F := F) v c) := by unfold anyV; infer_instance

theorem holds_any {sp : Space} {s : Shape} {e : EltTy} (v : View sig .tc sp s e) (c : Dev nD) (x : s.Idx → Elt F e) :
    (holds v c x : sProp 𝕄) ⊢ anyV v c := by
  unfold holds anyV; iintro ⟨%f, -, H⟩; iexists f; iexact H
/-- The same elements, indexed by a shape with as many. -/
theorem holds_reshape {sp : Space} {s s' : Shape} {e : EltTy} (v : View sig .tc sp s e) (h : s'.numel = s.numel) (c : Dev nD) (x : s.Idx → Elt F e) :
    (holds v c x : sProp 𝕄) = holds (v.reshape s' h) c (fun i => x (Shape.reshapeEquiv h i)) := by
  unfold holds
  rw [View.set_reshape]
  refine equiv_iff.mp ⟨(?_ : (_ : sProp 𝕄) ⊢ _), (?_ : (_ : sProp 𝕄) ⊢ _)⟩
  · iintro ⟨%f, %hf, H⟩
    iexists f; isplitr
    · ipureintro; subst hf; rfl
    iexact H
  · iintro ⟨%f, %hf, H⟩
    iexists f; isplitr
    · ipureintro
      funext j
      have := congrFun hf ((Shape.reshapeEquiv h).symm j)
      rw [Equiv.apply_symm_apply] at this
      rw [← this]
      show _ = v.read (Elt F) f (Shape.reshapeEquiv h ((Shape.reshapeEquiv h).symm j))
      rw [Equiv.apply_symm_apply]
    iexact H
theorem any_reshape {sp : Space} {s s' : Shape} {e : EltTy} (v : View sig .tc sp s e) (h : s'.numel = s.numel) (c : Dev nD) :
    (anyV (F := F) v c : sProp 𝕄) = anyV (v.reshape s' h) c := by
  unfold anyV
  rw [View.set_reshape]

/-- A slot of a two-slot buffer. -/
abbrev slotAt {e : EltTy} (M : Memref sig .tc .vmem S2x64x8192 e) (p : Fin 2) (c : Dev nD) (x : Vec F S1x64x8192 e) : sProp 𝕄 :=
  holds (M.access (slotR p)) c x
abbrev slotAny {e : EltTy} (M : Memref sig .tc .vmem S2x64x8192 e) (p : Fin 2) (c : Dev nD) : sProp 𝕄 := anyV (F := F) (M.access (slotR p)) c
/-- A slot of the exchange buffer. -/
abbrev bfAt (k : Fin 5) (c : Dev nD) (x : Vec F S1x8x128 .f32) : sProp 𝕄 := holds (bfRcv.access (bfR k)) c x
abbrev bfAny (k : Fin 5) (c : Dev nD) : sProp 𝕄 := anyV (F := F) (bfRcv.access (bfR k)) c

/-! ## Cells -/

inductive Role | bar | snd (b p : Fin 2) | rcv (b p : Fin 2) | bfS | bfR (k : Fin 5) | sto (b p : Fin 2) | other
  deriving DecidableEq

def roleN : ℕ → Role
  | 3 => .snd 0 0 | 4 => .snd 0 1 | 5 => .rcv 0 0 | 6 => .rcv 0 1 | 7 => .snd 1 0 | 8 => .snd 1 1 | 9 => .rcv 1 0 | 10 => .rcv 1 1
  | 11 => .bfS | 12 => .bfR 0 | 13 => .bfR 1 | 14 => .bfR 2 | 15 => .bfR 3 | 16 => .bfR 4
  | 17 => .sto 0 0 | 18 => .sto 0 1 | 19 => .sto 1 0 | 20 => .sto 1 1 | _ => .other
/-- What a semaphore is for. -/
def role : SemLoc sig → Role
  | .reg _ => .bar
  | .dma s => roleN s.val

abbrev smBar : SemLoc sig := .reg barS
abbrev smS (b p : Fin 2) : SemLoc sig := .dma (sem2 (sndS b) p)
abbrev smR (b p : Fin 2) : SemLoc sig := .dma (sem2 (rcvS b) p)
abbrev smO (b p : Fin 2) : SemLoc sig := .dma (sem2 (stoS b) p)
abbrev smF : SemLoc sig := .dma bfSndS
abbrev smB (k : Fin 5) : SemLoc sig := .dma (sem5 cc0_scratch20 k)

theorem role_bar : role smBar = .bar := rfl
theorem role_S : ∀ b p, role (smS b p) = .snd b p := by decide
theorem role_R : ∀ b p, role (smR b p) = .rcv b p := by decide
theorem role_O : ∀ b p, role (smO b p) = .sto b p := by decide
theorem role_F : role smF = .bfS := by decide
theorem role_B : ∀ k, role (smB k) = .bfR k := by decide

abbrev cell (c : Dev nD) (sm : SemLoc sig) : GSem nD τ sig := ((c : Thread nD τ), sm)

/-- The first round of a slot that belongs to the all-gather. -/
def base (p : Fin 2) : ℕ := if p = 0 then 16 else 15
def nR : Role → ℕ
  | .bar => 1 | .snd _ p => 2 * base p | .rcv _ p => 2 * base p | .bfS => 5 | .bfR _ => 1 | .sto _ _ => 16 | .other => 0
/-- The round step `s` of the reduce-scatter, of the all-gather, is in its slot's cells. -/
abbrev rR (s : ℕ) : ℕ := s / 2
abbrev aR (t : ℕ) : ℕ := t / 2 + base (par t)

@[irreducible] def Nbf : ℕ := (slot (rsRcv 0) 0).view.dmaCredit
@[irreducible] def Ni8 : ℕ := (slot (agRcv 0) 0).view.dmaCredit
@[irreducible] def Nst : ℕ := (outRows' 0 0 0 (by omega)).view.dmaCredit
@[irreducible] def Nb : ℕ := (bfSlot 0).view.dmaCredit
theorem Nbf_pos : 0 < Nbf := by
  unfold Nbf; exact View.dmaCredit_pos _ (by decide)
theorem Ni8_pos : 0 < Ni8 := by
  unfold Ni8; exact View.dmaCredit_pos _ (by decide)
theorem Nst_pos : 0 < Nst := by
  unfold Nst; exact View.dmaCredit_pos _ (by decide)
theorem Nb_pos : 0 < Nb := by
  unfold Nb; exact View.dmaCredit_pos _ (by decide)
def amR : Role → ℕ → ℕ
  | .bar, _ => 1
  | .snd _ p, r => if r < base p then Nbf else Ni8
  | .rcv _ p, r => if r < base p then Nbf else Ni8
  | .bfS, _ => Nb | .bfR _, _ => Nb | .sto _ _, _ => Nst | .other, _ => 1
theorem amR_pos (ρ : Role) (r : ℕ) : 0 < amR ρ r := by
  have h (p : Prop) [Decidable p] : 0 < if p then Nbf else Ni8 := by split; exacts [Nbf_pos, Ni8_pos]
  cases ρ
  exacts [Nat.one_pos, h _, h _, Nb_pos, Nb_pos, Nst_pos, Nat.one_pos]

/-! ## What each round hands over -/

/-- Device `d`'s receive slot of step `s` on side `b`, free, its round reached. -/
def rsPermit (b : Fin 2) (d : Dev nD) (s : ℕ) : sProp 𝕄 := iprop(slotAny (F := F) (rsRcv b) (par s) d ∗ reached ER (cell d (smR b (par s))) (rR s))
def agPermit (b : Fin 2) (d : Dev nD) (t : ℕ) : sProp 𝕄 := iprop(slotAny (F := F) (agRcv b) (par t) d ∗ reached ER (cell d (smR b (par t))) (aR t))
/-- Of device `o`'s exchange slots, those that after `s` steps have not reached the device that writes them. -/
def fwd (s : ℕ) (o : Dev nD) : sProp 𝕄 :=
  bigSep Finset.univ fun k : Fin 5 => if s < dist o k then iprop(bfAny (F := F) k o ∗ reached ER (cell o (smB k)) 0) else iprop(emp)
/-- Of the exchange slots device `c` writes, those that have reached it after `s` steps. -/
def got (c : Dev nD) (s : ℕ) : sProp 𝕄 :=
  bigSep Finset.univ fun k : Fin 5 => if dist (pt c k) k ≤ s then iprop(bfAny (F := F) k (pt c k) ∗ reached ER (cell (pt c k) (smB k)) 0) else iprop(emp)
/-- Device `d` has finished the reduce-scatter. -/
def ready (d : Dev nD) : sProp 𝕄 := iprop(reached ER (cell d (smR 0 0)) 16 ∗ reached ER (cell d (smR 1 0)) 16)
/-- Who is known to have finished after `k` exchanges. -/
def facts : ℕ → Dev nD → sProp 𝕄
  | 0, d => ready d
  | k + 1, d => iprop(facts k d ∗ facts k (pt d (Fin.ofNat 5 k)))

variable (I : In F)

def rsPay (c : Dev nD) (b : Fin 2) (s : ℕ) : sProp 𝕄 :=
  iprop(slotAt (rsRcv b) (par s) c (packV (psum I s (nb c (ob b)) b))
    ∗ (if s < 30 then rsPermit (ob b) (nb c (ob b)) (s + 1) else iprop(emp))
    ∗ (if b = 0 then fwd s (back (nb c (ob b)) s) else iprop(emp)))
def agPay (c : Dev nD) (b : Fin 2) (t : ℕ) : sProp 𝕄 :=
  iprop(slotAt (agRcv b) (par t) c (pack8 (qv I t (nb c (ob b)) b))
    ∗ (if t < 30 then agPermit (ob b) (nb c (ob b)) (t + 1) else iprop(emp)))
def barPay (c : Dev nD) (b : Fin 2) : sProp 𝕄 := iprop(rsPermit b (nb c b) 0 ∗ slotAny (F := F) (agRcv b) 0 (nb c b))
def bfPay (c : Dev nD) (k : Fin 5) : sProp 𝕄 :=
  iprop(bfAt k c (shapeCast S1x8x128 (blockV (mx I k.val (pt c k))) shapeCasts_S8x128_S1x8x128) ∗ facts k.val (pt c k))
def stoPay (c : Dev nD) (b p : Fin 2) (t : ℕ) : sProp 𝕄 := iprop(holds (outW c b t).view c (outV I c b t) ∗ slotAny (F := F) (stgM b) p c)

def pay (c : Dev nD) (r : ℕ) (d : Fin 2) : Role → sProp 𝕄
  | .bar => barPay c d
  | .snd b p => if r < base p then slotAny (F := F) (rsSnd b) p c else slotAny (F := F) (agSnd b) p c
  | .rcv b p => if r < base p then rsPay I c b (2 * r + p.val) else agPay I c b (2 * (r - base p) + p.val)
  | .bfS => anyV (F := F) bfSnd.view c
  | .bfR k => bfPay I c k
  | .sto b p => stoPay I c b p (2 * r + p.val)
  | .other => iprop(emp)

instance reached_st (g : GSem nD τ sig) (r : ℕ) : BI.Storable (upEmb : UEmb _ 𝕄) (reached ER g r) := by infer_instance
instance rsPermit_st (b : Fin 2) (d : Dev nD) (s : ℕ) : BI.Storable (upEmb : UEmb _ 𝕄) (rsPermit b d s) := by unfold rsPermit; infer_instance
instance agPermit_st (b : Fin 2) (d : Dev nD) (s : ℕ) : BI.Storable (upEmb : UEmb _ 𝕄) (agPermit b d s) := by unfold agPermit; infer_instance
instance ite_st (p : Prop) [Decidable p] (A B : sProp 𝕄) [BI.Storable (upEmb : UEmb _ 𝕄) A] [BI.Storable (upEmb : UEmb _ 𝕄) B] :
    BI.Storable (upEmb : UEmb _ 𝕄) (if p then A else B) := by split <;> infer_instance
instance fwd_st (s : ℕ) (o : Dev nD) : BI.Storable (upEmb : UEmb _ 𝕄) (fwd s o) := by unfold fwd; infer_instance
instance ready_st (d : Dev nD) : BI.Storable (upEmb : UEmb _ 𝕄) (ready d) := by unfold ready; infer_instance
instance facts_st (k : ℕ) (d : Dev nD) : BI.Storable (upEmb : UEmb _ 𝕄) (facts k d) := by
  induction k generalizing d with
  | zero => unfold facts; infer_instance
  | succ k ih => unfold facts; have := ih d; have := ih (pt d (Fin.ofNat 5 k)); infer_instance
instance ready_pers (d : Dev nD) : BI.Persistent (ready d : sProp 𝕄) := by unfold ready; infer_instance
instance facts_pers (k : ℕ) (d : Dev nD) : BI.Persistent (facts k d : sProp 𝕄) := by
  induction k generalizing d with
  | zero => unfold facts; infer_instance
  | succ k ih => unfold facts; have := ih d; have := ih (pt d (Fin.ofNat 5 k)); infer_instance
instance pay_st (c : Dev nD) (r : ℕ) (d : Fin 2) (ρ : Role) : BI.Storable (upEmb : UEmb _ 𝕄) (pay I c r d ρ) := by
  cases ρ <;> unfold pay <;> (try unfold rsPay agPay) <;> (try unfold barPay) <;> (try unfold bfPay) <;> (try unfold stoPay) <;> infer_instance

/-- The schedule: on every core's cells, its rounds one after the other; two duties on the barrier, one elsewhere. -/
def Rd : Rounds.Schedule (GSem nD τ sig) (Fin 2) 𝕄 where
  duties g r := if g.1.2 = .tc ∧ r < nR (role g.2) then (if role g.2 = .bar then Finset.univ else {0}) else ∅
  unitless _ := False
  amount g r _ := amR (role g.2) r
  payload g r d := pay I g.1.1 r d (role g.2)
  amount_pos g r _ _ := amR_pos _ r

instance Rd_st (g : GSem nD τ sig) (r : ℕ) (d : Fin 2) : BI.Storable (upEmb : UEmb _ 𝕄) ((Rd I).payload g r d) := pay_st I _ _ _ _

theorem Rd_payload (c : Dev nD) (sm : SemLoc sig) (r : ℕ) (d : Fin 2) : (Rd I).payload (cell c sm) r d = pay I c r d (role sm) := rfl
theorem Rd_amount (c : Dev nD) (sm : SemLoc sig) (r : ℕ) (d : Fin 2) : (Rd I).amount (cell c sm) r d = amR (role sm) r := rfl
theorem Rd_duties (c : Dev nD) (sm : SemLoc sig) (r : ℕ) (h : r < nR (role sm)) (hb : role sm ≠ .bar) : (Rd I).duties (cell c sm) r = {0} := by
  dsimp only [Rd]; rw [if_pos ⟨rfl, h⟩, if_neg hb]
theorem Rd_duties_bar (c : Dev nD) : (Rd I).duties (cell c smBar) 0 = Finset.univ := by
  dsimp only [Rd]; rw [if_pos (show (_ : Prop) ∧ _ from ⟨rfl, by decide⟩), if_pos (show role smBar = .bar from rfl)]
theorem Rd_later (c : Dev nD) (sm : SemLoc sig) : ∀ r, nR (role sm) ≤ r → (Rd I).duties (cell c sm) r = ∅ := fun r hr => by
  dsimp only [Rd]; rw [if_neg (fun h => by have := h.2; omega)]
theorem Rd_expect (c : Dev nD) (sm : SemLoc sig) (r : ℕ) (h : r < nR (role sm)) (hb : role sm ≠ .bar) : (Rd I).expect (cell c sm) r = amR (role sm) r := by
  unfold Schedule.expect Schedule.amountOf; rw [Rd_duties I c sm r h hb, Finset.sum_singleton]; rfl
theorem Rd_expect_bar (c : Dev nD) : (Rd I).expect (cell c smBar) 0 = 2 := by
  unfold Schedule.expect Schedule.amountOf; rw [Rd_duties_bar]; rfl
theorem Rd_rest (c : Dev nD) (sm : SemLoc sig) (r : ℕ) (h : r < nR (role sm)) (hb : role sm ≠ .bar) :
    bigSep ((Rd I).duties (cell c sm) r \ ∅) (fun d => (Rd I).payload (cell c sm) r d) = pay I c r 0 (role sm) := by
  rw [Finset.sdiff_empty, Rd_duties I c sm r h hb, bigSep_singleton]; rfl
theorem Rd_rest_bar (c : Dev nD) :
    bigSep ((Rd I).duties (cell c smBar) 0 \ ∅) (fun d => (Rd I).payload (cell c smBar) 0 d) = iprop(barPay c 0 ∗ barPay c 1) := by
  rw [Finset.sdiff_empty, Rd_duties_bar, bigSep_fin_two]; rfl

/-! ## The messages of a core, in order -/

inductive Msg | bar (b : Fin 2) | rs (b : Fin 2) (s : ℕ) | bf (k : Fin 5) | ag (b : Fin 2) (t : ℕ)

def kd (j : ℕ) : Msg :=
  if j < 2 then .bar (par j) else if j < 64 then .rs (par j) ((j - 2) / 2) else if j < 69 then .bf (Fin.ofNat 5 (j - 64)) else .ag (par (j + 1)) ((j - 69) / 2)
theorem kd_bar (b : Fin 2) : kd b.val = .bar b := by revert b; intro b; match b with | 0 => rfl | 1 => rfl
theorem kd_rs (b : Fin 2) (s : ℕ) (hs : s < 31) : kd (2 + 2 * s + b.val) = .rs b s := by
  have hb := b.isLt
  unfold kd; rw [if_neg (by omega), if_pos (by omega)]
  exact congrArg₂ Msg.rs (Fin.ext (by show (2 + 2 * s + b.val) % 2 = b.val; omega)) (by omega)
theorem kd_bf (k : Fin 5) : kd (64 + k.val) = .bf k := by
  have hk := k.isLt
  unfold kd; rw [if_neg (by omega), if_neg (by omega), if_pos (by omega)]
  exact congrArg Msg.bf (Fin.ext (by show (64 + k.val - 64) % 5 = k.val; omega))
theorem kd_ag (b : Fin 2) (t : ℕ) (ht : t < 31) : kd (69 + 2 * t + b.val) = .ag b t := by
  have hb := b.isLt
  unfold kd; rw [if_neg (by omega), if_neg (by omega), if_neg (by omega)]
  exact congrArg₂ Msg.ag (Fin.ext (by show (69 + 2 * t + b.val + 1) % 2 = b.val; omega)) (by omega)

namespace Msg
def dst (c : Dev nD) : Msg → Dev nD
  | .bar b => nb c (ob b) | .rs b _ => nb c b | .bf k => pt c k | .ag b _ => nb c b
def sm : Msg → SemLoc sig
  | .bar _ => smBar | .rs b s => smR b (par s) | .bf k => smB k | .ag b t => smR b (par t)
def rd : Msg → ℕ
  | .bar _ => 0 | .rs _ s => rR s | .bf _ => 0 | .ag _ t => aR t
def du : Msg → Fin 2
  | .bar b => b | .rs _ _ => 0 | .bf _ => 0 | .ag _ _ => 0
def am : Msg → ℕ
  | .bar _ => 1 | .rs _ _ => Nbf | .bf _ => Nb | .ag _ _ => Ni8
def lvl : Msg → ℕ
  | .bar _ => 1 | .rs _ s => 2 + s | .bf k => 33 + k.val | .ag _ t => 38 + t
/-- The sender's own cell and round of the message. -/
def osm : Msg → SemLoc sig
  | .bar _ => smBar | .rs b s => smS b (par s) | .bf _ => smF | .ag b t => smS b (par t)
def ord : Msg → ℕ
  | .bar _ => 0 | .rs _ s => rR s | .bf k => k.val | .ag _ t => aR t
end Msg

/-- The tokens a message is paid with. -/
def tok (c : Dev nD) (m : Msg) : sProp 𝕄 := dutyTok ER (cell (m.dst c) m.sm) m.rd m.du
def otok (c : Dev nD) : Msg → sProp 𝕄
  | .bar _ => iprop(emp)
  | m => dutyTok ER (cell c m.osm) m.ord 0
/-- What the receiver of a message waits with. -/
def tl (c : Dev nD) (m : Msg) : CellTallies nD τ sig ℕ := tallyAt (cell c m.sm) m.lvl m.am
def inc (c : Dev nD) (m : Msg) : sProp 𝕄 := cred (tl c m)

/-- What a core owes with its messages from `n` on unsent. -/
def O (c : Dev nD) (n : ℕ) : CellTallies nD τ sig ℕ := ∑ j ∈ Finset.Ico n 131, tl ((kd j).dst c) (kd j)
theorem O_succ (c : Dev nD) (n : ℕ) (m : Msg) (hn : n < 131) (hm : kd n = m) : O c n = O c (n + 1) + tl (m.dst c) m := by
  unfold O
  rw [← hm, show Finset.Ico n 131 = insert n (Finset.Ico (n + 1) 131) from by ext; simp only [Finset.mem_insert, Finset.mem_Ico]; omega, Finset.sum_insert (by simp), add_comm]
theorem O_end (c : Dev nD) : O c 131 = 0 := by unfold O; simp

/-- One resource for every message from `n` on. -/
def todo (Φ : Msg → sProp 𝕄) (n : ℕ) : sProp 𝕄 := bigSep (Finset.Ico n 131) fun j => Φ (kd j)
theorem todo_succ (Φ : Msg → sProp 𝕄) (n : ℕ) (m : Msg) (hn : n < 131) (hm : kd n = m) : todo Φ n = iprop(Φ m ∗ todo Φ (n + 1)) := by
  unfold todo; rw [bigSep_Ico_succ_bot hn, hm]
theorem todo_end (Φ : Msg → sProp 𝕄) : todo Φ 131 = iprop(emp) := by unfold todo; rw [Finset.Ico_self]; exact bigSep_empty

/-! ## Levels -/

def L (g : GSem nD τ sig) : Finset ℕ := if g.1.2 = .tc then Finset.range 100 else ∅
def lv (g : GSem nD τ sig) (ι : ℕ) : ℕ := ι
theorem L_of_ne (g : GSem nD τ sig) (h : g.1.2 ≠ .tc) : L g = ∅ := if_neg h
theorem L_tc (c : Dev nD) (sm : SemLoc sig) : L (cell c sm) = Finset.range 100 := if_pos rfl

theorem lvl_kd (j : ℕ) (hj : j < 131) : (kd j).lvl = if j < 2 then 1 else if j < 64 then 2 + (j - 2) / 2 else if j < 69 then 33 + (j - 64) else 38 + (j - 69) / 2 := by
  unfold kd
  by_cases h1 : j < 2
  · rw [if_pos h1, if_pos h1]; rfl
  rw [if_neg h1, if_neg h1]
  by_cases h2 : j < 64
  · rw [if_pos h2, if_pos h2]; rfl
  rw [if_neg h2, if_neg h2]
  by_cases h3 : j < 69
  · rw [if_pos h3, if_pos h3]; show 33 + (j - 64) % 5 = _; omega
  rw [if_neg h3, if_neg h3]; rfl

theorem O_pos {c : Dev nD} {n : ℕ} {g : GSem nD τ sig} {u : ℕ} (h : 0 < O c n g u) :
    ∃ j, n ≤ j ∧ j < 131 ∧ g = cell ((kd j).dst c) (kd j).sm ∧ u = (kd j).lvl := by
  by_contra hc
  have h0 : ∀ j ∈ Finset.Ico n 131, (tl ((kd j).dst c) (kd j)) g u = 0 := fun j hj => by
    rw [Finset.mem_Ico] at hj
    by_contra h1
    obtain ⟨h2, h3⟩ := Pipeline.tallyAt_pos (Nat.pos_of_ne_zero h1)
    exact hc ⟨j, hj.1, hj.2, h2, h3⟩
  unfold O at h
  rw [Finset.sum_apply, Finsupp.finset_sum_apply, Finset.sum_eq_zero h0] at h
  exact absurd h (Nat.lt_irrefl 0)

/-- A wait at level `ι` with every unsent message above it. -/
theorem mayWait (c : Dev nD) (sm : SemLoc sig) (ι n : ℕ) (hι : ι < 100) (hn : ∀ j, n ≤ j → j < 131 → ι < (kd j).lvl) :
    (levAts L lv : sProp 𝕄) ⊢ MayWait (c : Thread nD τ) sm ι (O c n) :=
  MayOwe.of_cut (L := L) (lev := lv) ι (fun p hp => by rw [Finset.mem_singleton.mp hp, L_tc]; exact Finset.mem_range.mpr hι)
    (fun g u hg => by
      obtain ⟨j, h1, h2, rfl, rfl⟩ := O_pos hg
      rw [L_tc, Finset.mem_range, lvl_kd j h2]; split_ifs <;> omega)
    (fun p hp => by rw [Finset.mem_singleton.mp hp]; exact le_refl _)
    (fun g u hg => by
      obtain ⟨j, h1, h2, rfl, rfl⟩ := O_pos hg
      exact hn j h1 h2)

end Cert.KernelIdeal.Ring
-- ==== Proof.IRules.lean ====
/-
  The rules a core's phases are proved by: loads, stores, copies and waits over the elements a view holds, with what a
  core knows of every cell (its invariant, its level) and what it still has to send.
-/
module

public import proofs.«01_k».proof.Proof.ISched

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig ℕ (Elt F) ℕ UU ℕ

abbrev 𝒱₀ : Variants := Variants.none

/-- A core's program run to `K`. -/
def wpc {α : Type} (c : Dev nD) (p : P F α) (K : α → sProp 𝕄) : sProp 𝕄 :=
  wp frame (wpE (defs₀ (F := F)) 𝒱₀ (c : Thread nD τ) none) Set.univ p K

variable {α β : Type} (c : Dev nD)

theorem wpc_bind (p : P F α) (k : α → P F β) (K : β → sProp 𝕄) : wpc c (p >>= k) K = wpc c p (fun a => wpc c (k a) K) := wp_bind _ _ _ p k K
theorem wpc_ret (a : α) (K : α → sProp 𝕄) : K a ⊢ wpc c (.ret a) K := by
  unfold wpc; rw [wp_ret]; exact BI.fupd_intro
theorem wpc_pure (a : α) (K : α → sProp 𝕄) : K a ⊢ wpc c (pure a) K := wpc_ret c a K

/-! ## Loads and stores -/

theorem ld_rule {cs : CoreSpace} {s : Shape} {e : EltTy} (m : Memref sig .tc cs s e) (r : Rect s) (hl : m.view.LoadsAt r.toLoadRect)
    (x : r.shape.Idx → Elt F e) (K : (r.shape.Idx → Elt F e) → sProp 𝕄) :
    holds (m.access r) c x ⊢ iprop((holds (m.access r) c x -∗ K x) -∗ wpc c (Prog.lift (.load m r.toLoadRect hl)) K) := by
  unfold holds wpc
  iintro ⟨%f, %hf, H⟩ Hk
  iapply (wp_load_rect 𝒱₀ (c : Thread nD τ) none Set.univ (m := m) (r := r) (S := (m.access r).set) (subset_refl _)) $$ [H]
  · iexact H
  iintro H
  rw [wp_ret]
  imodintro
  subst hf
  iapply Hk
  iexists f; isplitr; · ipureintro; rfl
  iexact H
theorem ld_any {cs : CoreSpace} {s : Shape} {e : EltTy} (m : Memref sig .tc cs s e) (r : Rect s) (hl : m.view.LoadsAt r.toLoadRect)
    (K : (r.shape.Idx → Elt F e) → sProp 𝕄) :
    anyV (F := F) (m.access r) c ⊢ iprop((∀ x, anyV (F := F) (m.access r) c -∗ K x) -∗ wpc c (Prog.lift (.load m r.toLoadRect hl)) K) := by
  unfold anyV wpc
  iintro ⟨%f, H⟩ Hk
  iapply (wp_load_rect 𝒱₀ (c : Thread nD τ) none Set.univ (m := m) (r := r) (S := (m.access r).set) (subset_refl _)) $$ [H]
  · iexact H
  iintro H
  rw [wp_ret]
  imodintro
  iapply Hk
  iexists f; iexact H
/-- A load of part of a buffer held whole. -/
theorem ld_whole {cs : CoreSpace} {s : Shape} {e : EltTy} (m : Memref sig .tc cs s e) (r : Rect s) (hl : m.view.LoadsAt r.toLoadRect)
    (f : Buf (Elt F) ((m.access r).loc (c : Thread nD τ))) (K : (r.shape.Idx → Elt F e) → sProp 𝕄) :
    ((m.access r).loc (c : Thread nD τ) ↦[Finset.univ]{fullShare} f)
      ⊢ iprop((((m.access r).loc (c : Thread nD τ) ↦[Finset.univ]{fullShare} f) -∗ K ((m.access r).read (Elt F) f)) -∗ wpc c (Prog.lift (.load m r.toLoadRect hl)) K) := by
  unfold wpc
  iintro H Hk
  iapply (wp_load_rect 𝒱₀ (c : Thread nD τ) none Set.univ (m := m) (r := r) (S := Finset.univ) (Finset.subset_univ _)) $$ [H]
  · iexact H
  iintro H
  rw [wp_ret]
  imodintro
  iapply Hk
  iexact H
theorem st_rule {cs : CoreSpace} {s : Shape} {e : EltTy} (m : Memref sig .tc cs s e) (r : Rect s) (x : r.shape.Idx → Elt F e)
    (hx : (m.access r).Stores Finset.univ) (hm : Finset.univ = Finset.univ ∨ ∀ a, r.stride a = 1) (K : PUnit → sProp 𝕄) :
    anyV (F := F) (m.access r) c ⊢ iprop((holds (m.access r) c x -∗ K ⟨⟩) -∗ wpc c (Prog.lift (.store m r x Finset.univ hx hm)) K) := by
  unfold anyV holds wpc
  iintro ⟨%f, H⟩ Hk
  iapply (wp_store 𝒱₀ (c : Thread nD τ) none Set.univ (m := m) (r := r) (S := (m.access r).set) (by rw [View.setOn_univ])) $$ [H]
  · iexact H
  iintro H
  rw [wp_ret]
  imodintro
  iapply Hk
  iexists ((m.access r).write (Elt F) f x Finset.univ); isplitr
  · ipureintro; exact View.read_write_univ _ _
  iexact H
/-- Read a slot and store into it. -/
theorem put_rule {cs : CoreSpace} {s : Shape} {e : EltTy} (m : Memref sig .tc cs s e) (r : Rect s) (hl : m.view.LoadsAt r.toLoadRect) (x : r.shape.Idx → Elt F e)
    (hx : (m.access r).Stores Finset.univ) (hm : Finset.univ = Finset.univ ∨ ∀ a, r.stride a = 1) (K : PUnit → sProp 𝕄) :
    anyV (F := F) (m.access r) c ⊢ iprop((holds (m.access r) c x -∗ K ⟨⟩)
      -∗ wpc c (Prog.lift (.load m r.toLoadRect hl) >>= fun _ => Prog.lift (.store m r x Finset.univ hx hm)) K) := by
  rw [wpc_bind]
  iintro H Hk
  iapply (ld_any c m r hl) $$ [H]
  · iexact H
  iintro %y H
  iapply (st_rule c m r x hx hm) $$ [H]
  · iexact H
  iexact Hk

/-- What a copy leaves under its destination. -/
theorem holds_landed {sp : Space} {s : Shape} {e : EltTy} (v : View sig .tc sp s e) (fd : Buf (Elt F) (v.loc (c : Thread nD τ))) (y : s.Idx → Elt F e) :
    (v.loc (c : Thread nD τ) ↦[v.set]{fullShare} v.write (Elt F) fd y Finset.univ : sProp 𝕄) ⊢ holds v c y := by
  unfold holds; iintro H
  iexists (v.write (Elt F) fd y Finset.univ); isplitr
  · ipureintro; exact View.read_write_univ _ _
  iexact H

/-! ## What every core knows -/

def osem (i : Fin 18) : SemLoc sig := .dma (⟨3 + i.val, by have := i.isLt; show 3 + i.val < 21; omega⟩ : Fin 21)
theorem osem_inj {i j : Fin 18} (h : osem i = osem j) : i = j := by
  unfold osem at h
  have := congrArg Fin.val (SemLoc.dma.inj h)
  exact Fin.ext (by dsimp only at this; omega)
theorem sm_cases (sm : SemLoc sig) (h : role sm ≠ .other) : sm = smBar ∨ ∃ i, sm = osem i := by
  match sm with
  | .reg s => left; exact congrArg SemLoc.reg (Fin.ext (by have := s.isLt; have h2 : s.val < 1 := this; show s.val = 0; omega))
  | .dma s =>
    right
    have h1 : s.val < 21 := s.isLt
    by_cases h3 : 3 ≤ s.val
    · exact ⟨⟨s.val - 3, by omega⟩, congrArg SemLoc.dma (Fin.ext (by show s.val = 3 + (s.val - 3); omega))⟩
    · exfalso; apply h
      show roleN s.val = .other
      have : s.val = 0 ∨ s.val = 1 ∨ s.val = 2 := by omega
      rcases this with h | h | h <;> rw [h] <;> rfl

def barCells : Finset (GSem nD τ sig) := Finset.univ.image fun d : Dev nD => cell d smBar
def scCells : Finset (GSem nD τ sig) := Finset.univ.image fun p : Dev nD × Fin 18 => cell p.1 (osem p.2)
theorem cell_mem (d : Dev nD) (sm : SemLoc sig) (h : role sm ≠ .other) : cell d sm ∈ barCells ∪ scCells := by
  rcases sm_cases sm h with rfl | ⟨i, rfl⟩
  · exact Finset.mem_union_left _ (Finset.mem_image_of_mem _ (Finset.mem_univ d))
  · exact Finset.mem_union_right _ (Finset.mem_image.mpr ⟨(d, i), Finset.mem_univ _, rfl⟩)

variable (I : In F) (κ : GSem nD τ sig → ℕ)

/-- The invariants of all cells, that every barrier cell is in its round, and the levels. -/
def Recs : sProp 𝕄 :=
  iprop(bigSep (barCells ∪ scCells) (fun g => cellInv ER (Rd I) (κ g) g) ∗ bigSep barCells (fun g => reached ER g 0) ∗ levAts L lv)
instance Recs_pers : BI.Persistent (Recs I κ) := by unfold Recs; infer_instance
theorem Recs_inv (d : Dev nD) (sm : SemLoc sig) (h : role sm ≠ .other) : Recs I κ ⊢ cellInv ER (Rd I) (κ (cell d sm)) (cell d sm) := by
  have h : (bigSep (barCells ∪ scCells) (fun g => cellInv ER (Rd I) (κ g) g) : sProp 𝕄) ⊢ cellInv ER (Rd I) (κ (cell d sm)) (cell d sm) :=
    BI.bigSep_elim (cell_mem d sm h)
  unfold Recs; iintro ⟨H, -, -⟩; iapply h; iexact H
theorem Recs_bar (d : Dev nD) : Recs I κ ⊢ reached ER (cell d smBar) 0 := by
  have h : (bigSep barCells (fun g => reached ER g 0) : sProp 𝕄) ⊢ reached ER (cell d smBar) 0 :=
    BI.bigSep_elim (show cell d smBar ∈ barCells from Finset.mem_image_of_mem (fun d : Dev nD => cell d smBar) (Finset.mem_univ d))
  unfold Recs; iintro ⟨-, H, -⟩; iapply h; iexact H
theorem Recs_lev : Recs I κ ⊢ levAts L lv := by
  unfold Recs; iintro ⟨-, -, H⟩; iexact H

/-- A core at the start of round `r` of a cell of its own. -/
def at1 (g : GSem nD τ sig) (r : ℕ) : sProp 𝕄 := iprop(atPos ER g r ∅ 0 ∗ reached ER g r)
/-- What a core owes with its messages from `n` on unsent, whatever it has waited for. -/
def ow (n : ℕ) : sProp 𝕄 := iprop(∃ W, owes (c : Thread nD τ) (O c n) W)

/-- A wait for a whole round of a cell of the core's own. -/
theorem wait_rule {sp sp' : Space} {s s' : Shape} {e e' : EltTy} (sem : DmaSem sig) (src : Memref sig .tc sp' s' e') (dst : Memref sig .tc sp s e)
    (h1 : src.view.WordExact) (h2 : dst.view.WordExact) (ρ : Role) (hρ : role (.dma sem) = ρ) (r ι n N : ℕ) (hr : r < nR ρ) (hb : ρ ≠ .bar) (ho : ρ ≠ .other)
    (hN : dst.view.dmaCredit = N) (ha : amR ρ r = N) (hι : ι < 100) (hn : ∀ j, n ≤ j → j < 131 → ι < (kd j).lvl) (K : PUnit → sProp 𝕄) :
    iprop(Recs I κ ∗ cred (tallyAt (cell c (.dma sem)) ι N) ∗ ow c n ∗ at1 (cell c (.dma sem)) r)
      ⊢ iprop((ow c n ∗ at1 (cell c (.dma sem)) (r + 1) ∗ pay I c r 0 ρ -∗ K ⟨⟩)
        -∗ wpc c (Prog.lift (.waitDma2 sem src dst h1 h2)) K) := by
  subst hρ hN
  unfold wpc ow at1
  iintro ⟨#HR, Hc, ⟨%W, HO⟩, Hat, -⟩ Hk
  iapply (Rounds.wp_wait_rest_token 𝒱₀ ER (Rd I) (c : Thread nD τ) none (κ := κ (cell c (.dma sem)))
    (wpE_waitDma2_eq 𝒱₀ (c : Thread nD τ) none Set.univ) (Set.mem_univ _) ι (O := O c n) (W := W) (R := r) (m := 0) (T := ∅)
    (by rw [Rd_expect I c _ r hr hb, ha, Nat.zero_add])) $$ [Hc HO Hat]
  · isplitr; · iapply (Recs_inv I κ c _ ho); iexact HR
    isplitl [Hc]; · iexact Hc
    isplitl [HO]; · iexact HO
    isplitr; · iapply (mayWait c _ ι n hι hn); iapply (Recs_lev I κ); iexact HR
    iexact Hat
  iintro ⟨HO, Hat, Hre, Hp⟩
  ihave Hp := (Entails.of_eq (Rd_rest I c (.dma sem) r hr hb)) $$ Hp
  rw [wp_ret]
  imodintro
  iapply Hk
  isplitl [HO]; · iexists _; iexact HO
  isplitl [Hat Hre]
  · isplitl [Hat]; · iexact Hat
    iexact Hre
  iexact Hp

/-- An addressed copy, paying the receiver's duty and the core's own. -/
theorem send_rule {s : Shape} {e : EltTy} (c' : Dev nD) (src dst : Memref sig .tc .vmem s e) (hsc : dst.view.ref.isScScratch = false) (sS sR : DmaSem sig)
    (h1 : src.view.WordExact) (h2 : dst.view.WordExact)
    (h3 : DmaTarget.Typed (nD := nD) (τ := τ) .vmem (.dma sR) (.remote (Dev.tc c') dst (.dma sS) hsc)) (m : Msg) (n N r₁ : ℕ) (x : s.Idx → Elt F e) (Fr : sProp 𝕄)
    (hm : m.dst c = c') (hs : m.sm = .dma sR) (hn : O c n = O c (n + 1) + tl c' m) (hd : m.du = 0)
    (hr₁ : r₁ < nR (role (.dma sS))) (hb₁ : role (.dma sS) ≠ .bar) (ho₁ : role (.dma sS) ≠ .other) (ha₁ : amR (role (.dma sS)) r₁ = N)
    (hr₂ : m.rd < nR (role (.dma sR))) (hb₂ : role (.dma sR) ≠ .bar) (ho₂ : role (.dma sR) ≠ .other) (ha₂ : amR (role (.dma sR)) m.rd = N)
    (hN : dst.view.dmaCredit = N) (hA : m.am = N)
    (hp₁ : (anyV (F := F) src.view c : sProp 𝕄) ⊢ pay I c r₁ 0 (role (.dma sS)))
    (hp₂ : iprop(holds dst.view c' x ∗ Fr) ⊢ pay I c' m.rd 0 (role (.dma sR))) (K : PUnit → sProp 𝕄) :
    iprop(Recs I κ ∗ holds src.view c x ∗ anyV (F := F) dst.view c' ∗ Fr ∗ ow c n
        ∗ dutyTok ER (cell c (.dma sS)) r₁ 0 ∗ reached ER (cell c (.dma sS)) r₁
        ∗ dutyTok ER (cell c' (.dma sR)) m.rd 0 ∗ reached ER (cell c' (.dma sR)) m.rd)
      ⊢ iprop((cred (tallyAt (cell c (.dma sS)) 0 N) ∗ ow c (n + 1) -∗ K ⟨⟩)
        -∗ wpc c (Prog.lift (.enqueueDma src (.remote (Dev.tc c') dst (.dma sS) hsc) (.dma sR) h1 h2 h3)) K) := by
  subst hA
  unfold wpc ow holds anyV
  iintro ⟨#HR, ⟨%fs, %hfs, Hs⟩, ⟨%fd, Hd⟩, HF, ⟨%W, HO⟩, Ht1, Hr1, Ht2, Hr2⟩ Hk
  iapply (Rounds.wp_send_pointsTo_with 𝒱₀ ER (Rd I) (c : Thread nD τ) none (c' := (c' : Thread nD τ)) (src := src) (dst := dst)
    (sS := .dma sS) (sem := .dma sR) (q := fullShare) (fs := fs) (fd := fd) (F := Fr) (κ₁ := κ (cell c (.dma sS))) (κ₂ := κ (cell c' (.dma sR)))
    (r₁ := r₁) (r₂ := m.rd) (d₁ := 0) (d₂ := 0)
    (by rw [Rd_duties I c _ r₁ hr₁ hb₁]; exact Finset.mem_singleton_self _) (by rw [Rd_duties I c' _ m.rd hr₂ hb₂]; exact Finset.mem_singleton_self _)
    m.lvl 0 m.am hN (by rw [Rd_amount, ha₁]) (by rw [Rd_amount, ha₂]) (O₀ := O c n) (O c (n + 1)) (by rw [hn]; unfold tl; rw [hs]) (W := W)
    (by rw [Rd_payload]; refine BIBase.Entails.trans (?_ : (_ : sProp 𝕄) ⊢ _) hp₁; unfold anyV; iintro H; iexists fs; iexact H)
    (by
      rw [Rd_payload]; refine BIBase.Entails.trans (?_ : (_ : sProp 𝕄) ⊢ _) hp₂
      iintro ⟨H, HF⟩
      isplitl [H]
      · rw [← hfs]; iapply (holds_landed _ dst.view); iexact H
      iexact HF)) $$ [Hs Hd HF HO Ht1 Hr1 Ht2 Hr2]
  · isplitr; · iapply (Recs_inv I κ c _ ho₁); iexact HR
    isplitr; · iapply (Recs_inv I κ c' _ ho₂); iexact HR
    isplitl [Hs]; · iexact Hs
    isplitl [Hd HF]
    · isplitl [Hd]; · iexact Hd
      iexact HF
    isplitl [HO]; · iexact HO
    isplitl [Ht1]; · iexact Ht1
    isplitl [Hr1]; · iexact Hr1
    isplitl [Ht2]; · iexact Ht2
    iexact Hr2
  iintro ⟨Hc, HO⟩
  rw [wp_ret]
  imodintro
  iapply Hk
  isplitl [Hc]; · iexact Hc
  iexists _; iexact HO

/-- A copy on the core itself. -/
theorem copy_rule {sp : Space} {s : Shape} {e : EltTy} (src : Memref sig .tc .vmem s e) (dst : Memref sig .tc sp s e) (sem : DmaSem sig)
    (h1 : src.view.WordExact) (h2 : dst.view.WordExact) (h3 : DmaTarget.Typed (nD := nD) (τ := τ) .vmem (.dma sem) (.here (p := (c : Thread nD τ).2) dst)) (r N : ℕ) (x : s.Idx → Elt F e)
    (hr : r < nR (role (.dma sem))) (hb : role (.dma sem) ≠ .bar) (ho : role (.dma sem) ≠ .other) (ha : amR (role (.dma sem)) r = N) (hN : dst.view.dmaCredit = N)
    (hp : iprop(holds dst.view c x ∗ anyV (F := F) src.view c) ⊢ pay I c r 0 (role (.dma sem))) (K : PUnit → sProp 𝕄) :
    iprop(Recs I κ ∗ holds src.view c x ∗ anyV (F := F) dst.view c ∗ dutyTok ER (cell c (.dma sem)) r 0 ∗ reached ER (cell c (.dma sem)) r)
      ⊢ iprop((cred (tallyAt (cell c (.dma sem)) 0 N) -∗ K ⟨⟩)
        -∗ wpc c (Prog.lift (.enqueueDma src (.here dst) (.dma sem) h1 h2 h3)) K) := by
  unfold wpc holds anyV
  iintro ⟨#HR, ⟨%fs, %hfs, Hs⟩, ⟨%fd, Hd⟩, Ht, Hr⟩ Hk
  iapply (Rounds.wp_copy_pointsTo 𝒱₀ ER (Rd I) (c : Thread nD τ) none (src := src) (dst := dst) (sem := .dma sem) (q := fullShare) (fs := fs) (fd := fd)
    (κ := κ (cell c (.dma sem))) (r := r) (d := 0) (by rw [Rd_duties I c _ r hr hb]; exact Finset.mem_singleton_self _) 0 N hN (by rw [Rd_amount, ha])
    (by
      rw [Rd_payload]; refine BIBase.Entails.trans (?_ : (_ : sProp 𝕄) ⊢ _) hp
      iintro ⟨H, H2⟩
      isplitl [H]
      · rw [← hfs]; iapply (holds_landed _ dst.view); iexact H
      unfold anyV; iexists fs; iexact H2)) $$ [Hs Hd Ht Hr]
  · isplitr; · iapply (Recs_inv I κ c _ ho); iexact HR
    isplitl [Hs]; · iexact Hs
    isplitl [Hd]; · iexact Hd
    isplitl [Ht]; · iexact Ht
    iexact Hr
  iintro Hc
  rw [wp_ret]
  imodintro
  iapply Hk; iexact Hc

end Cert.KernelIdeal.Ring
-- ==== Proof.ISteps.lean ====
/-
  The phases of a step: a side's message sent and received, in the reduce-scatter, the exchange of maxima and the
  all-gather; a half chunk put on its way to the output.
-/
module

public import proofs.«01_k».proof.Proof.IRules

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig ℕ (Elt F) ℕ UU ℕ

/-! ## Rounds and amounts -/

theorem base_par (s : ℕ) : base (par s) = 16 - s % 2 := by
  rcases Nat.mod_two_eq_zero_or_one s with h | h
  · unfold base; rw [if_pos (Fin.ext h), h]
  · unfold base; rw [if_neg (fun h' => by have := congrArg Fin.val h'; have h2 : s % 2 = 0 := this; omega), h]
theorem rR_lt (s : ℕ) (hs : s < 31) : rR s < base (par s) := by rw [base_par]; unfold rR; omega
theorem rR_lt2 (s : ℕ) (hs : s < 31) : rR s < 2 * base (par s) := by have := rR_lt s hs; omega
theorem aR_lt (t : ℕ) (ht : t < 31) : aR t < 2 * base (par t) := by unfold aR; rw [base_par]; omega
theorem aR_ge (t : ℕ) : ¬ aR t < base (par t) := by unfold aR; omega
theorem rR_two (s : ℕ) : rR s + 1 = rR (s + 2) := by unfold rR; omega
theorem par_two (s : ℕ) : par (s + 2) = par s := Fin.ext (by show (s + 2) % 2 = s % 2; omega)
theorem aR_two (t : ℕ) : aR t + 1 = aR (t + 2) := by unfold aR; rw [par_two]; omega

theorem rsRcv_sc (b p : Fin 2) : (slot (rsRcv b) p).view.ref.isScScratch = false := by match b with | 0 => rfl | 1 => rfl
theorem agRcv_sc (b p : Fin 2) : (slot (agRcv b) p).view.ref.isScScratch = false := by match b with | 0 => rfl | 1 => rfl
theorem cr_rsRcv : ∀ b p, (slot (rsRcv b) p).view.dmaCredit = Nbf := fun b p => by
  unfold Nbf
  match b, p with | 0, 0 => rfl | 0, 1 => rfl | 1, 0 => rfl | 1, 1 => rfl
theorem cr_rsSnd : ∀ b p, (slot (rsSnd b) p).view.dmaCredit = Nbf := fun b p => by
  unfold Nbf
  match b, p with | 0, 0 => rfl | 0, 1 => rfl | 1, 0 => rfl | 1, 1 => rfl
theorem cr_agRcv : ∀ b p, (slot (agRcv b) p).view.dmaCredit = Ni8 := fun b p => by
  unfold Ni8
  match b, p with | 0, 0 => rfl | 0, 1 => rfl | 1, 0 => rfl | 1, 1 => rfl
theorem cr_agSnd : ∀ b p, (slot (agSnd b) p).view.dmaCredit = Ni8 := fun b p => by
  unfold Ni8
  match b, p with | 0, 0 => rfl | 0, 1 => rfl | 1, 0 => rfl | 1, 1 => rfl
theorem cr_bf (k : Fin 5) : (bfSlot k).view.dmaCredit = Nb := by
  unfold Nb
  match k with | 0 => rfl | 1 => rfl | 2 => rfl | 3 => rfl | 4 => rfl
theorem cr_bfSnd : bfSnd.view.dmaCredit = Nb := by unfold Nb; rfl
theorem cr_out (v0 : BitVec 32) (h : k0_chk3 v0) (b : Fin 2) (t : ℕ) (ht : t ≤ 31) : (outRows v0 h b t ht).view.dmaCredit = Nst := by unfold Nst; rfl

theorem amR_snd_rs (b : Fin 2) (s : ℕ) (hs : s < 31) : amR (.snd b (par s)) (rR s) = Nbf := if_pos (rR_lt s hs)
theorem amR_rcv_rs (b : Fin 2) (s : ℕ) (hs : s < 31) : amR (.rcv b (par s)) (rR s) = Nbf := if_pos (rR_lt s hs)
theorem amR_snd_ag (b : Fin 2) (t : ℕ) : amR (.snd b (par t)) (aR t) = Ni8 := if_neg (aR_ge t)
theorem amR_rcv_ag (b : Fin 2) (t : ℕ) : amR (.rcv b (par t)) (aR t) = Ni8 := if_neg (aR_ge t)

variable (c : Dev nD) (I : In F) (κ : GSem nD τ sig → ℕ)

theorem pay_snd_rs (b : Fin 2) (s : ℕ) (hs : s < 31) (d : Fin 2) : pay I c (rR s) d (.snd b (par s)) = slotAny (F := F) (rsSnd b) (par s) c := if_pos (rR_lt s hs)
theorem pay_rcv_rs (b : Fin 2) (s : ℕ) (hs : s < 31) (d : Fin 2) : pay I c (rR s) d (.rcv b (par s)) = rsPay I c b s :=
  (if_pos (rR_lt s hs)).trans (congrArg (rsPay I c b) (by show 2 * (s / 2) + s % 2 = s; omega))
theorem pay_snd_ag (b : Fin 2) (t : ℕ) (d : Fin 2) : pay I c (aR t) d (.snd b (par t)) = slotAny (F := F) (agSnd b) (par t) c := if_neg (aR_ge t)
theorem pay_rcv_ag (b : Fin 2) (t : ℕ) (d : Fin 2) : pay I c (aR t) d (.rcv b (par t)) = agPay I c b t :=
  (if_neg (aR_ge t)).trans (congrArg (agPay I c b) (by show 2 * (aR t - base (par t)) + t % 2 = t; unfold aR; omega))
theorem pay_sto (b : Fin 2) (t : ℕ) (d : Fin 2) : pay I c (t / 2) d (.sto b (par t)) = stoPay I c b (par t) t :=
  congrArg (stoPay I c b (par t)) (by show 2 * (t / 2) + t % 2 = t; omega)

theorem slotAt_eq {e : EltTy} (M : Memref sig .tc .vmem S2x64x8192 e) (p : Fin 2) (c : Dev nD) (x : Vec F S1x64x8192 e) :
    slotAt M p c x = holds (slot M p).view c (fun i => x (Shape.reshapeEquiv squeezes_S1x64x8192_S64x8192.numel_eq i)) :=
  holds_reshape (M.access (slotR p)) squeezes_S1x64x8192_S64x8192.numel_eq c x
theorem slotAny_eq {e : EltTy} (M : Memref sig .tc .vmem S2x64x8192 e) (p : Fin 2) (c : Dev nD) :
    slotAny (F := F) M p c = anyV (slot M p).view c :=
  any_reshape (M.access (slotR p)) squeezes_S1x64x8192_S64x8192.numel_eq c

/-! ## Tokens -/

/-- The tokens of the messages from `n` on. -/
def toks (n : ℕ) : sProp 𝕄 := iprop(todo (tok c) n ∗ todo (otok c) n)
theorem toks_succ (n : ℕ) (m : Msg) (hn : n < 131) (hm : kd n = m) : (toks c n : sProp 𝕄) ⊢ iprop(tok c m ∗ otok c m ∗ toks c (n + 1)) := by
  unfold toks; rw [todo_succ _ n m hn hm, todo_succ _ n m hn hm]
  iintro ⟨⟨H1, H2⟩, H3, H4⟩
  isplitl [H1]; · iexact H1
  isplitl [H3]; · iexact H3
  isplitl [H2]; · iexact H2
  iexact H4

/-! ## The reduce-scatter's messages -/

/-- What rides with the message of step `s` on side `b`. -/
def rsF (b : Fin 2) (s : ℕ) : sProp 𝕄 :=
  iprop((if s < 30 then rsPermit (ob b) c (s + 1) else iprop(emp)) ∗ (if b = 0 then fwd s (back c s) else iprop(emp)))
theorem rsPay_nb (b : Fin 2) (s : ℕ) : rsPay I (nb c b) b s = iprop(slotAt (rsRcv b) (par s) (nb c b) (packV (psum I s c b)) ∗ rsF c b s) := by
  unfold rsPay rsF; rw [nb_ob]

theorem rsGo_ok (b : Fin 2) (s n : ℕ) (hs : s < 31) (hn : n < 131) (hk : kd n = .rs b s) (K : PUnit → sProp 𝕄) :
    iprop(Recs I κ ∗ slotAt (rsSnd b) (par s) c (packV (psum I s c b)) ∗ rsPermit b (nb c b) s ∗ reached ER (cell c (smS b (par s))) (rR s)
        ∗ rsF c b s ∗ ow c n ∗ toks c n)
      ⊢ iprop((cred (tallyAt (cell c (smS b (par s))) 0 Nbf) ∗ ow c (n + 1) ∗ toks c (n + 1) -∗ K ⟨⟩) -∗ wpc c (rsGo b (par s) (nb c b)) K) := by
  unfold rsGo rsPermit
  iintro ⟨#HR, Hs, ⟨Hd, Hr2⟩, Hr1, HF, HO, Ht⟩ Hk
  ihave ⟨Ht2, Ht1, Ht⟩ := (toks_succ c n (.rs b s) hn hk) $$ Ht
  unfold tok otok
  iapply (send_rule c I κ (nb c b) (slot (rsSnd b) (par s)) (slot (rsRcv b) (par s)) (rsRcv_sc b (par s)) (sem2 (sndS b) (par s)) (sem2 (rcvS b) (par s)) _ _ _ (.rs b s) n Nbf (rR s)
    (fun i => packV (psum I s c b) (Shape.reshapeEquiv squeezes_S1x64x8192_S64x8192.numel_eq i)) (rsF c b s) rfl rfl (O_succ c n (.rs b s) hn hk) rfl
    (by rw [role_S]; exact rR_lt2 s hs) (by rw [role_S]; exact fun h => nomatch h) (by rw [role_S]; exact fun h => nomatch h) (by rw [role_S]; exact amR_snd_rs b s hs)
    (by rw [role_R]; exact rR_lt2 s hs) (by rw [role_R]; exact fun h => nomatch h) (by rw [role_R]; exact fun h => nomatch h) (by rw [role_R]; exact amR_rcv_rs b s hs)
    (cr_rsRcv b (par s)) rfl
    (by rw [role_S, pay_snd_rs c I b s hs, slotAny_eq (rsSnd b) (par s)])
    (by
      rw [role_R]; show _ ⊢ pay I (nb c b) (rR s) 0 (.rcv b (par s))
      rw [pay_rcv_rs _ I b s hs, rsPay_nb, slotAt_eq (rsRcv b) (par s)])) $$ [Hs Hd HF HO Ht1 Hr1 Ht2 Hr2]
  · isplitr; · iexact HR
    isplitl [Hs]
    · iapply (Entails.of_eq (slotAt_eq (rsSnd b) (par s) _ _)); iexact Hs
    isplitl [Hd]
    · iapply (Entails.of_eq (slotAny_eq (rsRcv b) (par s) _)); iexact Hd
    isplitl [HF]; · iexact HF
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  isplitl [HO]; · iexact HO
  iexact Ht

theorem rsWait_ok (b : Fin 2) (s n : ℕ) (hs : s < 31) (hn : ∀ j, n ≤ j → j < 131 → 2 + s < (kd j).lvl) (K : PUnit → sProp 𝕄) :
    iprop(Recs I κ ∗ cred (tallyAt (cell c (smS b (par s))) 0 Nbf) ∗ inc c (.rs b s) ∗ ow c n ∗ at1 (cell c (smS b (par s))) (rR s) ∗ at1 (cell c (smR b (par s))) (rR s))
      ⊢ iprop((ow c n ∗ at1 (cell c (smS b (par s))) (rR s + 1) ∗ at1 (cell c (smR b (par s))) (rR s + 1) ∗ slotAny (F := F) (rsSnd b) (par s) c ∗ rsPay I c b s -∗ K ⟨⟩)
        -∗ wpc c (rsWait b (par s)) K) := by
  unfold rsWait inc tl
  rw [wpc_bind]
  iintro ⟨#HR, Hc1, Hc2, HO, Ha1, Ha2⟩ Hk
  iapply (wait_rule c I κ (sem2 (sndS b) (par s)) (slot (rsRcv b) (par s)) (slot (rsSnd b) (par s)) _ _ (.snd b (par s)) (role_S b (par s)) (rR s) 0 n Nbf
    (rR_lt2 s hs) (fun h => nomatch h) (fun h => nomatch h) (cr_rsSnd b (par s)) (amR_snd_rs b s hs) (by decide) (fun j h1 h2 => by have := hn j h1 h2; omega)) $$ [Hc1 HO Ha1]
  · isplitr; · iexact HR
    isplitl [Hc1]; · iexact Hc1
    isplitl [HO]; · iexact HO
    iexact Ha1
  iintro ⟨HO, Ha1, Hp1⟩
  iapply (wait_rule c I κ (sem2 (rcvS b) (par s)) (slot (rsSnd b) (par s)) (slot (rsRcv b) (par s)) _ _ (.rcv b (par s)) (role_R b (par s)) (rR s) (2 + s) n Nbf
    (rR_lt2 s hs) (fun h => nomatch h) (fun h => nomatch h) (cr_rsRcv b (par s)) (amR_rcv_rs b s hs) (by omega) hn) $$ [Hc2 HO Ha2]
  · isplitr; · iexact HR
    isplitl [Hc2]; · iexact Hc2
    isplitl [HO]; · iexact HO
    iexact Ha2
  iintro ⟨HO, Ha2, Hp2⟩
  iapply Hk
  isplitl [HO]; · iexact HO
  isplitl [Ha1]; · iexact Ha1
  isplitl [Ha2]; · iexact Ha2
  isplitl [Hp1]; · iapply (Entails.of_eq (pay_snd_rs c I b s hs 0)); iexact Hp1
  iapply (Entails.of_eq (pay_rcv_rs c I b s hs 0)); iexact Hp2

theorem rsPut_ok (b p : Fin 2) (v : FVec F S1x64x8192 .bf16) (K : PUnit → sProp 𝕄) :
    (slotAny (F := F) (rsSnd b) p c) ⊢ iprop((slotAt (rsSnd b) p c v -∗ K ⟨⟩) -∗ wpc c (rsPut b p v) K) := put_rule c _ _ _ _ _ _ K
theorem agPut_ok (b p : Fin 2) (v : IVec S1x64x8192 8) (K : PUnit → sProp 𝕄) :
    (slotAny (F := F) (agSnd b) p c) ⊢ iprop((slotAt (F := F) (agSnd b) p c v -∗ K ⟨⟩) -∗ wpc c (agPut b p v) K) := put_rule c _ _ _ _ _ _ K
theorem stPut_ok (b p : Fin 2) (v : FVec F S1x64x8192 .f32) (K : PUnit → sProp 𝕄) :
    (slotAny (F := F) (stgM b) p c) ⊢ iprop((slotAt (stgM b) p c v -∗ K ⟨⟩) -∗ wpc c (stPut b p v) K) := put_rule c _ _ _ _ _ _ K
theorem redPut_ok (b : Fin 2) (v : FVec F S64x8192 .f32) (K : PUnit → sProp 𝕄) :
    (anyV (F := F) ((redM b).access redR) c) ⊢ iprop((holds ((redM b).access redR) c v -∗ K ⟨⟩) -∗ wpc c (redPut b v) K) := put_rule c _ _ _ _ _ _ K
theorem redLd_ok (b : Fin 2) (v : FVec F S64x8192 .f32) (K : FVec F S64x8192 .f32 → sProp 𝕄) :
    (holds ((redM b).access redR) c v) ⊢ iprop((holds ((redM b).access redR) c v -∗ K v) -∗ wpc c (redLd b) K) := ld_rule c (redM b) redR _ v K
theorem slotLd_ok {e : EltTy} (M : Memref sig .tc .vmem S2x64x8192 e) (p : Fin 2) (v : Vec F S1x64x8192 e) (K : Vec F S1x64x8192 e → sProp 𝕄) :
    (slotAt M p c v) ⊢ iprop((slotAt M p c v -∗ K v) -∗ wpc c (slotLd M p) K) := ld_rule c M (slotR p) _ v K

/-! ## The all-gather's messages -/

def agF (b : Fin 2) (t : ℕ) : sProp 𝕄 := iprop(if t < 30 then agPermit (ob b) c (t + 1) else iprop(emp))
theorem agPay_nb (b : Fin 2) (t : ℕ) : agPay I (nb c b) b t = iprop(slotAt (agRcv b) (par t) (nb c b) (pack8 (qv I t c b)) ∗ agF c b t) := by
  unfold agPay agF; rw [nb_ob]

theorem agGo_ok (b : Fin 2) (t n : ℕ) (ht : t < 31) (hn : n < 131) (hk : kd n = .ag b t) (K : PUnit → sProp 𝕄) :
    iprop(Recs I κ ∗ slotAt (agSnd b) (par t) c (pack8 (qv I t c b)) ∗ agPermit b (nb c b) t ∗ reached ER (cell c (smS b (par t))) (aR t)
        ∗ agF c b t ∗ ow c n ∗ toks c n)
      ⊢ iprop((cred (tallyAt (cell c (smS b (par t))) 0 Ni8) ∗ ow c (n + 1) ∗ toks c (n + 1) -∗ K ⟨⟩) -∗ wpc c (agGo b (par t) (nb c b)) K) := by
  unfold agGo agPermit
  iintro ⟨#HR, Hs, ⟨Hd, Hr2⟩, Hr1, HF, HO, Ht⟩ Hk
  ihave ⟨Ht2, Ht1, Ht⟩ := (toks_succ c n (.ag b t) hn hk) $$ Ht
  unfold tok otok
  iapply (send_rule c I κ (nb c b) (slot (agSnd b) (par t)) (slot (agRcv b) (par t)) (agRcv_sc b (par t)) (sem2 (sndS b) (par t)) (sem2 (rcvS b) (par t)) _ _ _ (.ag b t) n Ni8 (aR t)
    (fun i => pack8 (qv I t c b) (Shape.reshapeEquiv squeezes_S1x64x8192_S64x8192.numel_eq i)) (agF c b t) rfl rfl (O_succ c n (.ag b t) hn hk) rfl
    (by rw [role_S]; exact aR_lt t ht) (by rw [role_S]; exact fun h => nomatch h) (by rw [role_S]; exact fun h => nomatch h) (by rw [role_S]; exact amR_snd_ag b t)
    (by rw [role_R]; exact aR_lt t ht) (by rw [role_R]; exact fun h => nomatch h) (by rw [role_R]; exact fun h => nomatch h) (by rw [role_R]; exact amR_rcv_ag b t)
    (cr_agRcv b (par t)) rfl
    (by rw [role_S, pay_snd_ag c I b t, slotAny_eq (agSnd b) (par t)])
    (by
      rw [role_R]; show _ ⊢ pay I (nb c b) (aR t) 0 (.rcv b (par t))
      rw [pay_rcv_ag _ I b t, agPay_nb, slotAt_eq (agRcv b) (par t)])) $$ [Hs Hd HF HO Ht1 Hr1 Ht2 Hr2]
  · isplitr; · iexact HR
    isplitl [Hs]
    · iapply (Entails.of_eq (slotAt_eq (agSnd b) (par t) _ _)); iexact Hs
    isplitl [Hd]
    · iapply (Entails.of_eq (slotAny_eq (agRcv b) (par t) _)); iexact Hd
    isplitl [HF]; · iexact HF
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  isplitl [HO]; · iexact HO
  iexact Ht

theorem agWait_ok (b : Fin 2) (t n : ℕ) (ht : t < 31) (hn : ∀ j, n ≤ j → j < 131 → 38 + t < (kd j).lvl) (K : PUnit → sProp 𝕄) :
    iprop(Recs I κ ∗ cred (tallyAt (cell c (smS b (par t))) 0 Ni8) ∗ inc c (.ag b t) ∗ ow c n ∗ at1 (cell c (smS b (par t))) (aR t) ∗ at1 (cell c (smR b (par t))) (aR t))
      ⊢ iprop((ow c n ∗ at1 (cell c (smS b (par t))) (aR t + 1) ∗ at1 (cell c (smR b (par t))) (aR t + 1) ∗ slotAny (F := F) (agSnd b) (par t) c ∗ agPay I c b t -∗ K ⟨⟩)
        -∗ wpc c (agWait b (par t)) K) := by
  unfold agWait inc tl
  rw [wpc_bind]
  iintro ⟨#HR, Hc1, Hc2, HO, Ha1, Ha2⟩ Hk
  iapply (wait_rule c I κ (sem2 (sndS b) (par t)) (slot (agRcv b) (par t)) (slot (agSnd b) (par t)) _ _ (.snd b (par t)) (role_S b (par t)) (aR t) 0 n Ni8
    (aR_lt t ht) (fun h => nomatch h) (fun h => nomatch h) (cr_agSnd b (par t)) (amR_snd_ag b t) (by decide) (fun j h1 h2 => by have := hn j h1 h2; omega)) $$ [Hc1 HO Ha1]
  · isplitr; · iexact HR
    isplitl [Hc1]; · iexact Hc1
    isplitl [HO]; · iexact HO
    iexact Ha1
  iintro ⟨HO, Ha1, Hp1⟩
  iapply (wait_rule c I κ (sem2 (rcvS b) (par t)) (slot (agSnd b) (par t)) (slot (agRcv b) (par t)) _ _ (.rcv b (par t)) (role_R b (par t)) (aR t) (38 + t) n Ni8
    (aR_lt t ht) (fun h => nomatch h) (fun h => nomatch h) (cr_agRcv b (par t)) (amR_rcv_ag b t) (by omega) hn) $$ [Hc2 HO Ha2]
  · isplitr; · iexact HR
    isplitl [Hc2]; · iexact Hc2
    isplitl [HO]; · iexact HO
    iexact Ha2
  iintro ⟨HO, Ha2, Hp2⟩
  iapply Hk
  isplitl [HO]; · iexact HO
  isplitl [Ha1]; · iexact Ha1
  isplitl [Ha2]; · iexact Ha2
  isplitl [Hp1]; · iapply (Entails.of_eq (pay_snd_ag c I b t 0)); iexact Hp1
  iapply (Entails.of_eq (pay_rcv_ag c I b t 0)); iexact Hp2

/-! ## The output -/

theorem stGo_ok (b : Fin 2) (t : ℕ) (ht : t ≤ 31) (K : PUnit → sProp 𝕄) :
    iprop(Recs I κ ∗ slotAt (stgM b) (par t) c (dequantV (sc I c) (qv I t c b)) ∗ anyV (F := F) (outW c b t).view c
        ∗ dutyTok ER (cell c (smO b (par t))) (t / 2) 0 ∗ reached ER (cell c (smO b (par t))) (t / 2))
      ⊢ iprop((cred (tallyAt (cell c (smO b (par t))) 0 Nst) -∗ K ⟨⟩) -∗ wpc c (stGo (envOf c).v0 (envOf c).h0 b t ht) K) := by
  unfold stGo
  iintro ⟨#HR, Hs, Hd, Ht, Hr⟩ Hk
  have h16 : t / 2 < nR (.sto b (par t)) := by show t / 2 < 16; omega
  iapply (copy_rule c I κ (slot (stgM b) (par t)) (outRows (envOf c).v0 (envOf c).h0 b t ht) (sem2 (stoS b) (par t)) _ _ _ (t / 2) Nst (outV I c b t)
    (by rw [role_O]; exact h16) (by rw [role_O]; exact fun h => nomatch h) (by rw [role_O]; exact fun h => nomatch h) (by rw [role_O]; rfl) (cr_out _ _ b t ht)
    (by
      rw [role_O, pay_sto]; unfold stoPay
      rw [outW_eq c b t ht, slotAny_eq (stgM b) (par t)])) $$ [Hs Hd Ht Hr]
  · isplitr; · iexact HR
    isplitl [Hs]
    · iapply (Entails.of_eq (slotAt_eq (stgM b) (par t) _ _)); iexact Hs
    isplitl [Hd]; · iapply (Entails.of_eq (congrArg (fun m : Memref sig .tc .hbm S64x8192 .f32 => anyV (F := F) m.view c) (outW_eq c b t ht))); iexact Hd
    isplitl [Ht]; · iexact Ht
    iexact Hr
  iintro Hc
  iapply Hk; iexact Hc

theorem stWait_ok (b : Fin 2) (t n : ℕ) (ht : t ≤ 31) (K : PUnit → sProp 𝕄) :
    iprop(Recs I κ ∗ cred (tallyAt (cell c (smO b (par t))) 0 Nst) ∗ ow c n ∗ at1 (cell c (smO b (par t))) (t / 2))
      ⊢ iprop((ow c n ∗ at1 (cell c (smO b (par t))) (t / 2 + 1) ∗ holds (outW c b t).view c (outV I c b t) ∗ slotAny (F := F) (stgM b) (par t) c -∗ K ⟨⟩)
        -∗ wpc c (stWait (envOf c).v0 (envOf c).h0 b t ht) K) := by
  unfold stWait
  iintro ⟨#HR, Hc, HO, Ha⟩ Hk
  iapply (wait_rule c I κ (sem2 (stoS b) (par t)) (slot (stgM b) (par t)) (outRows (envOf c).v0 (envOf c).h0 b t ht) _ _ (.sto b (par t)) (role_O b (par t)) (t / 2) 0 n Nst
    (by show t / 2 < 16; omega) (fun h => nomatch h) (fun h => nomatch h) (cr_out _ _ b t ht) rfl (by decide)
    (fun j h1 h2 => by rw [lvl_kd j h2]; split_ifs <;> omega)) $$ [Hc HO Ha]
  · isplitr; · iexact HR
    isplitl [Hc]; · iexact Hc
    isplitl [HO]; · iexact HO
    iexact Ha
  iintro ⟨HO, Ha, Hp⟩
  ihave Hp := (Entails.of_eq (pay_sto c I b t 0)) $$ Hp
  unfold stoPay
  iapply Hk
  isplitl [HO]; · iexact HO
  isplitl [Ha]; · iexact Ha
  iexact Hp

end Cert.KernelIdeal.Ring
-- ==== Proof.IScat.lean ====
/-
  The reduce-scatter: what a core holds before each step, a step, the loop.
-/
module

public import proofs.«01_k».proof.Proof.ISteps

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig ℕ (Elt F) ℕ UU ℕ

variable (c : Dev nD) (I : In F) (κ : GSem nD τ sig → ℕ)

/-- A core's two positions on the cells of a two-slot buffer, the slot of step `s` first. -/
def pos2 (S : Fin 2 → SemLoc sig) (R : ℕ → ℕ) (s : ℕ) : sProp 𝕄 := iprop(at1 (cell c (S (par s))) (R s) ∗ at1 (cell c (S (par (s + 1)))) (R (s + 1)))
theorem at1_two (S : Fin 2 → SemLoc sig) (R : ℕ → ℕ) (hR : ∀ s, R s + 1 = R (s + 2)) (s : ℕ) :
    (at1 (cell c (S (par s))) (R s + 1) : sProp 𝕄) = at1 (cell c (S (par (s + 1 + 1)))) (R (s + 1 + 1)) := by
  rw [hR]; exact congrArg (fun p => at1 (cell c (S p)) (R (s + 2))) (par_two s).symm
theorem slotAny_two {e : EltTy} (M : Memref sig .tc .vmem S2x64x8192 e) (s : ℕ) : slotAny (F := F) M (par s) c = slotAny (F := F) M (par (s + 1 + 1)) c :=
  congrArg (fun p => slotAny (F := F) M p c) (par_two s).symm
theorem at1_reached (g : GSem nD τ sig) (r : ℕ) : (at1 g r : sProp 𝕄) ⊢ iprop(at1 g r ∗ reached ER g r) := by
  unfold at1; iintro ⟨H, #Hr⟩
  isplitl [H]
  · isplitl [H]; · iexact H
    iexact Hr
  iexact Hr

/-! ## Loops -/

theorem loop_ok {σ : Type} {N : ℕ} (f : (s : ℕ) → s < N → σ → P F σ) (Inv : ℕ → sProp 𝕄) (val : ℕ → σ)
    (hf : ∀ s (hs : s < N) (K : σ → sProp 𝕄), Inv s ⊢ iprop((Inv (s + 1) -∗ K (val (s + 1))) -∗ wpc c (f s hs (val s)) K)) :
    ∀ (n s : ℕ) (h : s + n ≤ N) (K : σ → sProp 𝕄), Inv s ⊢ iprop((Inv (s + n) -∗ K (val (s + n))) -∗ wpc c (loop f n s h (val s)) K)
  | 0, s, h, K => by
    iintro H Hk
    iapply (wpc_pure c (val s) K)
    iapply Hk; iexact H
  | n + 1, s, h, K => by
    have e : s + (n + 1) = s + 1 + n := by omega
    rw [e]
    show _ ⊢ iprop(_ -∗ wpc c (f s _ (val s) >>= loop f n (s + 1) _) K)
    rw [wpc_bind]
    iintro H Hk
    iapply (hf s _) $$ [H]
    · iexact H
    iintro H
    iapply (loop_ok f Inv val hf n (s + 1) _ K) $$ [H]
    · iexact H
    iexact Hk

/-! ## What a core holds -/

/-- The operand, and the weights as kept. -/
def data : sProp 𝕄 := iprop(((xM.access (xR c 0 0 (by omega))).loc (c : Thread nD τ) ↦[Finset.univ]{fullShare} I.x c) ∗ holds (wbM.access wR) c (wbV I c))
theorem part_ok (b : Fin 2) (s : ℕ) (hs : s ≤ 31) (K : FVec F S64x8192 .f32 → sProp 𝕄) :
    data c I ⊢ iprop((data c I -∗ K (partV I c b s)) -∗ wpc c (part (envOf c).v0 (envOf c).h0 b s hs) K) := by
  rw [show partV I c b s = dotV ((xM.access (xR c b s hs)).read (Elt F) (I.x c)) (wbV I c) from by unfold partV; rw [xRow_eq I c b s hs]]
  unfold part data
  simp only [wpc_bind]
  iintro ⟨Hx, Hw⟩ Hk
  iapply (ld_whole c xM (xR c b s hs) _ (I.x c)) $$ [Hx]
  · iexact Hx
  iintro Hx
  iapply (ld_rule c wbM wR _ (wbV I c)) $$ [Hw]
  · iexact Hw
  iintro Hw
  iapply (wpc_pure c)
  iapply Hk
  isplitl [Hx]; · iexact Hx
  iexact Hw

/-- The neighbour's receive slot of step `s`, while there is such a step. -/
def rsPI (b : Fin 2) (s : ℕ) : sProp 𝕄 := if s < 31 then rsPermit b (nb c b) s else iprop(emp)
/-- The receive slot of step `s`, when no step uses it. -/
def rsKeep (b : Fin 2) (s : ℕ) : sProp 𝕄 := if s < 31 then iprop(emp) else slotAny (F := F) (rsRcv b) (par s) c
def rsOwn (b : Fin 2) (s : ℕ) : sProp 𝕄 := if s < 30 then rsPermit b c (s + 1) else iprop(emp)
/-- A side before step `s`, but for the receive slot of step `s + 1`. -/
def RSc (b : Fin 2) (s : ℕ) : sProp 𝕄 :=
  iprop(slotAny (F := F) (rsSnd b) (par s) c ∗ slotAny (F := F) (rsSnd b) (par (s + 1)) c ∗ rsPI c b s ∗ rsKeep c b s ∗ pos2 c (smS b) rR s ∗ pos2 c (smR b) rR s)
def RSr (b : Fin 2) (s : ℕ) : sProp 𝕄 := iprop(slotAny (F := F) (rsRcv b) (par (s + 1)) c ∗ RSc c b s)
/-- What arrived in step `s`. -/
abbrev rsGot (b : Fin 2) (s : ℕ) : sProp 𝕄 := slotAt (rsRcv b) (par s) c (packV (psum I s (nb c (ob b)) b))
/-- The exchange slots under way and arrived. -/
def X (s : ℕ) : sProp 𝕄 := iprop(fwd s (back c s) ∗ got c s)

theorem RSr_of (b : Fin 2) (s : ℕ) : iprop(slotAny (F := F) (rsRcv b) (par s) c ∗ RSc c b (s + 1)) ⊢ (RSr c b (s + 1) : sProp 𝕄) := by
  unfold RSr; rw [slotAny_two c (rsRcv b) s]
theorem RSc_of (b : Fin 2) (s : ℕ) :
    iprop(slotAny (F := F) (rsSnd b) (par s) c ∗ slotAny (F := F) (rsSnd b) (par (s + 1)) c ∗ rsPI c b (s + 1) ∗ rsKeep c b (s + 1)
      ∗ at1 (cell c (smS b (par (s + 1)))) (rR (s + 1)) ∗ at1 (cell c (smR b (par (s + 1)))) (rR (s + 1))
      ∗ at1 (cell c (smS b (par s))) (rR s + 1) ∗ at1 (cell c (smR b (par s))) (rR s + 1)) ⊢ (RSc c b (s + 1) : sProp 𝕄) := by
  unfold RSc pos2
  rw [at1_two c (smS b) rR rR_two s, at1_two c (smR b) rR rR_two s, slotAny_two c (rsSnd b) s]
  iintro ⟨H1, H2, H3, H4, H5, H6, H7, H8⟩
  isplitl [H2]; · iexact H2
  isplitl [H1]; · iexact H1
  isplitl [H3]; · iexact H3
  isplitl [H4]; · iexact H4
  isplitl [H5 H7]
  · isplitl [H5]; · iexact H5
    iexact H7
  isplitl [H6]; · iexact H6
  iexact H8

theorem rsOwn_of (b : Fin 2) (s : ℕ) : iprop(slotAny (F := F) (rsRcv b) (par (s + 1)) c ∗ reached ER (cell c (smR b (par (s + 1)))) (rR (s + 1)))
    ⊢ (iprop(rsOwn c b s ∗ rsKeep c b (s + 1)) : sProp 𝕄) := by
  unfold rsOwn rsKeep rsPermit
  by_cases h : s < 30
  · rw [if_pos h, if_pos (by omega)]
    iintro ⟨H, Hr⟩
    isplitl [H Hr]
    · isplitl [H]; · iexact H
      iexact Hr
    iempintro
  · rw [if_neg h, if_neg (by omega)]
    iintro ⟨H, -⟩
    isplitr; · iempintro
    iexact H
theorem rsF_0 (s : ℕ) : (rsF c 0 s : sProp 𝕄) = iprop(rsOwn c 1 s ∗ fwd s (back c s)) := rfl
theorem rsF_1 (s : ℕ) : (rsF c 1 s : sProp 𝕄) = iprop(rsOwn c 0 s ∗ emp) := rfl
theorem rsPI_eq (b : Fin 2) (s : ℕ) : (if s < 30 then rsPermit b (nb c b) (s + 1) else iprop(emp) : sProp 𝕄) = rsPI c b (s + 1) := by
  unfold rsPI
  by_cases h : s < 30
  · rw [if_pos h, if_pos (by omega)]
  · rw [if_neg h, if_neg (by omega)]
theorem rsPay_0 (s : ℕ) : rsPay I c 0 s = iprop(rsGot c I 0 s ∗ rsPI c 1 (s + 1) ∗ fwd s (back c (s + 1))) := by
  rw [← rsPI_eq, ← back_nb]; rfl
theorem rsPay_1 (s : ℕ) : rsPay I c 1 s = iprop(rsGot c I 1 s ∗ rsPI c 0 (s + 1) ∗ emp) := by
  rw [← rsPI_eq]; rfl

theorem dist_got : ∀ (c : Dev nD) (k : Fin 5) (s : Fin 32), dist (pt c k) k = s.val ↔ back c s.val = pt c k := by decide +kernel
/-- The slot that has just arrived at the device that writes it changes hands. -/
theorem X_step (s : ℕ) (hs : s < 31) : iprop(fwd s (back c (s + 1)) ∗ got c s) ⊢ (X c (s + 1) : sProp 𝕄) := by
  unfold X fwd got
  rw [← bigSep_sep', ← bigSep_sep']
  refine bigSep_mono fun k _ => BIBase.Entails.trans (?_ : (_ : sProp 𝕄) ⊢ _) BIBase.Entails.refl
  have e1 : dist (pt c k) k = s + 1 ↔ back c (s + 1) = pt c k := dist_got c k ⟨s + 1, by omega⟩
  by_cases h : back c (s + 1) = pt c k
  · have h2 := e1.mpr h
    rw [h, if_pos (by omega), if_neg (by omega), if_neg (by omega), if_pos (by omega)]
    refine BIBase.Entails.trans (?_ : (_ : sProp 𝕄) ⊢ _) BIBase.Entails.refl
    iintro ⟨H, -⟩
    isplitr; · iempintro
    iexact H
  · have h2 : dist (pt c k) k ≠ s + 1 := fun h' => h (e1.mp h')
    have h3 : dist (back c (s + 1)) k ≠ s + 1 := fun h' => h ((back_of_dist c _ k (s + 1) (by omega) rfl).mp h')
    have e3 : (s < dist (back c (s + 1)) k) ↔ (s + 1 < dist (back c (s + 1)) k) := by omega
    have e4 : (dist (pt c k) k ≤ s) ↔ (dist (pt c k) k ≤ s + 1) := by omega
    rw [if_congr e3 rfl rfl, if_congr e4 rfl rfl]

/-- The counts of a core's messages and of those it waits for. -/
def Cnt (n n' : ℕ) : sProp 𝕄 := iprop(ow c n ∗ toks c n ∗ todo (inc c) n')
def RSS (s : ℕ) : sProp 𝕄 := iprop(data c I ∗ X c s ∗ RSr c 0 s ∗ RSr c 1 s ∗ Cnt c (2 + 2 * s) (2 + 2 * s))

theorem lvl_rs (s n : ℕ) (hn : 2 + 2 * s + 2 ≤ n) (hs : s < 31) : ∀ j, n ≤ j → j < 131 → 2 + s < (kd j).lvl := fun j h1 h2 => by
  rw [lvl_kd j h2]; split_ifs <;> omega

set_option maxHeartbeats 1000000 in
theorem rsSend_ok (s : ℕ) (hs : s < 31) (K : FVec F S64x8192 .f32 × FVec F S64x8192 .f32 → sProp 𝕄) :
    iprop(Recs I κ ∗ RSS c I s)
      ⊢ iprop((data c I ∗ X c (s + 1) ∗ (rsGot c I 0 s ∗ RSc c 0 (s + 1)) ∗ (rsGot c I 1 s ∗ RSc c 1 (s + 1)) ∗ Cnt c (2 + 2 * (s + 1)) (2 + 2 * (s + 1)) -∗ K (partV I c 0 (s + 1), partV I c 1 (s + 1)))
        -∗ wpc c (rsSend (envOf c) s hs (psum I s c 0, psum I s c 1)) K) := by
  have k0 : kd (2 + 2 * s) = .rs 0 s := kd_rs 0 s hs
  have k1 : kd (2 + 2 * s + 1) = .rs 1 s := kd_rs 1 s hs
  have eI : ∀ b, rsPI (F := F) c b s = rsPermit b (nb c b) s := fun b => if_pos hs
  unfold rsSend
  conv => lhs; unfold RSS RSr RSc X Cnt pos2
  simp only [wpc_bind, envOf_nb, eI]
  rw [todo_succ _ _ _ (by omega) k0, todo_succ _ _ _ (by omega) k1]
  iintro ⟨#HR, Hd, ⟨Hf, Hg⟩, ⟨Hv0, Hs0, Ht0, Hp0, -, ⟨HaS0, HbS0⟩, HaR0, HbR0⟩, ⟨Hv1, Hs1, Ht1, Hp1, -, ⟨HaS1, HbS1⟩, HaR1, HbR1⟩, HO, HT, Hi0, Hi1, HI⟩ Hk
  ihave ⟨HaS0, #rS0⟩ := (at1_reached _ _) $$ HaS0
  ihave ⟨HaS1, #rS1⟩ := (at1_reached _ _) $$ HaS1
  ihave ⟨HbR0, #rR0⟩ := (at1_reached _ _) $$ HbR0
  ihave ⟨HbR1, #rR1⟩ := (at1_reached _ _) $$ HbR1
  ihave ⟨Ho0, Hk0⟩ := (rsOwn_of c 0 s) $$ [Hv0]
  · isplitl [Hv0]; · iexact Hv0
    iexact rR0
  ihave ⟨Ho1, Hk1⟩ := (rsOwn_of c 1 s) $$ [Hv1]
  · isplitl [Hv1]; · iexact Hv1
    iexact rR1
  iapply (rsPut_ok c 0 (par s) (packV (psum I s c 0))) $$ [Hs0]
  · iexact Hs0
  iintro Hs0
  iapply (rsPut_ok c 1 (par s) (packV (psum I s c 1))) $$ [Hs1]
  · iexact Hs1
  iintro Hs1
  iapply (rsGo_ok c I κ 0 s (2 + 2 * s) hs (by omega) k0) $$ [Hs0 Hp0 Ho1 Hf HO HT]
  · isplitr; · iexact HR
    isplitl [Hs0]; · iexact Hs0
    isplitl [Hp0]; · iexact Hp0
    isplitr; · iexact rS0
    isplitl [Ho1 Hf]
    · iapply (Entails.of_eq (rsF_0 c s).symm)
      isplitl [Ho1]; · iexact Ho1
      iexact Hf
    isplitl [HO]; · iexact HO
    iexact HT
  iintro ⟨Hc0, HO, HT⟩
  iapply (rsGo_ok c I κ 1 s (2 + 2 * s + 1) hs (by omega) k1) $$ [Hs1 Hp1 Ho0 HO HT]
  · isplitr; · iexact HR
    isplitl [Hs1]; · iexact Hs1
    isplitl [Hp1]; · iexact Hp1
    isplitr; · iexact rS1
    isplitl [Ho0]
    · iapply (Entails.of_eq (rsF_1 c s).symm)
      isplitl [Ho0]; · iexact Ho0
      iempintro
    isplitl [HO]; · iexact HO
    iexact HT
  iintro ⟨Hc1, HO, HT⟩
  iapply (part_ok c I 0 (s + 1) _) $$ [Hd]
  · iexact Hd
  iintro Hd
  iapply (part_ok c I 1 (s + 1) _) $$ [Hd]
  · iexact Hd
  iintro Hd
  iapply (rsWait_ok c I κ 0 s (2 + 2 * s + 1 + 1) hs (lvl_rs s _ (by omega) hs)) $$ [Hc0 Hi0 HO HaS0 HaR0]
  · isplitr; · iexact HR
    isplitl [Hc0]; · iexact Hc0
    isplitl [Hi0]; · iexact Hi0
    isplitl [HO]; · iexact HO
    isplitl [HaS0]; · iexact HaS0
    iexact HaR0
  iintro ⟨HO, HaS0, HaR0, Hs0, HP0⟩
  iapply (rsWait_ok c I κ 1 s (2 + 2 * s + 1 + 1) hs (lvl_rs s _ (by omega) hs)) $$ [Hc1 Hi1 HO HaS1 HaR1]
  · isplitr; · iexact HR
    isplitl [Hc1]; · iexact Hc1
    isplitl [Hi1]; · iexact Hi1
    isplitl [HO]; · iexact HO
    isplitl [HaS1]; · iexact HaS1
    iexact HaR1
  iintro ⟨HO, HaS1, HaR1, Hs1, HP1⟩
  ihave ⟨HG0, Hp1, Hf⟩ := (Entails.of_eq (rsPay_0 c I s)) $$ HP0
  ihave ⟨HG1, Hp0, -⟩ := (Entails.of_eq (rsPay_1 c I s)) $$ HP1
  iapply (wpc_pure c)
  iapply Hk
  isplitl [Hd]; · iexact Hd
  isplitl [Hf Hg]
  · iapply (X_step c s hs)
    isplitl [Hf]; · iexact Hf
    iexact Hg
  isplitl [HG0 Hs0 Ht0 Hp0 Hk0 HbS0 HbR0 HaS0 HaR0]
  · isplitl [HG0]; · iexact HG0
    iapply (RSc_of c 0 s)
    isplitl [Hs0]; · iexact Hs0
    isplitl [Ht0]; · iexact Ht0
    isplitl [Hp0]; · iexact Hp0
    isplitl [Hk0]; · iexact Hk0
    isplitl [HbS0]; · iexact HbS0
    isplitl [HbR0]; · iexact HbR0
    isplitl [HaS0]; · iexact HaS0
    iexact HaR0
  isplitl [HG1 Hs1 Ht1 Hp1 Hk1 HbS1 HbR1 HaS1 HaR1]
  · isplitl [HG1]; · iexact HG1
    iapply (RSc_of c 1 s)
    isplitl [Hs1]; · iexact Hs1
    isplitl [Ht1]; · iexact Ht1
    isplitl [Hp1]; · iexact Hp1
    isplitl [Hk1]; · iexact Hk1
    isplitl [HbS1]; · iexact HbS1
    isplitl [HbR1]; · iexact HbR1
    isplitl [HaS1]; · iexact HaS1
    iexact HaR1
  unfold Cnt
  isplitl [HO]; · iexact HO
  isplitl [HT]; · iexact HT
  iexact HI

theorem rsStep_ok (s : ℕ) (hs : s < 30) (K : FVec F S64x8192 .f32 × FVec F S64x8192 .f32 → sProp 𝕄) :
    iprop(Recs I κ ∗ RSS c I s)
      ⊢ iprop((Recs I κ ∗ RSS c I (s + 1) -∗ K (psum I (s + 1) c 0, psum I (s + 1) c 1))
        -∗ wpc c (rsStep (envOf c) s hs (psum I s c 0, psum I s c 1)) K) := by
  have e : ∀ b, psum I (s + 1) c b = addf (partV I c b (s + 1)) (unpackV (packV (psum I s (nb c (ob b)) b))) := fun _ => rfl
  rw [e 0, e 1]
  unfold rsStep
  simp only [wpc_bind]
  iintro ⟨#HR, H⟩ Hk
  iapply (rsSend_ok c I κ s _) $$ [H]
  · isplitr; · iexact HR
    iexact H
  iintro ⟨Hd, HX, ⟨HG0, H0⟩, ⟨HG1, H1⟩, HC⟩
  iapply (slotLd_ok c (rsRcv 0) (par s) (packV (psum I s (nb c (ob 0)) 0))) $$ [HG0]
  · iexact HG0
  iintro HG0
  iapply (slotLd_ok c (rsRcv 1) (par s) (packV (psum I s (nb c (ob 1)) 1))) $$ [HG1]
  · iexact HG1
  iintro HG1
  iapply (wpc_pure c)
  iapply Hk
  isplitr; · iexact HR
  unfold RSS
  isplitl [Hd]; · iexact Hd
  isplitl [HX]; · iexact HX
  isplitl [HG0 H0]
  · iapply (RSr_of c 0 s)
    isplitl [HG0]; · iapply (holds_any _ c); iexact HG0
    iexact H0
  isplitl [HG1 H1]
  · iapply (RSr_of c 1 s)
    isplitl [HG1]; · iapply (holds_any _ c); iexact HG1
    iexact H1
  iexact HC

abbrev redAny (b : Fin 2) : sProp 𝕄 := anyV (F := F) ((redM b).access redR) c
abbrev redAt (b : Fin 2) : sProp 𝕄 := holds ((redM b).access redR) c (red I c b)

theorem rsLast_ok (K : PUnit → sProp 𝕄) :
    iprop(Recs I κ ∗ RSS c I 30 ∗ redAny c 0 ∗ redAny c 1)
      ⊢ iprop((RSS c I 31 ∗ redAt c I 0 ∗ redAt c I 1 -∗ K ⟨⟩)
        -∗ wpc c (rsLast (envOf c) (psum I 30 c 0, psum I 30 c 1)) K) := by
  unfold rsLast
  simp only [wpc_bind]
  iintro ⟨#HR, H, Hr0, Hr1⟩ Hk
  iapply (rsSend_ok c I κ 30 _) $$ [H]
  · isplitr; · iexact HR
    iexact H
  iintro ⟨Hd, HX, ⟨HG0, H0⟩, ⟨HG1, H1⟩, HC⟩
  iapply (slotLd_ok c (rsRcv 0) (par 30) (packV (psum I 30 (nb c (ob 0)) 0))) $$ [HG0]
  · iexact HG0
  iintro HG0
  iapply (redPut_ok c 0 (red I c 0)) $$ [Hr0]
  · iexact Hr0
  iintro Hr0
  iapply (slotLd_ok c (rsRcv 1) (par 30) (packV (psum I 30 (nb c (ob 1)) 1))) $$ [HG1]
  · iexact HG1
  iintro HG1
  iapply (redPut_ok c 1 (red I c 1)) $$ [Hr1]
  · iexact Hr1
  iintro Hr1
  iapply Hk
  unfold RSS
  isplitl [Hd HX HG0 H0 HG1 H1 HC]
  · isplitl [Hd]; · iexact Hd
    isplitl [HX]; · iexact HX
    isplitl [HG0 H0]
    · iapply (RSr_of c 0 30)
      isplitl [HG0]; · iapply (holds_any _ c); iexact HG0
      iexact H0
    isplitl [HG1 H1]
    · iapply (RSr_of c 1 30)
      isplitl [HG1]; · iapply (holds_any _ c); iexact HG1
      iexact H1
    iexact HC
  isplitl [Hr0]; · iexact Hr0
  iexact Hr1

end Cert.KernelIdeal.Ring
-- ==== Proof.IXchg.lean ====
/-
  The start of the body, and the exchange of the running maxima.
-/
module

public import proofs.«01_k».proof.Proof.IScat

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig ℕ (Elt F) ℕ UU ℕ

variable (c : Dev nD) (I : In F) (κ : GSem nD τ sig → ℕ)

/-! ## The scalars -/

/-- A core's scalars as its buffer holds them. -/
def scalV : Vec F S8 .i32 := fun i => scal c (i 0)
def scalPts : sProp 𝕄 := iprop(((scalM.access (Rect.unit (s := S8) ![0] S1.size inb_S8_S1_0)).loc (c : Thread nD τ) ↦[Finset.univ]{fullShare} scalV (F := F) c))
theorem smem_ok (n : ℕ) (hn : n < 8) (inb : ∀ a, (![n] : Fin 1 → Nat) a + S1.size a ≤ S8.size a) (K : Elt F .i32 → sProp 𝕄) :
    scalPts c ⊢ iprop((scalPts c -∗ K (scal c ⟨n, hn⟩)) -∗ wpc c (smemLoad scalM (Rect.unit (s := S8) ![n] S1.size inb) numel1_S1 rfl) K) := by
  have e : ∀ x, ((scalM.access (Rect.unit (s := S8) ![n] S1.size inb)).read (Elt F) (scalV (F := F) c)) x = scal c ⟨n, hn⟩ := fun x => by
    show scal c _ = scal c _
    refine congrArg (scal c) (Fin.ext ?_)
    have h : (x 0).val < 1 := (x 0).isLt
    show n + 1 * (x 0).val = n
    omega
  unfold wpc scalPts smemLoad
  iintro H Hk
  iapply (wp_smemLoadElt 𝒱₀ (c : Thread nD τ) none Set.univ (m := scalM) (r := Rect.unit (s := S8) ![n] S1.size inb) (S := Finset.univ) (Finset.subset_univ _)) $$ [H]
  · iexact H
  rw [e]
  iintro H
  rw [wp_ret]
  imodintro
  iapply Hk
  iexact H
theorem wpc_assume (Q : Prop) (d : Decidable Q) (h : Q) (K : PLift Q → sProp 𝕄) : K ⟨h⟩ ⊢ wpc (F := F) c (Prog.lift (TpuEff.assume Q d)) K := by
  unfold wpc
  iintro H
  iapply (wp_assume 𝒱₀ (c : Thread nD τ) none Set.univ h)
  rw [wp_ret]
  imodintro
  iexact H

theorem readEnv_ok (K : Env → sProp 𝕄) : scalPts c ⊢ iprop((scalPts c -∗ K (envOf c)) -∗ wpc (F := F) c readEnv K) := by
  rw [show envOf c = ⟨scal c ⟨0, by decide⟩, chk3 c, scal c ⟨1, by decide⟩, chk1 c, scal c ⟨2, by decide⟩, chk2 c⟩ from rfl]
  unfold readEnv
  simp only [wpc_bind]
  iintro H Hk
  iapply (smem_ok c 0 (by decide) inb_S8_S1_0) $$ [H]
  · iexact H
  iintro H
  iapply (wpc_assume c _ _ (chk3 c))
  iapply (smem_ok c 1 (by decide) inb_S8_S1_1) $$ [H]
  · iexact H
  iintro H
  iapply (wpc_assume c _ _ (chk1 c))
  iapply (smem_ok c 2 (by decide) inb_S8_S1_2) $$ [H]
  · iexact H
  iintro H
  iapply (wpc_assume c _ _ (chk2 c))
  iapply (wpc_pure c)
  iapply Hk
  iexact H

/-! ## Meeting the neighbours -/

theorem sig_rule (b : Fin 2) (c' : Dev nD) (hc : nb c (ob b) = c') (n : ℕ) (hn : n < 131) (hk : kd n = .bar b) (K : PUnit → sProp 𝕄) :
    iprop(Recs I κ ∗ barPay c' b ∗ ow c n ∗ toks c n)
      ⊢ iprop((ow c (n + 1) ∗ toks c (n + 1) -∗ K ⟨⟩) -∗ wpc (F := F) c (semSignalWord c' barS 1#32) K) := by
  subst hc
  unfold wpc ow semSignalWord
  rw [show (1#32 : BitVec 32).toInt = ((1 : ℕ) : ℤ) from by decide]
  iintro ⟨#HR, Hp, ⟨%W, HO⟩, HT⟩ Hk
  ihave ⟨Ht, -, HT⟩ := (toks_succ c n (.bar b) hn hk) $$ HT
  unfold tok
  iapply (Rounds.wp_signal 𝒱₀ ER (Rd I) (c : Thread nD τ) none (dst := ((nb c (ob b) : Dev nD) : Thread nD τ)) (sem := barS) (r := 0) (d := b) (k' := 1) (κ := κ (cell (nb c (ob b)) smBar))
    (by rw [show (((nb c (ob b) : Dev nD) : Thread nD τ), SemLoc.reg barS) = cell (nb c (ob b)) smBar from rfl, Rd_duties_bar]; exact Finset.mem_univ b) rfl 1 (O c (n + 1))
    (O_succ c n (.bar b) hn hk)) $$ [Hp HO Ht]
  · isplitr; · iapply (Recs_inv I κ (nb c (ob b)) smBar (fun h => nomatch h)); iexact HR
    isplitl [HO]; · iexact HO
    isplitl [Ht]; · iexact Ht
    isplitl [Hp]; · iapply (show barPay (nb c (ob b)) b ⊢ (Rd I).payload (((nb c (ob b) : Dev nD) : Thread nD τ), SemLoc.reg barS) 0 b from BIBase.Entails.refl); iexact Hp
    iapply (Recs_bar I κ (nb c (ob b))); iexact HR
  iintro HO
  rw [wp_ret]
  imodintro
  iapply Hk
  isplitl [HO]; · iexists W; iexact HO
  iexact HT

theorem bar_rule (K : PUnit → sProp 𝕄) :
    iprop(Recs I κ ∗ cred (tallyAt (cell c smBar) 1 2) ∗ ow c 2 ∗ at1 (cell c smBar) 0)
      ⊢ iprop((ow c 2 ∗ at1 (cell c smBar) 1 ∗ barPay c 0 ∗ barPay c 1 -∗ K ⟨⟩) -∗ wpc (F := F) c (semWaitWord barS 2#32) K) := by
  unfold wpc ow at1 semWaitWord
  rw [show (2#32 : BitVec 32).toInt = ((2 : ℕ) : ℤ) from by decide]
  iintro ⟨#HR, Hc, ⟨%W, HO⟩, Hat, -⟩ Hk
  iapply (Rounds.wp_wait_rest_token 𝒱₀ ER (Rd I) (c : Thread nD τ) none (κ := κ (cell c smBar)) (k' := 2)
    (wpE_semWait_eq 𝒱₀ (c : Thread nD τ) none Set.univ) (Set.mem_univ _) 1 (O := O c 2) (W := W) (R := 0) (m := 0) (T := ∅)
    (by rw [Rd_expect_bar I c])) $$ [Hc HO Hat]
  · isplitr; · iapply (Recs_inv I κ c smBar (fun h => nomatch h)); iexact HR
    isplitl [Hc]; · iexact Hc
    isplitl [HO]; · iexact HO
    isplitr; · iapply (mayWait c _ 1 2 (by decide) (fun j h1 h2 => by rw [lvl_kd j h2]; split_ifs <;> omega)); iapply (Recs_lev I κ); iexact HR
    iexact Hat
  iintro ⟨HO, Hat, Hre, Hp⟩
  ihave ⟨H0, H1⟩ := (Entails.of_eq (Rd_rest_bar I c)) $$ Hp
  rw [wp_ret]
  imodintro
  iapply Hk
  isplitl [HO]; · iexists _; iexact HO
  isplitl [Hat Hre]
  · isplitl [Hat]; · iexact Hat
    iexact Hre
  isplitl [H0]; · iexact H0
  iexact H1

theorem dev1_eq : (⟨k0_dev1 (envOf c).v1, k0_dev1_lt (envOf c).v1 (envOf c).h1⟩ : Dev nD) = nb c 1 := Fin.ext (envOf_dev1 c)
theorem dev2_eq : (⟨k0_dev2 (envOf c).v2, k0_dev2_lt (envOf c).v2 (envOf c).h2⟩ : Dev nD) = nb c 0 := Fin.ext (envOf_dev2 c)

/-- The slots of a side's first receive step, given to the neighbour that writes them. -/
def give (b : Fin 2) : sProp 𝕄 := iprop(rsPermit b c 0 ∗ slotAny (F := F) (agRcv b) 0 c)
theorem give_eq (b : Fin 2) : (give c b : sProp 𝕄) = barPay (nb c (ob b)) b := by unfold give barPay; rw [ob_nb]
theorem inc_bar : iprop(inc c (.bar 0) ∗ inc c (.bar 1)) ⊢ (cred (tallyAt (cell c smBar) 1 2) : sProp 𝕄) := by
  rw [show (tallyAt (cell c smBar) 1 2 : CellTallies nD τ sig ℕ) = tl c (.bar 0) + tl c (.bar 1) from (tallyAt_add (cell c smBar) 1 1 1).symm]
  exact (cred_add _ _).2

theorem meet_ok (K : PUnit → sProp 𝕄) :
    iprop(Recs I κ ∗ give c 0 ∗ give c 1 ∗ at1 (cell c smBar) 0 ∗ Cnt c 0 0)
      ⊢ iprop((at1 (cell c smBar) 1 ∗ barPay c 0 ∗ barPay c 1 ∗ Cnt c 2 2 -∗ K ⟨⟩) -∗ wpc (F := F) c (meet (envOf c)) K) := by
  unfold meet Cnt
  simp only [wpc_bind, dev1_eq, dev2_eq]
  rw [todo_succ _ 0 _ (by decide) (kd_bar 0), todo_succ _ (0 + 1) _ (by decide) (kd_bar 1)]
  iintro ⟨#HR, H0, H1, Ha, HO, HT, Hi0, Hi1, HI⟩ Hk
  iapply (sig_rule c I κ 0 (nb c 1) rfl 0 (by decide) (kd_bar 0)) $$ [H0 HO HT]
  · isplitr; · iexact HR
    isplitl [H0]; · iapply (Entails.of_eq (give_eq c 0)); iexact H0
    isplitl [HO]; · iexact HO
    iexact HT
  iintro ⟨HO, HT⟩
  iapply (sig_rule c I κ 1 (nb c 0) rfl 1 (by decide) (kd_bar 1)) $$ [H1 HO HT]
  · isplitr; · iexact HR
    isplitl [H1]; · iapply (Entails.of_eq (give_eq c 1)); iexact H1
    isplitl [HO]; · iexact HO
    iexact HT
  iintro ⟨HO, HT⟩
  iapply (bar_rule c I κ) $$ [Hi0 Hi1 HO Ha]
  · isplitr; · iexact HR
    isplitl [Hi0 Hi1]
    · iapply (inc_bar c)
      isplitl [Hi0]; · iexact Hi0
      iexact Hi1
    isplitl [HO]; · iexact HO
    iexact Ha
  iintro ⟨HO, Ha, H0, H1⟩
  iapply Hk
  isplitl [Ha]; · iexact Ha
  isplitl [H0]; · iexact H0
  isplitl [H1]; · iexact H1
  isplitl [HO]; · iexact HO
  isplitl [HT]; · iexact HT
  iexact HI

/-! ## Keeping the weights -/

def wPts : sProp 𝕄 := iprop(((wM.access wR).loc (c : Thread nD τ) ↦[Finset.univ]{fullShare} I.w c))
theorem keepW_ok (K : PUnit → sProp 𝕄) :
    iprop(wPts c I ∗ anyV (F := F) (wbM.access wR) c)
      ⊢ iprop((wPts c I ∗ holds (wbM.access wR) c (wbV I c) -∗ K ⟨⟩) -∗ wpc (F := F) c keepW K) := by
  unfold keepW wPts
  simp only [wpc_bind]
  iintro ⟨Hw, Hb⟩ Hk
  iapply (ld_whole c wM wR _ (I.w c)) $$ [Hw]
  · iexact Hw
  iintro Hw
  iapply (ld_any c wbM wR _) $$ [Hb]
  · iexact Hb
  iintro %y Hb
  iapply (st_rule c wbM wR (wbV I c) _ _) $$ [Hb]
  · iexact Hb
  iintro Hb
  iapply Hk
  isplitl [Hw]; · iexact Hw
  iexact Hb

/-! ## The exchange slots around the reduce-scatter -/

theorem X_init : bigSep Finset.univ (fun k : Fin 5 => iprop(bfAny (F := F) k c ∗ reached ER (cell c (smB k)) 0)) ⊢ (X c 0 : sProp 𝕄) := by
  unfold X fwd got
  rw [back_zero, bigSep_congr (s := Finset.univ) (Ψ := fun k : Fin 5 => iprop(bfAny (F := F) k c ∗ reached ER (cell c (smB k)) 0)) (fun k _ => if_pos (dist_pos c k)),
    bigSep_congr (s := Finset.univ) (Ψ := fun k : Fin 5 => (iprop(emp) : sProp 𝕄)) (fun k _ => if_neg (by have := dist_pos (pt c k) k; omega))]
  iintro H
  isplitl [H]; · iexact H
  iapply (Entails.of_eq (bigSep_emp_const (M := 𝕄) (Finset.univ : Finset (Fin 5))).symm)
  iempintro
theorem X_end : (X c 31 : sProp 𝕄) ⊢ bigSep Finset.univ (fun k : Fin 5 => iprop(bfAny (F := F) k (pt c k) ∗ reached ER (cell (pt c k) (smB k)) 0)) := by
  unfold X got
  rw [bigSep_congr (s := Finset.univ) (Ψ := fun k : Fin 5 => iprop(bfAny (F := F) k (pt c k) ∗ reached ER (cell (pt c k) (smB k)) 0)) (fun k _ => if_pos (by have := dist_lt (pt c k) k; omega))]
  iintro ⟨-, H⟩
  iexact H

/-! ## The exchange of the running maxima -/

theorem holds_unit (b : Ref sig .tc) {off : Fin b.ty.shape.rank → Nat} (h : off = fun _ => 0) (inb : ∀ a, off a + b.ty.shape.size a ≤ b.ty.shape.size a)
    (x : b.ty.shape.Idx → Elt F b.ty.elt) :
    (holds ((Memref.whole b).access (Rect.unit off b.ty.shape.size inb)) c x : sProp 𝕄) = holds (Memref.whole b).view c x := by
  subst h
  unfold holds
  have e1 : ((Memref.whole b).access (Rect.unit (fun _ => 0) b.ty.shape.size inb) : View sig .tc _ _ _).set = Finset.univ := Memref.set_access_whole b
  have e2 : ∀ f, ((Memref.whole b).access (Rect.unit (fun _ => 0) b.ty.shape.size inb) : View sig .tc _ _ _).read (Elt F) f = f := fun f => Memref.read_access_whole (Elt F) b f
  have e3 : (Memref.whole b).view.set = Finset.univ := View.set_whole b
  have e4 : ∀ f, (Memref.whole b).view.read (Elt F) f = f := fun f => rfl
  simp only [e1, e2, e3, e4]
theorem anyV_unit (b : Ref sig .tc) {off : Fin b.ty.shape.rank → Nat} (h : off = fun _ => 0) (inb : ∀ a, off a + b.ty.shape.size a ≤ b.ty.shape.size a) :
    (anyV (F := F) ((Memref.whole b).access (Rect.unit off b.ty.shape.size inb)) c : sProp 𝕄) = anyV (Memref.whole b).view c := by
  subst h
  unfold anyV
  have e1 : ((Memref.whole b).access (Rect.unit (fun _ => 0) b.ty.shape.size inb) : View sig .tc _ _ _).set = Finset.univ := Memref.set_access_whole b
  have e3 : (Memref.whole b).view.set = Finset.univ := View.set_whole b
  simp only [e1, e3]
theorem zero2 : (![0, 0] : Fin 2 → Nat) = fun _ => 0 := by decide
theorem bs_holds (x : Vec F S8x128 .f32) : (holds (bfSnd.access bsR) c x : sProp 𝕄) = holds bfSnd.view c x := holds_unit c cc0_scratch13 zero2 inb_S8x128_S8x128_0_0 x
theorem bs_any : (anyV (F := F) (bfSnd.access bsR) c : sProp 𝕄) = anyV bfSnd.view c := anyV_unit c cc0_scratch13 zero2 inb_S8x128_S8x128_0_0

theorem bfAt_eq (k : Fin 5) (y : Vec F S8x128 .f32) : bfAt k c (shapeCast S1x8x128 y shapeCasts_S8x128_S1x8x128) = (holds (bfSlot k).view c y : sProp 𝕄) := by
  refine (holds_reshape (bfRcv.access (bfR k)) squeezes_S1x8x128_S8x128.numel_eq c _).trans ?_
  refine congrArg (holds (bfSlot k).view c) (funext fun i => ?_)
  show y (Shape.reshapeEquiv _ (Shape.reshapeEquiv _ i)) = y i
  rw [Shape.reshapeEquiv_reshapeEquiv, Shape.reshapeEquiv_self]
theorem bfAny_eq (k : Fin 5) : bfAny (F := F) k c = (anyV (bfSlot k).view c : sProp 𝕄) := any_reshape (bfRcv.access (bfR k)) squeezes_S1x8x128_S8x128.numel_eq c

theorem bfRcv_sc (k : Fin 5) : (bfSlot k).view.ref.isScScratch = false := rfl

/-- The exchange slot of round `k` at the start of round `s`. -/
def bfItem (s : ℕ) (k : Fin 5) : sProp 𝕄 :=
  if s ≤ k.val then iprop(bfAny (F := F) k (pt c k) ∗ reached ER (cell (pt c k) (smB k)) 0 ∗ at1 (cell c (smB k)) 0)
  else iprop(bfAny (F := F) k c ∗ at1 (cell c (smB k)) 1)
def BFS (s : ℕ) : sProp 𝕄 :=
  iprop(scalPts c ∗ anyV (F := F) bfSnd.view c ∗ at1 (cell c smF) s ∗ facts s c ∗ bigSep Finset.univ (bfItem c s) ∗ Cnt c (64 + s) (64 + s))

theorem bfItem_other (s : ℕ) (k j : Fin 5) (hk : k.val = s) (hj : j ≠ k) : (bfItem c s j : sProp 𝕄) = bfItem c (s + 1) j := by
  have : j.val ≠ k.val := fun h => hj (Fin.ext h)
  exact if_congr (by omega) rfl rfl
theorem bfItem_split (s : ℕ) (k : Fin 5) (hk : k.val = s) : bigSep Finset.univ (bfItem c s)
    = (iprop((bfAny (F := F) k (pt c k) ∗ reached ER (cell (pt c k) (smB k)) 0 ∗ at1 (cell c (smB k)) 0) ∗ bigSep (Finset.univ.erase k) (bfItem c (s + 1))) : sProp 𝕄) := by
  rw [bigSep_univ_at _ k, bigSep_congr (s := Finset.univ.erase k) (fun j hj => bfItem_other c s k j hk (Finset.ne_of_mem_erase hj))]
  exact congrArg (fun A => iprop(A ∗ _)) (if_pos (le_of_eq hk.symm))
theorem bfItem_join (s : ℕ) (k : Fin 5) (hk : k.val = s) : bigSep Finset.univ (bfItem c (s + 1))
    = (iprop((bfAny (F := F) k c ∗ at1 (cell c (smB k)) 1) ∗ bigSep (Finset.univ.erase k) (bfItem c (s + 1))) : sProp 𝕄) := by
  rw [bigSep_univ_at _ k]
  exact congrArg (fun A => iprop(A ∗ _)) (if_neg (by omega))

theorem lvl_bf (s n : ℕ) (hn : 64 + s + 1 ≤ n) (hs : s < 5) : ∀ j, n ≤ j → j < 131 → 33 + s < (kd j).lvl := fun j h1 h2 => by
  rw [lvl_kd j h2]; split_ifs <;> omega
theorem lvl_any (n : ℕ) : ∀ j, n ≤ j → j < 131 → 0 < (kd j).lvl := fun j h1 h2 => by
  rw [lvl_kd j h2]; split_ifs <;> omega

theorem bfGo_ok (k : Fin 5) (d : Dev nD) (hd : d = pt c k) (h1) (h2) (h3) (K : PUnit → sProp 𝕄) :
    iprop(Recs I κ ∗ holds bfSnd.view c (blockV (mx I k.val c)) ∗ bfAny (F := F) k (pt c k) ∗ reached ER (cell (pt c k) (smB k)) 0
        ∗ facts k.val c ∗ ow c (64 + k.val) ∗ toks c (64 + k.val) ∗ reached ER (cell c smF) k.val)
      ⊢ iprop((cred (tallyAt (cell c smF) 0 Nb) ∗ ow c (64 + k.val + 1) ∗ toks c (64 + k.val + 1) -∗ K ⟨⟩)
        -∗ wpc c (Prog.lift (.enqueueDma bfSnd (.remote (Dev.tc d) (bfSlot k) (.dma bfSndS) (bfRcv_sc k)) (.dma (sem5 cc0_scratch20 k)) h1 h2 h3)) K) := by
  have hk := k.isLt
  subst hd
  rw [bfAny_eq]
  iintro ⟨#HR, Hs, Hd, Hr2, HF, HO, HT, Hr1⟩ Hk
  ihave ⟨Ht2, Ht1, HT⟩ := (toks_succ c (64 + k.val) (.bf k) (by omega) (kd_bf k)) $$ HT
  unfold tok otok
  iapply (send_rule c I κ (pt c k) bfSnd (bfSlot k) (bfRcv_sc k) bfSndS (sem5 cc0_scratch20 k) h1 h2 h3 (.bf k) (64 + k.val) Nb k.val
    (blockV (mx I k.val c)) (facts k.val c) rfl rfl (O_succ c (64 + k.val) (.bf k) (by omega) (kd_bf k)) rfl
    (by rw [role_F]; exact hk) (by rw [role_F]; exact fun h => nomatch h) (by rw [role_F]; exact fun h => nomatch h) (by rw [role_F]; rfl)
    (by rw [role_B]; exact Nat.one_pos) (by rw [role_B]; exact fun h => nomatch h) (by rw [role_B]; exact fun h => nomatch h) (by rw [role_B]; rfl)
    (cr_bf k) rfl
    (by rw [role_F]; exact BIBase.Entails.refl)
    (by
      rw [role_B]; show _ ⊢ bfPay I (pt c k) k
      unfold bfPay; rw [pt_pt, bfAt_eq])) $$ [Hs Hd HF HO Ht1 Hr1 Ht2 Hr2]
  · isplitr; · iexact HR
    isplitl [Hs]; · iexact Hs
    isplitl [Hd]; · iexact Hd
    isplitl [HF]; · iexact HF
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  isplitl [HO]; · iexact HO
  iexact HT

theorem facts_succ (k : Fin 5) : facts (F := F) (k.val + 1) c = (iprop(facts k.val c ∗ facts k.val (pt c k)) : sProp 𝕄) := by
  have h : Fin.ofNat 5 k.val = k := Fin.ext (Nat.mod_eq_of_lt k.isLt)
  exact congrArg (fun j => iprop(facts k.val c ∗ facts k.val (pt c j))) h
theorem mx_succ (k : Fin 5) : mx I (k.val + 1) c = Scalar.maximumf (mx I k.val c) (maxB (shapeCast S1x8x128 (blockV (mx I k.val (pt c k))) shapeCasts_S8x128_S1x8x128)) := by
  conv => lhs; unfold mx
  rw [show Fin.ofNat 5 k.val = k from Fin.ext (Nat.mod_eq_of_lt k.isLt)]
theorem bfDev (k : Fin 5) (h) : (⟨k0_dev65 (scal c (scB k)), h⟩ : Dev nD) = pt c k := Fin.ext (scal_pt c k)

set_option maxHeartbeats 1000000 in
theorem bfStep_ok (k : Fin 5) (hs : k.val < 5) (K : F .f32 → sProp 𝕄) :
    iprop(Recs I κ ∗ BFS (F := F) c k.val)
      ⊢ iprop((Recs I κ ∗ BFS (F := F) c (k.val + 1) -∗ K (mx I (k.val + 1) c)) -∗ wpc c (bfStep k.val hs (mx I k.val c)) K) := by
  unfold bfStep BFS Cnt
  simp only [wpc_bind]
  rw [todo_succ _ (64 + k.val) _ (by omega) (kd_bf k), bfItem_split c k.val k rfl, bfItem_join c k.val k rfl, facts_succ, mx_succ]
  iintro ⟨#HR, Hsc, Hs, Ha, #Hf, ⟨⟨Hd, Hr2, Hb⟩, Hrest⟩, HO, HT, Hi, HI⟩ Hk
  ihave ⟨Ha, #Hra⟩ := (at1_reached _ _) $$ Ha
  iapply (smem_ok c (3 + k.val) (by omega) (scal_inb ⟨3 + k.val, by omega⟩)) $$ [Hsc]
  · iexact Hsc
  iintro Hsc
  iapply (wpc_assume c _ _ (chkB_ok c k))
  ihave Hs := (Entails.of_eq (bs_any c).symm) $$ Hs
  iapply (ld_any c bfSnd bsR _) $$ [Hs]
  · iexact Hs
  iintro %y Hs
  iapply (st_rule c bfSnd bsR (blockV (mx I k.val c)) _ _) $$ [Hs]
  · iexact Hs
  iintro Hs
  ihave Hs := (Entails.of_eq (bs_holds c _)) $$ Hs
  iapply (bfGo_ok c I κ k _ (bfDev c k _) _ _ _) $$ [Hs Hd Hr2 HO HT]
  · isplitr; · iexact HR
    isplitl [Hs]; · iexact Hs
    isplitl [Hd]; · iexact Hd
    isplitl [Hr2]; · iexact Hr2
    isplitr; · iexact Hf
    isplitl [HO]; · iexact HO
    isplitl [HT]; · iexact HT
    iexact Hra
  iintro ⟨Hc, HO, HT⟩
  iapply (wait_rule c I κ bfSndS (bfSlot k) bfSnd _ _ .bfS role_F k.val 0 (64 + k.val + 1) Nb
    hs (fun h => nomatch h) (fun h => nomatch h) cr_bfSnd rfl (by decide) (lvl_any _)) $$ [Hc HO Ha]
  · isplitr; · iexact HR
    isplitl [Hc]; · iexact Hc
    isplitl [HO]; · iexact HO
    iexact Ha
  iintro ⟨HO, Ha, Hs⟩
  ihave Hs := (show pay I c k.val 0 .bfS ⊢ anyV (F := F) bfSnd.view c from BIBase.Entails.refl) $$ Hs
  unfold inc tl
  iapply (wait_rule c I κ (sem5 cc0_scratch20 k) bfSnd (bfSlot k) _ _ (.bfR k) (role_B k) 0 (33 + k.val) (64 + k.val + 1) Nb
    Nat.one_pos (fun h => nomatch h) (fun h => nomatch h) (cr_bf k) rfl (by omega) (lvl_bf k.val _ (by omega) hs)) $$ [Hi HO Hb]
  · isplitr; · iexact HR
    isplitl [Hi]; · iexact Hi
    isplitl [HO]; · iexact HO
    iexact Hb
  iintro ⟨HO, Hb, Hp⟩
  ihave ⟨Hp, Hf2⟩ := (show pay I c 0 0 (.bfR k) ⊢ iprop(bfAt k c (shapeCast S1x8x128 (blockV (mx I k.val (pt c k))) shapeCasts_S8x128_S1x8x128) ∗ facts k.val (pt c k)) from BIBase.Entails.refl) $$ Hp
  iapply (ld_rule c bfRcv (bfR k) _ (shapeCast S1x8x128 (blockV (mx I k.val (pt c k))) shapeCasts_S8x128_S1x8x128)) $$ [Hp]
  · iexact Hp
  iintro Hp
  iapply (wpc_pure c)
  iapply Hk
  isplitr; · iexact HR
  isplitl [Hsc]; · iexact Hsc
  isplitl [Hs]; · iexact Hs
  isplitl [Ha]; · iexact Ha
  isplitl [Hf2]
  · isplitr; · iexact Hf
    iexact Hf2
  isplitl [Hp Hb Hrest]
  · isplitl [Hp Hb]
    · isplitl [Hp]; · iapply (holds_any _ c); iexact Hp
      iexact Hb
    iexact Hrest
  isplitl [HO]; · iexact HO
  isplitl [HT]; · iexact HT
  iexact HI

theorem near : ∀ (e c : Dev nD) (k : Fin 5), e.val / 2 ^ (k.val + 1) = c.val / 2 ^ (k.val + 1) → e.val / 2 ^ k.val = c.val / 2 ^ k.val ∨ e.val / 2 ^ k.val = (pt c k).val / 2 ^ k.val := by decide +kernel
theorem facts_near : ∀ (k : ℕ) (hk : k ≤ 5) (c e : Dev nD) (h : e.val / 2 ^ k = c.val / 2 ^ k), (facts k c : sProp 𝕄) ⊢ ready e
  | 0, _, c, e, h => by
    have : e = c := Fin.ext (by simpa using h)
    subst this; exact BIBase.Entails.refl
  | k + 1, hk, c, e, h => by
    rw [facts_succ c ⟨k, by omega⟩]
    rcases near e c ⟨k, by omega⟩ h with h | h
    · iintro ⟨H, -⟩; iapply (facts_near k (by omega) c e h); iexact H
    · iintro ⟨-, H⟩; iapply (facts_near k (by omega) _ e h); iexact H
theorem facts_all (e : Dev nD) : (facts 5 c : sProp 𝕄) ⊢ ready e :=
  facts_near 5 (le_refl _) c e (by
    have h1 : e.val < 32 := e.isLt
    have h2 : c.val < 32 := c.isLt
    rw [Nat.div_eq_of_lt (by omega), Nat.div_eq_of_lt (by omega)])

end Cert.KernelIdeal.Ring
-- ==== Proof.IGath.lean ====
/-
  The all-gather and the copies to the output.
-/
module

public import proofs.«01_k».proof.Proof.IXchg
public import Idealize.SL.BI.BigOpNat

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig ℕ (Elt F) ℕ UU ℕ

variable (c : Dev nD) (I : In F) (κ : GSem nD τ sig → ℕ)

/-! ## What a core holds in the all-gather -/

def agPI (b : Fin 2) (t : ℕ) : sProp 𝕄 := if t < 31 then agPermit b (nb c b) t else iprop(emp)
def agKeep (b : Fin 2) (t : ℕ) : sProp 𝕄 := if t < 31 then iprop(emp) else slotAny (F := F) (agRcv b) (par t) c
/-- A side before step `t` is sent, but for the send slot and the receive slot of step `t + 1`. -/
def AGc (b : Fin 2) (t : ℕ) : sProp 𝕄 :=
  iprop(slotAny (F := F) (agSnd b) (par (t + 1)) c ∗ agPI c b t ∗ agKeep c b t ∗ pos2 c (smS b) aR t ∗ pos2 c (smR b) aR t)
/-- A side before step `t`. -/
def AGr (b : Fin 2) (t : ℕ) : sProp 𝕄 :=
  iprop(slotAny (F := F) (agSnd b) (par t) c ∗ slotAny (F := F) (agRcv b) (par (t + 1)) c ∗ AGc c b t)
/-- A side with its message of step `t` in its send slot. -/
def AGf (b : Fin 2) (t : ℕ) : sProp 𝕄 :=
  iprop(slotAt (agSnd b) (par t) c (pack8 (qv I t c b)) ∗ slotAny (F := F) (agRcv b) (par (t + 1)) c ∗ AGc c b t)
/-- A side with step `t` under way. -/
def AGs (b : Fin 2) (t : ℕ) : sProp 𝕄 :=
  iprop(slotAny (F := F) (agSnd b) (par (t + 1)) c ∗ cred (tallyAt (cell c (smS b (par t))) 0 Ni8) ∗ agKeep c b (t + 1) ∗ pos2 c (smS b) aR t ∗ pos2 c (smR b) aR t)

abbrev agGot (b : Fin 2) (t : ℕ) : sProp 𝕄 := slotAt (agRcv b) (par t) c (pack8 (qv I t (nb c (ob b)) b))
def agOwn (b : Fin 2) (t : ℕ) : sProp 𝕄 := if t < 30 then agPermit b c (t + 1) else iprop(emp)
theorem agOwn_of (b : Fin 2) (t : ℕ) : iprop(slotAny (F := F) (agRcv b) (par (t + 1)) c ∗ reached ER (cell c (smR b (par (t + 1)))) (aR (t + 1)))
    ⊢ (iprop(agOwn c b t ∗ agKeep c b (t + 1)) : sProp 𝕄) := by
  unfold agOwn agKeep agPermit
  by_cases h : t < 30
  · rw [if_pos h, if_pos (by omega)]
    iintro ⟨H, Hr⟩
    isplitl [H Hr]
    · isplitl [H]; · iexact H
      iexact Hr
    iempintro
  · rw [if_neg h, if_neg (by omega)]
    iintro ⟨H, -⟩
    isplitr; · iempintro
    iexact H
theorem agF_0 (t : ℕ) : (agF c 0 t : sProp 𝕄) = agOwn c 1 t := rfl
theorem agF_1 (t : ℕ) : (agF c 1 t : sProp 𝕄) = agOwn c 0 t := rfl
theorem agPI_eq (b : Fin 2) (t : ℕ) : (if t < 30 then agPermit b (nb c b) (t + 1) else iprop(emp) : sProp 𝕄) = agPI c b (t + 1) := by
  unfold agPI
  by_cases h : t < 30
  · rw [if_pos h, if_pos (by omega)]
  · rw [if_neg h, if_neg (by omega)]
theorem agPay_0 (t : ℕ) : agPay I c 0 t = iprop(agGot c I 0 t ∗ agPI c 1 (t + 1)) := by rw [← agPI_eq]; rfl
theorem agPay_1 (t : ℕ) : agPay I c 1 t = iprop(agGot c I 1 t ∗ agPI c 0 (t + 1)) := by rw [← agPI_eq]; rfl

theorem lvl_ag (t n : ℕ) (hn : 69 + 2 * t + 2 ≤ n) (ht : t < 31) : ∀ j, n ≤ j → j < 131 → 38 + t < (kd j).lvl := fun j h1 h2 => by
  rw [lvl_kd j h2]; split_ifs <;> omega

theorem agFwd_ok (t : ℕ) (K : PUnit → sProp 𝕄) :
    iprop(AGr (F := F) c 0 t ∗ AGr (F := F) c 1 t)
      ⊢ iprop((AGf c I 0 t ∗ AGf c I 1 t -∗ K ⟨⟩) -∗ wpc c (agFwd t (qv I t c 0, qv I t c 1)) K) := by
  unfold agFwd AGr AGf
  simp only [wpc_bind]
  iintro ⟨⟨Hs0, H0⟩, Hs1, H1⟩ Hk
  iapply (agPut_ok c 0 (par t) (pack8 (qv I t c 0))) $$ [Hs0]
  · iexact Hs0
  iintro Hs0
  iapply (agPut_ok c 1 (par t) (pack8 (qv I t c 1))) $$ [Hs1]
  · iexact Hs1
  iintro Hs1
  iapply Hk
  isplitl [Hs0 H0]
  · isplitl [Hs0]; · iexact Hs0
    iexact H0
  isplitl [Hs1]; · iexact Hs1
  iexact H1

theorem agSend_ok (t : ℕ) (ht : t < 31) (n' : ℕ) (K : PUnit → sProp 𝕄) :
    iprop(Recs I κ ∗ AGf c I 0 t ∗ AGf c I 1 t ∗ Cnt c (69 + 2 * t) n')
      ⊢ iprop((AGs (F := F) c 0 t ∗ AGs (F := F) c 1 t ∗ Cnt c (69 + 2 * (t + 1)) n' -∗ K ⟨⟩) -∗ wpc c (agSend (envOf c) t) K) := by
  have k0 : kd (69 + 2 * t) = .ag 0 t := kd_ag 0 t ht
  have k1 : kd (69 + 2 * t + 1) = .ag 1 t := kd_ag 1 t ht
  have eI : ∀ b, agPI (F := F) c b t = agPermit b (nb c b) t := fun b => if_pos ht
  unfold agSend
  conv => lhs; unfold AGf AGc Cnt pos2
  simp only [wpc_bind, envOf_nb, eI]
  iintro ⟨#HR, ⟨Hs0, Hv0, Ht0, Hp0, -, ⟨HaS0, HbS0⟩, HaR0, HbR0⟩, ⟨Hs1, Hv1, Ht1, Hp1, -, ⟨HaS1, HbS1⟩, HaR1, HbR1⟩, HO, HT, HI⟩ Hk
  ihave ⟨HaS0, #rS0⟩ := (at1_reached _ _) $$ HaS0
  ihave ⟨HaS1, #rS1⟩ := (at1_reached _ _) $$ HaS1
  ihave ⟨HbR0, #rR0⟩ := (at1_reached _ _) $$ HbR0
  ihave ⟨HbR1, #rR1⟩ := (at1_reached _ _) $$ HbR1
  ihave ⟨Ho0, Hk0⟩ := (agOwn_of c 0 t) $$ [Hv0]
  · isplitl [Hv0]; · iexact Hv0
    iexact rR0
  ihave ⟨Ho1, Hk1⟩ := (agOwn_of c 1 t) $$ [Hv1]
  · isplitl [Hv1]; · iexact Hv1
    iexact rR1
  iapply (agGo_ok c I κ 0 t (69 + 2 * t) ht (by omega) k0) $$ [Hs0 Hp0 Ho1 HO HT]
  · isplitr; · iexact HR
    isplitl [Hs0]; · iexact Hs0
    isplitl [Hp0]; · iexact Hp0
    isplitr; · iexact rS0
    isplitl [Ho1]
    · iapply (Entails.of_eq (agF_0 c t).symm)
      iexact Ho1
    isplitl [HO]; · iexact HO
    iexact HT
  iintro ⟨Hc0, HO, HT⟩
  iapply (agGo_ok c I κ 1 t (69 + 2 * t + 1) ht (by omega) k1) $$ [Hs1 Hp1 Ho0 HO HT]
  · isplitr; · iexact HR
    isplitl [Hs1]; · iexact Hs1
    isplitl [Hp1]; · iexact Hp1
    isplitr; · iexact rS1
    isplitl [Ho0]
    · iapply (Entails.of_eq (agF_1 c t).symm)
      iexact Ho0
    isplitl [HO]; · iexact HO
    iexact HT
  iintro ⟨Hc1, HO, HT⟩
  iapply Hk
  unfold AGs Cnt pos2
  isplitl [Ht0 Hc0 Hk0 HaS0 HbS0 HaR0 HbR0]
  · isplitl [Ht0]; · iexact Ht0
    isplitl [Hc0]; · iexact Hc0
    isplitl [Hk0]; · iexact Hk0
    isplitl [HaS0 HbS0]
    · isplitl [HaS0]; · iexact HaS0
      iexact HbS0
    isplitl [HaR0]; · iexact HaR0
    iexact HbR0
  isplitl [Ht1 Hc1 Hk1 HaS1 HbS1 HaR1 HbR1]
  · isplitl [Ht1]; · iexact Ht1
    isplitl [Hc1]; · iexact Hc1
    isplitl [Hk1]; · iexact Hk1
    isplitl [HaS1 HbS1]
    · isplitl [HaS1]; · iexact HaS1
      iexact HbS1
    isplitl [HaR1]; · iexact HaR1
    iexact HbR1
  isplitl [HO]; · iexact HO
  isplitl [HT]; · iexact HT
  iexact HI

theorem AGr_of (b : Fin 2) (t : ℕ) :
    iprop(slotAny (F := F) (agRcv b) (par t) c ∗ slotAny (F := F) (agSnd b) (par t) c ∗ slotAny (F := F) (agSnd b) (par (t + 1)) c ∗ agPI c b (t + 1) ∗ agKeep c b (t + 1)
      ∗ at1 (cell c (smS b (par (t + 1)))) (aR (t + 1)) ∗ at1 (cell c (smR b (par (t + 1)))) (aR (t + 1))
      ∗ at1 (cell c (smS b (par t))) (aR t + 1) ∗ at1 (cell c (smR b (par t))) (aR t + 1)) ⊢ (AGr c b (t + 1) : sProp 𝕄) := by
  unfold AGr AGc pos2
  rw [at1_two c (smS b) aR aR_two t, at1_two c (smR b) aR aR_two t, slotAny_two c (agSnd b) t, slotAny_two c (agRcv b) t]
  iintro ⟨H0, H1, H2, H3, H4, H5, H6, H7, H8⟩
  isplitl [H2]; · iexact H2
  isplitl [H0]; · iexact H0
  isplitl [H1]; · iexact H1
  isplitl [H3]; · iexact H3
  isplitl [H4]; · iexact H4
  isplitl [H5 H7]
  · isplitl [H5]; · iexact H5
    iexact H7
  isplitl [H6]; · iexact H6
  iexact H8

set_option maxHeartbeats 1000000 in
theorem agTake_ok (t : ℕ) (ht : t < 31) (K : IVec S64x8192 8 × IVec S64x8192 8 → sProp 𝕄) :
    iprop(Recs I κ ∗ AGs (F := F) c 0 t ∗ AGs (F := F) c 1 t ∗ Cnt c (69 + 2 * (t + 1)) (69 + 2 * t))
      ⊢ iprop((AGr (F := F) c 0 (t + 1) ∗ AGr (F := F) c 1 (t + 1) ∗ Cnt c (69 + 2 * (t + 1)) (69 + 2 * (t + 1)) -∗ K (qv I (t + 1) c 0, qv I (t + 1) c 1))
        -∗ wpc c (agTake (F := F) t) K) := by
  have k0 : kd (69 + 2 * t) = .ag 0 t := kd_ag 0 t ht
  have k1 : kd (69 + 2 * t + 1) = .ag 1 t := kd_ag 1 t ht
  have e : ∀ b, qv I (t + 1) c b = unpack8 (F := F) (pack8 (qv I t (nb c (ob b)) b)) := fun _ => rfl
  rw [e 0, e 1]
  unfold agTake
  conv => lhs; unfold AGs Cnt pos2
  simp only [wpc_bind]
  rw [todo_succ _ _ _ (by omega) k0, todo_succ _ _ _ (by omega) k1]
  iintro ⟨#HR, ⟨Ht0, Hc0, Hk0, ⟨HaS0, HbS0⟩, HaR0, HbR0⟩, ⟨Ht1, Hc1, Hk1, ⟨HaS1, HbS1⟩, HaR1, HbR1⟩, HO, HT, Hi0, Hi1, HI⟩ Hk
  iapply (agWait_ok c I κ 0 t (69 + 2 * (t + 1)) ht (lvl_ag t _ (by omega) ht)) $$ [Hc0 Hi0 HO HaS0 HaR0]
  · isplitr; · iexact HR
    isplitl [Hc0]; · iexact Hc0
    isplitl [Hi0]; · iexact Hi0
    isplitl [HO]; · iexact HO
    isplitl [HaS0]; · iexact HaS0
    iexact HaR0
  iintro ⟨HO, HaS0, HaR0, Hs0, HP0⟩
  iapply (agWait_ok c I κ 1 t (69 + 2 * (t + 1)) ht (lvl_ag t _ (by omega) ht)) $$ [Hc1 Hi1 HO HaS1 HaR1]
  · isplitr; · iexact HR
    isplitl [Hc1]; · iexact Hc1
    isplitl [Hi1]; · iexact Hi1
    isplitl [HO]; · iexact HO
    isplitl [HaS1]; · iexact HaS1
    iexact HaR1
  iintro ⟨HO, HaS1, HaR1, Hs1, HP1⟩
  ihave ⟨HG0, Hp1⟩ := (Entails.of_eq (agPay_0 c I t)) $$ HP0
  ihave ⟨HG1, Hp0⟩ := (Entails.of_eq (agPay_1 c I t)) $$ HP1
  iapply (slotLd_ok c (agRcv 0) (par t) (pack8 (qv I t (nb c (ob 0)) 0))) $$ [HG0]
  · iexact HG0
  iintro HG0
  iapply (slotLd_ok c (agRcv 1) (par t) (pack8 (qv I t (nb c (ob 1)) 1))) $$ [HG1]
  · iexact HG1
  iintro HG1
  iapply (wpc_pure c)
  iapply Hk
  isplitl [HG0 Hs0 Ht0 Hp0 Hk0 HbS0 HbR0 HaS0 HaR0]
  · iapply (AGr_of c 0 t)
    isplitl [HG0]; · iapply (holds_any _ c); iexact HG0
    isplitl [Hs0]; · iexact Hs0
    isplitl [Ht0]; · iexact Ht0
    isplitl [Hp0]; · iexact Hp0
    isplitl [Hk0]; · iexact Hk0
    isplitl [HbS0]; · iexact HbS0
    isplitl [HbR0]; · iexact HbR0
    isplitl [HaS0]; · iexact HaS0
    iexact HaR0
  isplitl [HG1 Hs1 Ht1 Hp1 Hk1 HbS1 HbR1 HaS1 HaR1]
  · iapply (AGr_of c 1 t)
    isplitl [HG1]; · iapply (holds_any _ c); iexact HG1
    isplitl [Hs1]; · iexact Hs1
    isplitl [Ht1]; · iexact Ht1
    isplitl [Hp1]; · iexact Hp1
    isplitl [Hk1]; · iexact Hk1
    isplitl [HbS1]; · iexact HbS1
    isplitl [HbR1]; · iexact HbR1
    isplitl [HaS1]; · iexact HaS1
    iexact HaR1
  unfold Cnt
  isplitl [HO]; · iexact HO
  isplitl [HT]; · iexact HT
  iexact HI

/-! ## The output rows of a side -/

/-- What a step's copy needs, and what it leaves. -/
def rowT (b : Fin 2) (t : ℕ) : sProp 𝕄 := iprop(anyV (F := F) (outW c b t).view c ∗ dutyTok ER (cell c (smO b (par t))) (t / 2) 0)
def rowD (b : Fin 2) (t : ℕ) : sProp 𝕄 := holds (outW c b t).view c (outV I c b t)
abbrev stR (t : ℕ) : ℕ := t / 2
theorem stR_two (t : ℕ) : stR t + 1 = stR (t + 2) := by show t / 2 + 1 = (t + 2) / 2; omega
/-- A side with `i` copies issued, `w` of them waited for, and its next staging slot taken out. -/
def STx (b : Fin 2) (i w : ℕ) : sProp 𝕄 :=
  iprop(pos2 c (smO b) stR w ∗ bigSep (Finset.Ico w i) (fun j => cred (tallyAt (cell c (smO b (par j))) 0 Nst))
    ∗ bigSep (Finset.Ico (i + 1) (w + 2)) (fun j => slotAny (F := F) (stgM b) (par j) c)
    ∗ bigSep (Finset.Ico i 32) (fun j => rowT (F := F) c b j) ∗ bigSep (Finset.range w) (fun j => rowD c I b j))
def ST (b : Fin 2) (i w : ℕ) : sProp 𝕄 :=
  iprop(pos2 c (smO b) stR w ∗ bigSep (Finset.Ico w i) (fun j => cred (tallyAt (cell c (smO b (par j))) 0 Nst))
    ∗ bigSep (Finset.Ico i (w + 2)) (fun j => slotAny (F := F) (stgM b) (par j) c)
    ∗ bigSep (Finset.Ico i 32) (fun j => rowT (F := F) c b j) ∗ bigSep (Finset.range w) (fun j => rowD c I b j))

theorem ST_pop (b : Fin 2) (i w : ℕ) (h : i < w + 2) : ST c I b i w ⊢ iprop(slotAny (F := F) (stgM b) (par i) c ∗ STx c I b i w) := by
  unfold ST STx
  rw [BI.bigSep_Ico_succ_bot h]
  iintro ⟨H1, H2, ⟨H3, H4⟩, H5⟩
  isplitl [H3]; · iexact H3
  isplitl [H1]; · iexact H1
  isplitl [H2]; · iexact H2
  isplitl [H4]; · iexact H4
  iexact H5
theorem pos2_reached (S : Fin 2 → SemLoc sig) (R : ℕ → ℕ) (i w : ℕ) (h : i = w ∨ i = w + 1) :
    (pos2 c S R w : sProp 𝕄) ⊢ iprop(pos2 c S R w ∗ reached ER (cell c (S (par i))) (R i)) := by
  unfold pos2
  iintro ⟨H1, H2⟩
  ihave ⟨H1, #r1⟩ := (at1_reached _ _) $$ H1
  ihave ⟨H2, #r2⟩ := (at1_reached _ _) $$ H2
  isplitl [H1 H2]
  · isplitl [H1]; · iexact H1
    iexact H2
  rcases h with rfl | rfl
  · iexact r1
  · iexact r2

theorem stGo_st (b : Fin 2) (i w : ℕ) (hi : i ≤ 31) (hw : w ≤ i) (h : i < w + 2) (K : PUnit → sProp 𝕄) :
    iprop(Recs I κ ∗ slotAt (stgM b) (par i) c (dequantV (sc I c) (qv I i c b)) ∗ STx c I b i w)
      ⊢ iprop((ST c I b (i + 1) w -∗ K ⟨⟩) -∗ wpc c (stGo (envOf c).v0 (envOf c).h0 b i hi) K) := by
  unfold STx ST
  rw [BI.bigSep_Ico_succ_bot (show i < 32 by omega) (fun j => rowT (F := F) c b j), BI.bigSep_Ico_succ_top hw (fun j => (cred (tallyAt (cell c (smO b (par j))) 0 Nst) : sProp 𝕄))]
  iintro ⟨#HR, Hs, Hp, Hc, Hfree, ⟨Hr, HT⟩, HD⟩ Hk
  ihave ⟨Hr, Ht⟩ := (show (rowT (F := F) c b i : sProp 𝕄) ⊢ iprop(anyV (F := F) (outW c b i).view c ∗ dutyTok ER (cell c (smO b (par i))) (i / 2) 0) from BIBase.Entails.refl) $$ Hr
  ihave ⟨Hp, #r⟩ := (pos2_reached c (smO b) stR i w (by omega)) $$ Hp
  iapply (stGo_ok c I κ b i hi) $$ [Hs Hr Ht]
  · isplitr; · iexact HR
    isplitl [Hs]; · iexact Hs
    isplitl [Hr]; · iexact Hr
    isplitl [Ht]; · iexact Ht
    iexact r
  iintro Hn
  iapply Hk
  isplitl [Hp]; · iexact Hp
  isplitl [Hc Hn]
  · isplitl [Hn]; · iexact Hn
    iexact Hc
  isplitl [Hfree]; · iexact Hfree
  isplitl [HT]; · iexact HT
  iexact HD

theorem stWait_st (b : Fin 2) (i w n n' : ℕ) (hw : w ≤ 31) (h : w < i) (hi : i ≤ w + 2) (K : PUnit → sProp 𝕄) :
    iprop(Recs I κ ∗ ST c I b i w ∗ Cnt c n n')
      ⊢ iprop((ST c I b i (w + 1) ∗ Cnt c n n' -∗ K ⟨⟩) -∗ wpc c (stWait (envOf c).v0 (envOf c).h0 b w hw) K) := by
  unfold ST Cnt
  rw [BI.bigSep_Ico_succ_bot h (fun j => (cred (tallyAt (cell c (smO b (par j))) 0 Nst) : sProp 𝕄)), BI.bigSep_Ico_succ_top (show i ≤ w + 2 from hi) (fun j => slotAny (F := F) (stgM b) (par j) c),
    bigSep_range_succ w (fun j => rowD c I b j), ← slotAny_two c (stgM b) w]
  unfold pos2
  rw [← at1_two c (smO b) stR stR_two w]
  iintro ⟨#HR, ⟨⟨Ha, Hb⟩, ⟨Hn, Hc⟩, Hfree, HT, HD⟩, HO, HC⟩ Hk
  iapply (stWait_ok c I κ b w n hw) $$ [Hn HO Ha]
  · isplitr; · iexact HR
    isplitl [Hn]; · iexact Hn
    isplitl [HO]; · iexact HO
    iexact Ha
  iintro ⟨HO, Ha, Hd, Hs⟩
  iapply Hk
  isplitr [HO HC]
  · isplitl [Ha Hb]
    · isplitl [Hb]; · iexact Hb
      iexact Ha
    isplitl [Hc]; · iexact Hc
    isplitl [Hfree Hs]
    · isplitl [Hs]; · iexact Hs
      iexact Hfree
    isplitl [HT]; · iexact HT
    isplitl [Hd]; · iapply (show holds (outW c b w).view c (outV I c b w) ⊢ rowD c I b w from BIBase.Entails.refl); iexact Hd
    iexact HD
  isplitl [HO]; · iexact HO
  iexact HC

theorem stOut_ok (t w : ℕ) (ht : t ≤ 31) (hw : w ≤ t) (h : t < w + 2) (K : PUnit → sProp 𝕄) :
    iprop(Recs I κ ∗ ST c I 0 t w ∗ ST c I 1 t w)
      ⊢ iprop((ST c I 0 (t + 1) w ∗ ST c I 1 (t + 1) w -∗ K ⟨⟩) -∗ wpc c (stOut (envOf c) (sc I c) t ht (qv I t c 0, qv I t c 1)) K) := by
  unfold stOut
  simp only [wpc_bind]
  iintro ⟨#HR, H0, H1⟩ Hk
  ihave ⟨Hs0, H0⟩ := (ST_pop c I 0 t w h) $$ H0
  ihave ⟨Hs1, H1⟩ := (ST_pop c I 1 t w h) $$ H1
  iapply (stPut_ok c 0 (par t) (dequantV (sc I c) (qv I t c 0))) $$ [Hs0]
  · iexact Hs0
  iintro Hs0
  iapply (stPut_ok c 1 (par t) (dequantV (sc I c) (qv I t c 1))) $$ [Hs1]
  · iexact Hs1
  iintro Hs1
  iapply (stGo_st c I κ 0 t w ht hw h) $$ [Hs0 H0]
  · isplitr; · iexact HR
    isplitl [Hs0]; · iexact Hs0
    iexact H0
  iintro H0
  iapply (stGo_st c I κ 1 t w ht hw h) $$ [Hs1 H1]
  · isplitr; · iexact HR
    isplitl [Hs1]; · iexact Hs1
    iexact H1
  iintro H1
  iapply Hk
  isplitl [H0]; · iexact H0
  iexact H1

/-! ## The steps -/

/-- Between steps: step `t + 1` under way, two copies to the output pending on each side. -/
def AGL (t : ℕ) : sProp 𝕄 :=
  iprop(AGs (F := F) c 0 (t + 1) ∗ AGs (F := F) c 1 (t + 1) ∗ ST c I 0 (t + 2) t ∗ ST c I 1 (t + 2) t ∗ Cnt c (69 + 2 * (t + 1 + 1)) (69 + 2 * (t + 1)))

theorem agStep_ok (t : ℕ) (ht : t < 29) (K : PUnit → sProp 𝕄) :
    iprop(Recs I κ ∗ AGL c I t)
      ⊢ iprop((Recs I κ ∗ AGL c I (t + 1) -∗ K ⟨⟩) -∗ wpc c (agStep (envOf c) (sc I c) t ht ⟨⟩) K) := by
  unfold agStep AGL
  simp only [wpc_bind]
  iintro ⟨#HR, A0, A1, S0, S1, HC⟩ Hk
  iapply (agTake_ok c I κ (t + 1) (by omega)) $$ [A0 A1 HC]
  · isplitr; · iexact HR
    isplitl [A0]; · iexact A0
    isplitl [A1]; · iexact A1
    iexact HC
  iintro ⟨A0, A1, HC⟩
  iapply (agFwd_ok c I (t + 2)) $$ [A0 A1]
  · isplitl [A0]; · iexact A0
    iexact A1
  iintro ⟨A0, A1⟩
  iapply (stWait_st c I κ 0 (t + 2) t (69 + 2 * (t + 1 + 1)) (69 + 2 * (t + 1 + 1)) _ (by omega) (by omega)) $$ [S0 HC]
  · isplitr; · iexact HR
    isplitl [S0]; · iexact S0
    iexact HC
  iintro ⟨S0, HC⟩
  iapply (stWait_st c I κ 1 (t + 2) t (69 + 2 * (t + 1 + 1)) (69 + 2 * (t + 1 + 1)) _ (by omega) (by omega)) $$ [S1 HC]
  · isplitr; · iexact HR
    isplitl [S1]; · iexact S1
    iexact HC
  iintro ⟨S1, HC⟩
  iapply (stOut_ok c I κ (t + 2) (t + 1) _ (by omega) (by omega)) $$ [S0 S1]
  · isplitr; · iexact HR
    isplitl [S0]; · iexact S0
    iexact S1
  iintro ⟨S0, S1⟩
  iapply (agSend_ok c I κ (t + 2) (by omega) (69 + 2 * (t + 1 + 1))) $$ [A0 A1 HC]
  · isplitr; · iexact HR
    isplitl [A0]; · iexact A0
    isplitl [A1]; · iexact A1
    iexact HC
  iintro ⟨A0, A1, HC⟩
  iapply Hk
  isplitr; · iexact HR
  isplitl [A0]; · iexact A0
  isplitl [A1]; · iexact A1
  isplitl [S0]; · iexact S0
  isplitl [S1]; · iexact S1
  iexact HC

theorem agAll_ok (K : PUnit → sProp 𝕄) :
    iprop(Recs I κ ∗ redAt c I 0 ∗ redAt c I 1 ∗ AGr (F := F) c 0 0 ∗ AGr (F := F) c 1 0 ∗ ST c I 0 0 0 ∗ ST c I 1 0 0 ∗ Cnt c 69 69)
      ⊢ iprop((redAt c I 0 ∗ redAt c I 1 ∗ AGr (F := F) c 0 31 ∗ AGr (F := F) c 1 31 ∗ ST c I 0 32 32 ∗ ST c I 1 32 32 ∗ Cnt c 131 131 -∗ K ⟨⟩)
        -∗ wpc c (agAll (envOf c) (mx I 5 c)) K) := by
  unfold agAll
  simp only [wpc_bind]
  iintro ⟨#HR, R0, R1, A0, A1, S0, S1, HC⟩ Hk
  iapply (redLd_ok c 0 (red I c 0)) $$ [R0]
  · iexact R0
  iintro R0
  iapply (redLd_ok c 1 (red I c 1)) $$ [R1]
  · iexact R1
  iintro R1
  iapply (stOut_ok c I κ 0 0 _ (by omega) (by omega)) $$ [S0 S1]
  · isplitr; · iexact HR
    isplitl [S0]; · iexact S0
    iexact S1
  iintro ⟨S0, S1⟩
  iapply (agFwd_ok c I 0) $$ [A0 A1]
  · isplitl [A0]; · iexact A0
    iexact A1
  iintro ⟨A0, A1⟩
  iapply (agSend_ok c I κ 0 (by omega) 69) $$ [A0 A1 HC]
  · isplitr; · iexact HR
    isplitl [A0]; · iexact A0
    isplitl [A1]; · iexact A1
    iexact HC
  iintro ⟨A0, A1, HC⟩
  iapply (agTake_ok c I κ 0 (by omega)) $$ [A0 A1 HC]
  · isplitr; · iexact HR
    isplitl [A0]; · iexact A0
    isplitl [A1]; · iexact A1
    iexact HC
  iintro ⟨A0, A1, HC⟩
  iapply (agFwd_ok c I 1) $$ [A0 A1]
  · isplitl [A0]; · iexact A0
    iexact A1
  iintro ⟨A0, A1⟩
  iapply (stOut_ok c I κ 1 0 _ (by omega) (by omega)) $$ [S0 S1]
  · isplitr; · iexact HR
    isplitl [S0]; · iexact S0
    iexact S1
  iintro ⟨S0, S1⟩
  iapply (agSend_ok c I κ 1 (by omega) (69 + 2 * 1)) $$ [A0 A1 HC]
  · isplitr; · iexact HR
    isplitl [A0]; · iexact A0
    isplitl [A1]; · iexact A1
    iexact HC
  iintro ⟨A0, A1, HC⟩
  iapply (loop_ok c (agStep (envOf c) (sc I c)) (fun t => iprop(Recs I κ ∗ AGL c I t)) (fun _ => ⟨⟩) (fun t ht K => agStep_ok c I κ t ht K) 29 0 _) $$ [A0 A1 S0 S1 HC]
  · isplitr; · iexact HR
    unfold AGL
    isplitl [A0]; · iexact A0
    isplitl [A1]; · iexact A1
    isplitl [S0]; · iexact S0
    isplitl [S1]; · iexact S1
    iexact HC
  unfold AGL
  iintro ⟨-, A0, A1, S0, S1, HC⟩
  iapply (agTake_ok c I κ 30 (by omega)) $$ [A0 A1 HC]
  · isplitr; · iexact HR
    isplitl [A0]; · iexact A0
    isplitl [A1]; · iexact A1
    iexact HC
  iintro ⟨A0, A1, HC⟩
  iapply (stWait_st c I κ 0 31 29 131 131 _ (by omega) (by omega)) $$ [S0 HC]
  · isplitr; · iexact HR
    isplitl [S0]; · iexact S0
    iexact HC
  iintro ⟨S0, HC⟩
  iapply (stWait_st c I κ 1 31 29 131 131 _ (by omega) (by omega)) $$ [S1 HC]
  · isplitr; · iexact HR
    isplitl [S1]; · iexact S1
    iexact HC
  iintro ⟨S1, HC⟩
  iapply (stOut_ok c I κ 31 30 _ (by omega) (by omega)) $$ [S0 S1]
  · isplitr; · iexact HR
    isplitl [S0]; · iexact S0
    iexact S1
  iintro ⟨S0, S1⟩
  iapply (stWait_st c I κ 0 32 30 131 131 _ (by omega) (by omega)) $$ [S0 HC]
  · isplitr; · iexact HR
    isplitl [S0]; · iexact S0
    iexact HC
  iintro ⟨S0, HC⟩
  iapply (stWait_st c I κ 0 32 31 131 131 _ (by omega) (by omega)) $$ [S0 HC]
  · isplitr; · iexact HR
    isplitl [S0]; · iexact S0
    iexact HC
  iintro ⟨S0, HC⟩
  iapply (stWait_st c I κ 1 32 30 131 131 _ (by omega) (by omega)) $$ [S1 HC]
  · isplitr; · iexact HR
    isplitl [S1]; · iexact S1
    iexact HC
  iintro ⟨S1, HC⟩
  iapply (stWait_st c I κ 1 32 31 131 131 _ (by omega) (by omega)) $$ [S1 HC]
  · isplitr; · iexact HR
    isplitl [S1]; · iexact S1
    iexact HC
  iintro ⟨S1, HC⟩
  iapply Hk
  isplitl [R0]; · iexact R0
  isplitl [R1]; · iexact R1
  isplitl [A0]; · iexact A0
  isplitl [A1]; · iexact A1
  isplitl [S0]; · iexact S0
  isplitl [S1]; · iexact S1
  iexact HC

end Cert.KernelIdeal.Ring
-- ==== Proof.IBody.lean ====
/-
  The whole body on one core, from the buffers and cells it is given to the same buffers and the cells' last rounds.
-/
module

public import proofs.«01_k».proof.Proof.IGath

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig ℕ (Elt F) ℕ UU ℕ

variable (c : Dev nD) (I : In F) (κ : GSem nD τ sig → ℕ)

/-! ## What a core starts and ends with -/

def ats (S : Fin 2 → SemLoc sig) (n0 n1 : ℕ) : sProp 𝕄 := iprop(at1 (cell c (S 0)) n0 ∗ at1 (cell c (S 1)) n1)
def two {e : EltTy} (M : Memref sig .tc .vmem S2x64x8192 e) : sProp 𝕄 := iprop(slotAny (F := F) M 0 c ∗ slotAny (F := F) M 1 c)
/-- One side's slots, with its cells' rounds. -/
def Side (b : Fin 2) (n0 n1 : ℕ) : sProp 𝕄 :=
  iprop(two (F := F) c (rsSnd b) ∗ two (F := F) c (rsRcv b) ∗ two (F := F) c (agSnd b) ∗ two (F := F) c (agRcv b) ∗ ats c (smS b) n0 n1 ∗ ats c (smR b) n0 n1)
/-- One side's staging slots and output rows. -/
def Rows (b : Fin 2) : sProp 𝕄 := iprop(ats c (smO b) 0 0 ∗ two (F := F) c (stgM b) ∗ bigSep (Finset.range 32) (fun t => rowT (F := F) c b t))
def RowsD (b : Fin 2) : sProp 𝕄 := iprop(ats c (smO b) 16 16 ∗ two (F := F) c (stgM b) ∗ bigSep (Finset.range 32) (fun t => rowD c I b t))
def xPts : sProp 𝕄 := iprop(((xM.access (xR c 0 0 (by omega))).loc (c : Thread nD τ) ↦[Finset.univ]{fullShare} I.x c))
def bfs (n : ℕ) : sProp 𝕄 := bigSep Finset.univ (fun k : Fin 5 => iprop(bfAny (F := F) k c ∗ at1 (cell c (smB k)) n))
def bufs : sProp 𝕄 := iprop(scalPts c ∗ xPts c I ∗ wPts c I ∗ anyV (F := F) (wbM.access wR) c ∗ anyV (F := F) bfSnd.view c ∗ redAny c 0 ∗ redAny c 1)
def Pre : sProp 𝕄 :=
  iprop(bufs c I ∗ Side c 0 0 0 ∗ Side c 1 0 0 ∗ bfs c 0 ∗ at1 (cell c smF) 0 ∗ at1 (cell c smBar) 0 ∗ Rows c 0 ∗ Rows c 1 ∗ Cnt c 0 0)
def Post : sProp 𝕄 :=
  iprop(bufs c I ∗ Side c 0 32 30 ∗ Side c 1 32 30 ∗ bfs c 1 ∗ at1 (cell c smF) 5 ∗ at1 (cell c smBar) 1 ∗ RowsD c I 0 ∗ RowsD c I 1 ∗ ow c 131)

/-! ## A side from phase to phase -/

/-- What a side keeps for the all-gather. -/
def agHold (b : Fin 2) : sProp 𝕄 := iprop(two (F := F) c (agSnd b) ∗ slotAny (F := F) (agRcv b) 1 c)
/-- A side after it has given its two first receive slots away. -/
def SideG (b : Fin 2) : sProp 𝕄 :=
  iprop(two (F := F) c (rsSnd b) ∗ slotAny (F := F) (rsRcv b) 1 c ∗ agHold c b ∗ ats c (smS b) 0 0 ∗ ats c (smR b) 0 0)

theorem side_give (b : Fin 2) : (Side c b 0 0 : sProp 𝕄) ⊢ iprop(give c b ∗ SideG c b) := by
  unfold Side SideG agHold give rsPermit ats
  conv => lhs; unfold two
  iintro ⟨S, ⟨R0, R1⟩, A, ⟨B0, B1⟩, PS, ⟨P0, P1⟩⟩
  ihave ⟨P0, r⟩ := (at1_reached _ _) $$ P0
  isplitl [R0 r B0]
  · isplitl [R0 r]
    · isplitl [R0]; · iexact R0
      iexact r
    iexact B0
  isplitl [S]; · unfold two; iexact S
  isplitl [R1]; · iexact R1
  isplitl [A B1]
  · isplitl [A]; · unfold two; iexact A
    iexact B1
  isplitl [PS]; · iexact PS
  isplitl [P0]; · iexact P0
  iexact P1

theorem side_rs (b : Fin 2) : iprop(SideG c b ∗ barPay c b) ⊢ (iprop(RSr c b 0 ∗ agHold c b ∗ slotAny (F := F) (agRcv b) 0 (nb c b)) : sProp 𝕄) := by
  unfold SideG barPay RSr RSc
  rw [show (rsPI c b 0 : sProp 𝕄) = rsPermit b (nb c b) 0 from if_pos (by omega), show (rsKeep c b 0 : sProp 𝕄) = iprop(emp) from if_pos (by omega)]
  unfold two ats pos2
  iintro ⟨⟨⟨S0, S1⟩, R1, A, PS, PR⟩, PI, B⟩
  isplitl [S0 S1 R1 PS PR PI]
  · isplitl [R1]; · iexact R1
    isplitl [S0]; · iexact S0
    isplitl [S1]; · iexact S1
    isplitl [PI]; · iexact PI
    isplitr; · iempintro
    isplitl [PS]; · iexact PS
    iexact PR
  isplitl [A]; · iexact A
  iexact B

/-- A side between the phases. -/
def SideM (b : Fin 2) : sProp 𝕄 :=
  iprop(two (F := F) c (rsSnd b) ∗ two (F := F) c (rsRcv b) ∗ ats c (smS b) 16 15 ∗ ats c (smR b) 16 15)
theorem side_mid (b : Fin 2) : (RSr c b 31 : sProp 𝕄) ⊢ iprop(SideM c b ∗ reached ER (cell c (smR b 0)) 16) := by
  unfold RSr RSc SideM
  rw [show (rsKeep c b 31 : sProp 𝕄) = slotAny (F := F) (rsRcv b) (par 31) c from if_neg (by omega)]
  unfold two ats pos2
  iintro ⟨R0, S1, S0, -, R1, ⟨PS1, PS0⟩, ⟨PR1, PR0⟩⟩
  ihave PR0 := (show at1 (cell c (smR b (par (31 + 1)))) (rR (31 + 1)) ⊢ (at1 (cell c (smR b 0)) 16 : sProp 𝕄) from BIBase.Entails.refl) $$ PR0
  ihave ⟨PR0, r⟩ := (at1_reached _ _) $$ PR0
  isplitl [R0 S1 S0 R1 PS1 PS0 PR1 PR0]
  · isplitl [S0 S1]
    · isplitl [S0]; · iexact S0
      iexact S1
    isplitl [R0 R1]
    · isplitl [R0]; · iexact R0
      iexact R1
    isplitl [PS0 PS1]
    · isplitl [PS0]; · iexact PS0
      iexact PS1
    isplitl [PR0]; · iexact PR0
    iexact PR1
  iexact r

/-- A side's reduce-scatter slots. -/
def rsFree (b : Fin 2) : sProp 𝕄 := iprop(two (F := F) c (rsSnd b) ∗ two (F := F) c (rsRcv b))
theorem side_ag (b : Fin 2) : iprop(SideM c b ∗ agHold c b ∗ slotAny (F := F) (agRcv b) 0 (nb c b) ∗ reached ER (cell (nb c b) (smR b 0)) 16)
    ⊢ (iprop(AGr c b 0 ∗ rsFree c b) : sProp 𝕄) := by
  unfold SideM agHold AGr AGc rsFree
  rw [show (agPI c b 0 : sProp 𝕄) = agPermit b (nb c b) 0 from if_pos (by omega), show (agKeep c b 0 : sProp 𝕄) = iprop(emp) from if_pos (by omega)]
  unfold ats pos2 agPermit
  conv => lhs; rw [show two (F := F) c (agSnd b) = iprop(slotAny (F := F) (agSnd b) 0 c ∗ slotAny (F := F) (agSnd b) 1 c) from rfl]
  iintro ⟨⟨S, R, PS, PR⟩, ⟨⟨A0, A1⟩, B1⟩, B, r⟩
  isplitl [PS PR A0 A1 B1 B r]
  · isplitl [A0]; · iexact A0
    isplitl [B1]; · iexact B1
    isplitl [A1]; · iexact A1
    isplitl [B r]
    · isplitl [B]; · iexact B
      iexact r
    isplitr; · iempintro
    isplitl [PS]; · iexact PS
    iexact PR
  isplitl [S]; · iexact S
  iexact R

theorem side_end (b : Fin 2) : iprop(AGr c b 31 ∗ rsFree c b) ⊢ (Side c b 32 30 : sProp 𝕄) := by
  unfold rsFree AGr AGc Side
  rw [show (agKeep c b 31 : sProp 𝕄) = slotAny (F := F) (agRcv b) (par 31) c from if_neg (by omega)]
  unfold ats pos2
  conv => rhs; rw [show two (F := F) c (agSnd b) = iprop(slotAny (F := F) (agSnd b) 0 c ∗ slotAny (F := F) (agSnd b) 1 c) from rfl,
    show two (F := F) c (agRcv b) = iprop(slotAny (F := F) (agRcv b) 0 c ∗ slotAny (F := F) (agRcv b) 1 c) from rfl]
  iintro ⟨⟨A1, B0, A0, -, B1, ⟨PS1, PS0⟩, ⟨PR1, PR0⟩⟩, S, R⟩
  isplitl [S]; · iexact S
  isplitl [R]; · iexact R
  isplitl [A0 A1]
  · isplitl [A0]; · iexact A0
    iexact A1
  isplitl [B0 B1]
  · isplitl [B0]; · iexact B0
    iexact B1
  isplitl [PS0 PS1]
  · isplitl [PS0]; · iexact PS0
    iexact PS1
  isplitl [PR0]; · iexact PR0
  iexact PR1

/-! ## The staging slots -/

theorem slots_two {e : EltTy} (M : Memref sig .tc .vmem S2x64x8192 e) (n : ℕ) (hn : par n = 0) :
    bigSep (Finset.Ico n (n + 2)) (fun j => slotAny (F := F) M (par j) c) = (two (F := F) c M : sProp 𝕄) := by
  have h1 : par (n + 1) = 1 := Fin.ext (by have := congrArg Fin.val hn; show (n + 1) % 2 = 1; have : n % 2 = 0 := this; omega)
  rw [BI.bigSep_Ico_succ_bot (by omega), BI.bigSep_Ico_succ_bot (by omega), show n + 1 + 1 = n + 2 from rfl, Finset.Ico_self, bigSep_empty, hn, h1]
  exact congrArg (fun Z : sProp 𝕄 => iprop(slotAny (F := F) M 0 c ∗ Z)) (equiv_iff.mp BI.sep_emp)

theorem rows_st (b : Fin 2) : (Rows c b : sProp 𝕄) ⊢ ST c I b 0 0 := by
  unfold Rows ST
  rw [slots_two c _ 0 rfl, Finset.Ico_self, bigSep_empty, Finset.range_zero, bigSep_empty, Finset.range_eq_Ico]
  unfold ats pos2
  iintro ⟨H1, H2, H3⟩
  isplitl [H1]; · iexact H1
  isplitr; · iempintro
  isplitl [H2]; · iexact H2
  isplitl [H3]; · iexact H3
  iempintro
theorem st_rows (b : Fin 2) : (ST c I b 32 32 : sProp 𝕄) ⊢ RowsD c I b := by
  unfold RowsD ST
  rw [slots_two c _ 32 rfl]
  unfold ats pos2
  iintro ⟨H1, -, H2, -, H3⟩
  isplitl [H1]; · iexact H1
  isplitl [H2]; · iexact H2
  iexact H3

/-! ## The exchange slots -/

theorem bfs_in : (bfs c 0 : sProp 𝕄) ⊢ iprop(X c 0 ∗ bigSep Finset.univ (fun k : Fin 5 => at1 (cell c (smB k)) 0)) := by
  unfold bfs
  have h : bigSep Finset.univ (fun k : Fin 5 => iprop(bfAny (F := F) k c ∗ at1 (cell c (smB k)) 0))
      ⊢ (bigSep Finset.univ (fun k : Fin 5 => iprop((bfAny (F := F) k c ∗ reached ER (cell c (smB k)) 0) ∗ at1 (cell c (smB k)) 0)) : sProp 𝕄) :=
    bigSep_mono fun k _ => by
      refine BIBase.Entails.trans (?_ : (_ : sProp 𝕄) ⊢ _) BIBase.Entails.refl
      iintro ⟨H, P⟩
      ihave ⟨P, r⟩ := (at1_reached _ _) $$ P
      isplitl [H r]
      · isplitl [H]; · iexact H
        iexact r
      iexact P
  refine h.trans ?_
  rw [bigSep_sep']
  iintro ⟨H, P⟩
  isplitl [H]; · iapply (X_init c); iexact H
  iexact P
theorem bfs_mid : iprop(X c 31 ∗ bigSep Finset.univ (fun k : Fin 5 => at1 (cell c (smB k)) 0)) ⊢ (bigSep Finset.univ (bfItem c 0) : sProp 𝕄) := by
  rw [bigSep_congr (s := Finset.univ) (Φ := bfItem (F := F) c 0) (Ψ := fun k : Fin 5 => iprop((bfAny (F := F) k (pt c k) ∗ reached ER (cell (pt c k) (smB k)) 0) ∗ at1 (cell c (smB k)) 0))
    (fun k _ => by unfold bfItem; rw [if_pos (Nat.zero_le _)]; exact (equiv_iff.mp ⟨BI.sep_assoc, BI.sep_assoc'⟩).symm), bigSep_sep']
  iintro ⟨H, P⟩
  isplitl [H]; · iapply (X_end c); iexact H
  iexact P
theorem bfs_out : (bigSep Finset.univ (bfItem c 5) : sProp 𝕄) = bfs c 1 := by
  unfold bfs
  exact bigSep_congr fun k _ => by unfold bfItem; rw [if_neg (by have := k.isLt; omega)]

/-! ## The body -/

theorem body_ok (K : PUnit → sProp 𝕄) : iprop(Recs I κ ∗ Pre c I) ⊢ iprop((Post c I -∗ K ⟨⟩) -∗ wpc c body K) := by
  unfold body Pre Post bufs
  simp only [wpc_bind]
  iintro ⟨#HR, ⟨Hs, Hx, Hw, Hb, Hf, Hr0, Hr1⟩, S0, S1, B, PF, PB, W0, W1, HC⟩ Hk
  ihave ⟨G0, S0⟩ := (side_give c 0) $$ S0
  ihave ⟨G1, S1⟩ := (side_give c 1) $$ S1
  ihave ⟨HX, PB5⟩ := (bfs_in c) $$ B
  iapply (readEnv_ok c) $$ [Hs]
  · iexact Hs
  iintro Hs
  iapply (meet_ok c I κ) $$ [G0 G1 PB HC]
  · isplitr; · iexact HR
    isplitl [G0]; · iexact G0
    isplitl [G1]; · iexact G1
    isplitl [PB]; · iexact PB
    iexact HC
  iintro ⟨PB, G0, G1, HC⟩
  ihave ⟨S0, A0, N0⟩ := (side_rs c 0) $$ [S0 G0]
  · isplitl [S0]; · iexact S0
    iexact G0
  ihave ⟨S1, A1, N1⟩ := (side_rs c 1) $$ [S1 G1]
  · isplitl [S1]; · iexact S1
    iexact G1
  iapply (keepW_ok c I) $$ [Hw Hb]
  · isplitl [Hw]; · iexact Hw
    iexact Hb
  iintro ⟨Hw, Hb⟩
  ihave Hd := (show iprop(xPts c I ∗ holds (wbM.access wR) c (wbV I c)) ⊢ (data c I : sProp 𝕄) from BIBase.Entails.refl) $$ [Hx Hb]
  · isplitl [Hx]; · iexact Hx
    iexact Hb
  iapply (part_ok c I 0 0 _) $$ [Hd]
  · iexact Hd
  iintro Hd
  iapply (part_ok c I 1 0 _) $$ [Hd]
  · iexact Hd
  iintro Hd
  iapply (loop_ok c (rsStep (envOf c)) (fun s => iprop(Recs I κ ∗ RSS c I s)) (fun s => (psum I s c 0, psum I s c 1)) (fun s hs K => rsStep_ok c I κ s hs K) 30 0 _) $$ [Hd HX S0 S1 HC]
  · isplitr; · iexact HR
    unfold RSS
    isplitl [Hd]; · iexact Hd
    isplitl [HX]; · iexact HX
    isplitl [S0]; · iexact S0
    isplitl [S1]; · iexact S1
    iexact HC
  iintro ⟨-, HS⟩
  iapply (rsLast_ok c I κ) $$ [HS Hr0 Hr1]
  · isplitr; · iexact HR
    isplitl [HS]; · iexact HS
    isplitl [Hr0]; · iexact Hr0
    iexact Hr1
  unfold RSS
  iintro ⟨⟨Hd, HX, S0, S1, HC⟩, Hr0, Hr1⟩
  ihave ⟨Hx, Hb⟩ := (show (data c I : sProp 𝕄) ⊢ iprop(xPts c I ∗ holds (wbM.access wR) c (wbV I c)) from BIBase.Entails.refl) $$ Hd
  ihave ⟨S0, #r0⟩ := (side_mid c 0) $$ S0
  ihave ⟨S1, #r1⟩ := (side_mid c 1) $$ S1
  ihave B := (bfs_mid c) $$ [HX PB5]
  · isplitl [HX]; · iexact HX
    iexact PB5
  iapply (redLd_ok c 0 (red I c 0)) $$ [Hr0]
  · iexact Hr0
  iintro Hr0
  iapply (redLd_ok c 1 (red I c 1)) $$ [Hr1]
  · iexact Hr1
  iintro Hr1
  iapply (loop_ok c bfStep (fun s => iprop(Recs I κ ∗ BFS c s)) (fun s => mx I s c) (fun s hs K => bfStep_ok c I κ ⟨s, hs⟩ hs K) 5 0 _) $$ [Hs Hf PF B HC]
  · isplitr; · iexact HR
    unfold BFS
    isplitl [Hs]; · iexact Hs
    isplitl [Hf]; · iexact Hf
    isplitl [PF]; · iexact PF
    isplitr
    · unfold facts ready
      isplitl; · iexact r0
      iexact r1
    isplitl [B]; · iexact B
    iexact HC
  unfold BFS
  iintro ⟨-, Hs, Hf, PF, #Hfa, B, HC⟩
  ihave #q0 := (facts_all c (nb c 0)) $$ Hfa
  ihave #q1 := (facts_all c (nb c 1)) $$ Hfa
  unfold ready
  icases q0 with ⟨#q0, -⟩
  icases q1 with ⟨-, #q1⟩
  ihave ⟨S0, F0⟩ := (side_ag c 0) $$ [S0 A0 N0]
  · isplitl [S0]; · iexact S0
    isplitl [A0]; · iexact A0
    isplitl [N0]; · iexact N0
    iexact q0
  ihave ⟨S1, F1⟩ := (side_ag c 1) $$ [S1 A1 N1]
  · isplitl [S1]; · iexact S1
    isplitl [A1]; · iexact A1
    isplitl [N1]; · iexact N1
    iexact q1
  ihave W0 := (rows_st c I 0) $$ W0
  ihave W1 := (rows_st c I 1) $$ W1
  iapply (agAll_ok c I κ) $$ [Hr0 Hr1 S0 S1 W0 W1 HC]
  · isplitr; · iexact HR
    isplitl [Hr0]; · iexact Hr0
    isplitl [Hr1]; · iexact Hr1
    isplitl [S0]; · iexact S0
    isplitl [S1]; · iexact S1
    isplitl [W0]; · iexact W0
    isplitl [W1]; · iexact W1
    iexact HC
  iintro ⟨Hr0, Hr1, S0, S1, W0, W1, HC⟩
  unfold Cnt
  icases HC with ⟨HO, -, -⟩
  iapply Hk
  isplitl [Hs Hx Hw Hb Hf Hr0 Hr1]
  · isplitl [Hs]; · iexact Hs
    isplitl [Hx]; · iexact Hx
    isplitl [Hw]; · iexact Hw
    isplitl [Hb]; · iapply (holds_any _ c); iexact Hb
    isplitl [Hf]; · iexact Hf
    isplitl [Hr0]; · iapply (holds_any _ c); iexact Hr0
    iapply (holds_any _ c); iexact Hr1
  isplitl [S0 F0]
  · iapply (side_end c 0)
    isplitl [S0]; · iexact S0
    iexact F0
  isplitl [S1 F1]
  · iapply (side_end c 1)
    isplitl [S1]; · iexact S1
    iexact F1
  isplitl [B]; · iapply (Entails.of_eq (bfs_out c)); iexact B
  isplitl [PF]; · iexact PF
  isplitl [PB]; · iexact PB
  isplitl [W0]; · iapply (st_rows c I 0); iexact W0
  isplitl [W1]; · iapply (st_rows c I 1); iexact W1
  iexact HO

end Cert.KernelIdeal.Ring
-- ==== Proof.IBufs.lean ====
/-
  Whole buffers and their slots: a buffer of two slots, the exchange buffer of five, and the output array with its rows.
-/
module

public import proofs.«01_k».proof.Proof.IBody
public import Idealize.ShloMosaic.Lib.ViewIndex

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig ℕ (Elt F) ℕ UU ℕ

variable (c : Dev nD) (I : In F)

/-! ## A view cut into rectangles -/

section Cut
variable {sp : Space} {s : Shape} {e : EltTy} (v : View sig .tc sp s e) {T : Type} [DecidableEq T] (S : Finset T) (R : T → Rect s)
  (hd : ∀ t ∈ S, ∀ t' ∈ S, t ≠ t' → Disjoint (R t).set (R t').set) (hc : ∀ i : s.Idx, ∃ t ∈ S, i ∈ (R t).set)
include hc
theorem cut_cover : S.biUnion (fun t => (v.slice (R t)).set) = v.set := by
  ext i
  rw [Finset.mem_biUnion]
  constructor
  · rintro ⟨t, -, hi⟩
    obtain ⟨x, rfl⟩ := View.exists_of_mem_set_slice hi
    exact v.emb_mem_set _
  · intro hi
    obtain ⟨x, -, rfl⟩ := Finset.mem_map.mp hi
    obtain ⟨t, ht, hx⟩ := hc x
    exact ⟨t, ht, by rw [View.set_slice]; exact Finset.mem_map_of_mem _ hx⟩
include hd
theorem cut_disj : ∀ t ∈ S, ∀ t' ∈ S, t ≠ t' → Disjoint (v.slice (R t)).set (v.slice (R t')).set :=
  fun t ht t' ht' h => View.disjoint_slice (v := v) (hd t ht t' ht' h)
theorem any_cut : (anyV (F := F) v c : sProp 𝕄) ⊢ bigSep S (fun t => anyV (v.slice (R t)) c) := by
  conv => lhs; unfold anyV
  rw [← cut_cover v S R hc]
  iintro ⟨%f, H⟩
  ihave H := (Entails.of_eq (pointsTo_biUnion (ℓ := v.loc (c : Thread nD τ)) (q := fullShare) (f := f) S (fun t => (v.slice (R t)).set) (cut_disj v S R hd hc))) $$ H
  have h : (bigSep S (fun t => iprop(v.loc (c : Thread nD τ) ↦[(v.slice (R t)).set]{fullShare} f)) : sProp 𝕄) ⊢ bigSep S (fun t => anyV (v.slice (R t)) c) :=
    bigSep_mono fun t _ => by
      refine BIBase.Entails.trans (?_ : (_ : sProp 𝕄) ⊢ _) BIBase.Entails.refl
      unfold anyV; iintro H; iexists f; iexact H
  iapply h; iexact H
theorem holds_join (y : (t : T) → (R t).shape.Idx → Elt F e) (X : s.Idx → Elt F e) (hX : ∀ t ∈ S, ∀ j, X ((R t).emb j) = y t j) :
    (bigSep S (fun t => holds (v.slice (R t)) c (y t)) : sProp 𝕄) ⊢ holds v c X := by
  unfold holds
  have h0 : (bigSep S (fun t => iprop(∃ f, ⌜(v.slice (R t)).read (Elt F) f = y t⌝ ∗ ((v.slice (R t)).loc (c : Thread nD τ) ↦[(v.slice (R t)).set]{fullShare} f))) : sProp 𝕄)
      ⊢ iprop(∃ fs : T → Buf (Elt F) (v.loc (c : Thread nD τ)), bigSep S fun t => iprop(⌜(v.slice (R t)).read (Elt F) (fs t) = y t⌝ ∗ (v.loc (c : Thread nD τ) ↦[(v.slice (R t)).set]{fullShare} (fs t)))) :=
    bigSep_exists_pi (Y := fun _ => Buf (Elt F) (v.loc (c : Thread nD τ))) S _
  iintro H
  ihave ⟨%fs, H⟩ := h0 $$ H
  ihave ⟨%hp, H⟩ := (bigSep_pure_sep S (fun t => (v.slice (R t)).read (Elt F) (fs t) = y t) (fun t => iprop(v.loc (c : Thread nD τ) ↦[(v.slice (R t)).set]{fullShare} (fs t)))) $$ H
  ihave ⟨%g, %hg, H⟩ := (pointsTo_biUnion_join (ℓ := v.loc (c : Thread nD τ)) (q := fullShare) S (fun t => (v.slice (R t)).set) fs (fun _ => Classical.choice (Elt.nonempty F _)) (cut_disj v S R hd hc)) $$ H
  iexists g
  isplitr
  · ipureintro
    funext i
    obtain ⟨t, ht, hi⟩ := hc i
    obtain ⟨j, -, rfl⟩ := Finset.mem_map.mp (show i ∈ Finset.univ.map (R t).emb by rw [Rect.map_emb_univ]; exact hi)
    rw [hX t ht j, ← hp t ht]
    exact congrArg (cast (congrArg (Elt F) v.elt_eq)) (hg t ht _ (View.emb_mem_set (v.slice (R t)) j))
  · rw [← cut_cover v S R hc]; iexact H
theorem any_join : (bigSep S (fun t => anyV (F := F) (v.slice (R t)) c) : sProp 𝕄) ⊢ anyV v c := by
  unfold anyV
  have h0 : (bigSep S (fun t => iprop(∃ f, ((v.slice (R t)).loc (c : Thread nD τ) ↦[(v.slice (R t)).set]{fullShare} f))) : sProp 𝕄)
      ⊢ iprop(∃ fs : T → Buf (Elt F) (v.loc (c : Thread nD τ)), bigSep S fun t => iprop(v.loc (c : Thread nD τ) ↦[(v.slice (R t)).set]{fullShare} (fs t))) :=
    bigSep_exists_pi (Y := fun _ => Buf (Elt F) (v.loc (c : Thread nD τ))) S _
  iintro H
  ihave ⟨%fs, H⟩ := h0 $$ H
  ihave ⟨%g, -, H⟩ := (pointsTo_biUnion_join (ℓ := v.loc (c : Thread nD τ)) (q := fullShare) S (fun t => (v.slice (R t)).set) fs (fun _ => Classical.choice (Elt.nonempty F _)) (cut_disj v S R hd hc)) $$ H
  iexists g
  rw [← cut_cover v S R hc]; iexact H
end Cut

/-! ## The slots -/

theorem slot_mem (p : Fin 2) (i : S2x64x8192.Idx) : i ∈ (slotR p).set ↔ (i 0).val = p.val := by
  rw [Rect.mem_set_unit]
  constructor
  · intro h
    have := h 0
    have h1 : p.val ≤ (i 0).val := this.1
    have h2 : (i 0).val < p.val + 1 := this.2
    omega
  · intro h a
    match a with
    | ⟨0, _⟩ => exact ⟨h.symm.le, by show (i 0).val < p.val + 1; omega⟩
    | ⟨1, _⟩ => exact ⟨Nat.zero_le _, by show (i 1).val < 0 + 64; have := (i 1).isLt; have e : S2x64x8192.size 1 = 64 := rfl; omega⟩
    | ⟨2, _⟩ => exact ⟨Nat.zero_le _, by show (i 2).val < 0 + 8192; have := (i 2).isLt; have e : S2x64x8192.size 2 = 8192 := rfl; omega⟩
theorem slot_disj (p q : Fin 2) (h : p ≠ q) : Disjoint (slotR p).set (slotR q).set :=
  Finset.disjoint_left.mpr fun i hp hq => h (Fin.ext (((slot_mem p i).mp hp).symm.trans ((slot_mem q i).mp hq)))
theorem slot_cov (i : S2x64x8192.Idx) : ∃ p ∈ (Finset.univ : Finset (Fin 2)), i ∈ (slotR p).set :=
  ⟨⟨(i 0).val, (i 0).isLt⟩, Finset.mem_univ _, (slot_mem _ _).mpr rfl⟩

theorem two_of {e : EltTy} (M : Memref sig .tc .vmem S2x64x8192 e) : (anyV (F := F) M.view c : sProp 𝕄) ⊢ two c M :=
  (any_cut c M.view Finset.univ (fun p : Fin 2 => slotR p) (fun p _ q _ h => slot_disj p q h) slot_cov).trans
    (Entails.of_eq (bigSep_fin_two _))
theorem of_two {e : EltTy} (M : Memref sig .tc .vmem S2x64x8192 e) : (two (F := F) c M : sProp 𝕄) ⊢ anyV M.view c :=
  (Entails.of_eq (bigSep_fin_two (fun p : Fin 2 => anyV (F := F) (M.view.slice (slotR p)) c)).symm).trans
    (any_join c M.view Finset.univ (fun p : Fin 2 => slotR p) (fun p _ q _ h => slot_disj p q h) slot_cov)

theorem bf_mem (p : Fin 5) (i : S5x8x128.Idx) : i ∈ (bfR p).set ↔ (i 0).val = p.val := by
  rw [Rect.mem_set_unit]
  constructor
  · intro h
    have := h 0
    have h1 : p.val ≤ (i 0).val := this.1
    have h2 : (i 0).val < p.val + 1 := this.2
    omega
  · intro h a
    match a with
    | ⟨0, _⟩ => exact ⟨h.symm.le, by show (i 0).val < p.val + 1; omega⟩
    | ⟨1, _⟩ => exact ⟨Nat.zero_le _, by show (i 1).val < 0 + 8; have := (i 1).isLt; have e : S5x8x128.size 1 = 8 := rfl; omega⟩
    | ⟨2, _⟩ => exact ⟨Nat.zero_le _, by show (i 2).val < 0 + 128; have := (i 2).isLt; have e : S5x8x128.size 2 = 128 := rfl; omega⟩
theorem bf_disj (p q : Fin 5) (h : p ≠ q) : Disjoint (bfR p).set (bfR q).set :=
  Finset.disjoint_left.mpr fun i hp hq => h (Fin.ext (((bf_mem p i).mp hp).symm.trans ((bf_mem q i).mp hq)))
theorem bf_cov (i : S5x8x128.Idx) : ∃ p ∈ (Finset.univ : Finset (Fin 5)), i ∈ (bfR p).set :=
  ⟨⟨(i 0).val, (i 0).isLt⟩, Finset.mem_univ _, (bf_mem _ _).mpr rfl⟩
theorem five_of : (anyV (F := F) bfRcv.view c : sProp 𝕄) ⊢ bigSep Finset.univ (fun k : Fin 5 => bfAny k c) :=
  any_cut c bfRcv.view Finset.univ (fun p : Fin 5 => bfR p) (fun p _ q _ h => bf_disj p q h) bf_cov
theorem of_five : (bigSep Finset.univ (fun k : Fin 5 => bfAny (F := F) k c) : sProp 𝕄) ⊢ anyV bfRcv.view c :=
  any_join c bfRcv.view Finset.univ (fun p : Fin 5 => bfR p) (fun p _ q _ h => bf_disj p q h) bf_cov

/-- A whole buffer at contents not chosen. -/
theorem any_whole (b : Ref sig .tc) : (anyV (F := F) (Memref.whole b).view c : sProp 𝕄) = iprop(∃ f, ((c : Thread nD τ).loc b) ↦{fullShare} f) := by
  unfold anyV; rw [show (Memref.whole b).view.set = Finset.univ from View.set_whole b]

/-! ## The output rows -/

/-- The rows of a side's step `t`. -/
def rowR (b : Fin 2) (t : Fin 32) : Rect S4096x8192 :=
  Rect.unit (s := S4096x8192) (offO (envOf c).v0 b t.val) S64x8192.size (offO_inb (envOf c).v0 (envOf c).h0 b t.val (by omega))
theorem row_mem (b : Fin 2) (t : Fin 32) (i : S4096x8192.Idx) : i ∈ (rowR c b t).set ↔ (i 0).val / 64 = 2 * (chO c b t).val + b.val := by
  unfold rowR
  rw [Rect.mem_set_unit]
  constructor
  · intro h
    have h0 := h 0
    rw [offO_row c b t] at h0
    have h1 : 128 * (chO c b t).val + 64 * b.val ≤ (i 0).val := h0.1
    have h2 : (i 0).val < 128 * (chO c b t).val + 64 * b.val + 64 := h0.2
    omega
  · intro h a
    match a with
    | ⟨0, _⟩ =>
      show offO (envOf c).v0 b t.val 0 ≤ (i 0).val ∧ (i 0).val < offO (envOf c).v0 b t.val 0 + 64
      rw [offO_row c b t]; omega
    | ⟨1, _⟩ =>
      show offO (envOf c).v0 b t.val 1 ≤ (i 1).val ∧ (i 1).val < offO (envOf c).v0 b t.val 1 + 8192
      rw [offO_col c b t]
      have := (i 1).isLt; have e : S4096x8192.size 1 = 8192 := rfl; omega
/-- The step at which a side writes a chunk. -/
def stO (b : Fin 2) (q : Fin 32) : Fin 32 := if b = 0 then pos c + 1 - q else q - pos c + 1
theorem stO_chO : ∀ c b t, stO c b (chO c b t) = t := by decide +kernel
theorem chO_stO : ∀ c b q, chO c b (stO c b q) = q := by decide +kernel
theorem row_disj (p q : Fin 2 × Fin 32) (h : p ≠ q) : Disjoint (rowR c p.1 p.2).set (rowR c q.1 q.2).set := by
  refine Finset.disjoint_left.mpr fun i hp hq => h ?_
  have e := ((row_mem c p.1 p.2 i).mp hp).symm.trans ((row_mem c q.1 q.2 i).mp hq)
  have h1 : p.1 = q.1 := by ext; omega
  have h2 : chO c p.1 p.2 = chO c q.1 q.2 := by ext; omega
  rw [← h1] at h2
  exact Prod.ext h1 (by rw [← stO_chO c p.1 p.2, h2, stO_chO])
/-- The side and the step that write an element. -/
def sideOf (i : S4096x8192.Idx) : Fin 2 := ⟨(i 0).val / 64 % 2, Nat.mod_lt _ (by decide)⟩
def chunkOf (i : S4096x8192.Idx) : Fin 32 := ⟨(i 0).val / 64 / 2, by have := (i 0).isLt; have e : S4096x8192.size 0 = 4096 := rfl; omega⟩
def rowOf (i : S4096x8192.Idx) : S64x8192.Idx := fun a => match a with
  | ⟨0, _⟩ => ⟨(i 0).val % 64, Nat.mod_lt _ (by decide)⟩
  | ⟨1, _⟩ => ⟨(i 1).val, (i 1).isLt⟩
theorem row_cov (i : S4096x8192.Idx) : ∃ p ∈ (Finset.univ : Finset (Fin 2 × Fin 32)), i ∈ (rowR c p.1 p.2).set :=
  ⟨(sideOf i, stO c (sideOf i) (chunkOf i)), Finset.mem_univ _, (row_mem c _ _ i).mpr (by
    show _ = 2 * (chO c (sideOf i) (stO c (sideOf i) (chunkOf i))).val + (sideOf i).val
    rw [chO_stO]; show _ = 2 * ((i 0).val / 64 / 2) + (i 0).val / 64 % 2; omega)⟩
/-- A core's output array. -/
def res : Vec F S4096x8192 .f32 := fun i => outV I c (sideOf i) (stO c (sideOf i) (chunkOf i)).val (rowOf i)
theorem res_row (b : Fin 2) (t : Fin 32) (j : S64x8192.Idx) : res c I ((rowR c b t).emb j) = outV I c b t.val j := by
  have h0 : (((rowR c b t).emb j) 0).val = 128 * (chO c b t).val + 64 * b.val + (j 0).val := by
    show offO (envOf c).v0 b t.val 0 + 1 * (j 0).val = _
    rw [offO_row c b t]; omega
  have h1 : (((rowR c b t).emb j) 1).val = (j 1).val := by
    show offO (envOf c).v0 b t.val 1 + 1 * (j 1).val = _
    rw [offO_col c b t]; omega
  have hj : (j 0).val < 64 := (j 0).isLt
  have es : sideOf ((rowR c b t).emb j) = b := by ext; show _ / 64 % 2 = _; rw [h0]; omega
  have ec : chunkOf ((rowR c b t).emb j) = chO c b t := by ext; show _ / 64 / 2 = _; rw [h0]; omega
  have er : rowOf ((rowR c b t).emb j) = j := by
    funext a
    match a with
    | ⟨0, _⟩ => ext; show _ % 64 = _; rw [h0]; show _ = (j 0).val; omega
    | ⟨1, _⟩ => ext; exact h1
  unfold res; rw [es, ec, er, stO_chO]

theorem out_view (b : Fin 2) (t : Fin 32) : (outW c b t.val).view = outM.view.slice (rowR c b t) := by
  rw [outW_eq c b t.val (by omega)]; rfl
/-- The output array, given to the steps of both sides. -/
theorem rows_of : (anyV (F := F) outM.view c : sProp 𝕄) ⊢ bigSep Finset.univ (fun p : Fin 2 × Fin 32 => anyV (outW c p.1 p.2.val).view c) := by
  refine (any_cut c outM.view Finset.univ (fun p : Fin 2 × Fin 32 => rowR c p.1 p.2) (fun p _ q _ h => row_disj c p q h) (row_cov c)).trans ?_
  refine Entails.of_eq (bigSep_congr fun p _ => ?_)
  rw [out_view]; rfl
theorem of_rows : (bigSep Finset.univ (fun p : Fin 2 × Fin 32 => rowD c I p.1 p.2.val) : sProp 𝕄) ⊢ holds outM.view c (res c I) := by
  refine BIBase.Entails.trans ?_ (holds_join c outM.view Finset.univ (fun p : Fin 2 × Fin 32 => rowR c p.1 p.2) (fun p _ q _ h => row_disj c p q h) (row_cov c)
    (fun p => outV I c p.1 p.2.val) (res c I) (fun p _ j => res_row c I p.1 p.2 j))
  refine Entails.of_eq (bigSep_congr fun p _ => ?_)
  unfold rowD
  rw [out_view]; rfl

end Cert.KernelIdeal.Ring
-- ==== Proof.IWork.lean ====
/-
  What the launch and the pipeline hand a core, put together into what the body starts with, and taken apart after it:
  scratch buffers, semaphores, the output rows.
-/
module

public import proofs.«01_k».proof.Proof.IBufs
public import proofs.«01_k».proof.Proof.Gen.KernelIdeal.Regions

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig ℕ (Elt F) ℕ UU ℕ

variable (c : Dev nD) (I : In F) (κ : GSem nD τ sig → ℕ)

theorem bigSep_range_fin (n : ℕ) (Φ : ℕ → sProp 𝕄) : bigSep (Finset.range n) Φ = bigSep Finset.univ (fun i : Fin n => Φ i.val) := by
  rw [show Finset.range n = Finset.univ.map Fin.valEmbedding from by
    ext i; simp only [Finset.mem_range, Finset.mem_map, Finset.mem_univ, true_and, Fin.valEmbedding_apply]
    exact ⟨fun h => ⟨⟨i, h⟩, rfl⟩, fun ⟨a, h⟩ => h ▸ a.isLt⟩, bigSep_map]
  rfl

/-! ## The scratch buffers -/

/-- One side's slots. -/
def slots (b : Fin 2) : sProp 𝕄 := iprop(two (F := F) c (rsSnd b) ∗ two (F := F) c (rsRcv b) ∗ two (F := F) c (agSnd b) ∗ two (F := F) c (agRcv b))
def Work : sProp 𝕄 :=
  iprop(anyV (F := F) (wbM.access wR) c ∗ anyV (F := F) bfSnd.view c ∗ redAny c 0 ∗ redAny c 1 ∗ slots c 0 ∗ slots c 1 ∗ two (F := F) c (stgM 0) ∗ two (F := F) c (stgM 1)
    ∗ bigSep Finset.univ (fun k : Fin 5 => bfAny (F := F) k c))
/-- The scratch buffers whole, in the order they are declared in. -/
def scr : sProp 𝕄 :=
  iprop(anyV (F := F) wbM.view c ∗ anyV (F := F) (rsSnd 0).view c ∗ anyV (F := F) (rsRcv 0).view c ∗ anyV (F := F) (rsSnd 1).view c ∗ anyV (F := F) (rsRcv 1).view c
    ∗ anyV (F := F) (redM 0).view c ∗ anyV (F := F) (redM 1).view c ∗ anyV (F := F) (agSnd 0).view c ∗ anyV (F := F) (agRcv 0).view c ∗ anyV (F := F) (agSnd 1).view c
    ∗ anyV (F := F) (agRcv 1).view c ∗ anyV (F := F) (stgM 0).view c ∗ anyV (F := F) (stgM 1).view c ∗ anyV (F := F) bfSnd.view c ∗ anyV (F := F) bfRcv.view c)
theorem wb_any : (anyV (F := F) (wbM.access wR) c : sProp 𝕄) = anyV wbM.view c := anyV_unit c cc0_scratch0 zero2 inb_S128x8192_S128x8192_0_0
theorem red0_any : (redAny (F := F) c 0 : sProp 𝕄) = anyV (redM 0).view c := anyV_unit c cc0_scratch5 zero2 inb_S64x8192_S64x8192_0_0
theorem red1_any : (redAny (F := F) c 1 : sProp 𝕄) = anyV (redM 1).view c := anyV_unit c cc0_scratch6 zero2 inb_S64x8192_S64x8192_0_0

theorem scoped_scr : (Pipeline.scopedRest (Ix := ℕ) (Name := ℕ) (U := UU) (Lvl := ℕ) (Val := Elt F) spec0 c : sProp 𝕄) = scr c := by
  rw [scopedRest0_eq]
  unfold scr
  simp only [show (anyV (F := F) wbM.view c : sProp 𝕄) = _ from any_whole c cc0_scratch0, show (anyV (F := F) (rsSnd 0).view c : sProp 𝕄) = _ from any_whole c cc0_scratch1,
    show (anyV (F := F) (rsRcv 0).view c : sProp 𝕄) = _ from any_whole c cc0_scratch2, show (anyV (F := F) (rsSnd 1).view c : sProp 𝕄) = _ from any_whole c cc0_scratch3,
    show (anyV (F := F) (rsRcv 1).view c : sProp 𝕄) = _ from any_whole c cc0_scratch4, show (anyV (F := F) (redM 0).view c : sProp 𝕄) = _ from any_whole c cc0_scratch5,
    show (anyV (F := F) (redM 1).view c : sProp 𝕄) = _ from any_whole c cc0_scratch6, show (anyV (F := F) (agSnd 0).view c : sProp 𝕄) = _ from any_whole c cc0_scratch7,
    show (anyV (F := F) (agRcv 0).view c : sProp 𝕄) = _ from any_whole c cc0_scratch8, show (anyV (F := F) (agSnd 1).view c : sProp 𝕄) = _ from any_whole c cc0_scratch9,
    show (anyV (F := F) (agRcv 1).view c : sProp 𝕄) = _ from any_whole c cc0_scratch10, show (anyV (F := F) (stgM 0).view c : sProp 𝕄) = _ from any_whole c cc0_scratch11,
    show (anyV (F := F) (stgM 1).view c : sProp 𝕄) = _ from any_whole c cc0_scratch12, show (anyV (F := F) bfSnd.view c : sProp 𝕄) = _ from any_whole c cc0_scratch13,
    show (anyV (F := F) bfRcv.view c : sProp 𝕄) = _ from any_whole c cc0_scratch14]

theorem scr_work : (scr c : sProp 𝕄) ⊢ Work c := by
  unfold scr Work slots
  rw [wb_any, red0_any, red1_any]
  iintro ⟨W, S0, R0, S1, R1, D0, D1, A0, B0, A1, B1, T0, T1, F, G⟩
  isplitl [W]; · iexact W
  isplitl [F]; · iexact F
  isplitl [D0]; · iexact D0
  isplitl [D1]; · iexact D1
  isplitl [S0 R0 A0 B0]
  · isplitl [S0]; · iapply (two_of c (rsSnd 0)); iexact S0
    isplitl [R0]; · iapply (two_of c (rsRcv 0)); iexact R0
    isplitl [A0]; · iapply (two_of c (agSnd 0)); iexact A0
    iapply (two_of c (agRcv 0)); iexact B0
  isplitl [S1 R1 A1 B1]
  · isplitl [S1]; · iapply (two_of c (rsSnd 1)); iexact S1
    isplitl [R1]; · iapply (two_of c (rsRcv 1)); iexact R1
    isplitl [A1]; · iapply (two_of c (agSnd 1)); iexact A1
    iapply (two_of c (agRcv 1)); iexact B1
  isplitl [T0]; · iapply (two_of c (stgM 0)); iexact T0
  isplitl [T1]; · iapply (two_of c (stgM 1)); iexact T1
  iapply (five_of c); iexact G

theorem work_scr : (Work c : sProp 𝕄) ⊢ scr c := by
  unfold scr Work slots
  rw [wb_any, red0_any, red1_any]
  iintro ⟨W, F, D0, D1, ⟨S0, R0, A0, B0⟩, ⟨S1, R1, A1, B1⟩, T0, T1, G⟩
  isplitl [W]; · iexact W
  isplitl [S0]; · iapply (of_two c (rsSnd 0)); iexact S0
  isplitl [R0]; · iapply (of_two c (rsRcv 0)); iexact R0
  isplitl [S1]; · iapply (of_two c (rsSnd 1)); iexact S1
  isplitl [R1]; · iapply (of_two c (rsRcv 1)); iexact R1
  isplitl [D0]; · iexact D0
  isplitl [D1]; · iexact D1
  isplitl [A0]; · iapply (of_two c (agSnd 0)); iexact A0
  isplitl [B0]; · iapply (of_two c (agRcv 0)); iexact B0
  isplitl [A1]; · iapply (of_two c (agSnd 1)); iexact A1
  isplitl [B1]; · iapply (of_two c (agRcv 1)); iexact B1
  isplitl [T0]; · iapply (of_two c (stgM 0)); iexact T0
  isplitl [T1]; · iapply (of_two c (stgM 1)); iexact T1
  isplitl [F]; · iexact F
  iapply (of_five c); iexact G

/-! ## The semaphores -/

/-- The core's own cells, each at the start of a round. -/
def Ats (f : Fin 18 → ℕ) : sProp 𝕄 := bigSep Finset.univ (fun i : Fin 18 => at1 (cell c (osem i)) (f i))
theorem Ats_eq (f : Fin 18 → ℕ) : (Ats c f : sProp 𝕄) = iprop(at1 (cell c (smS 0 0)) (f 0) ∗ at1 (cell c (smS 0 1)) (f 1) ∗ at1 (cell c (smR 0 0)) (f 2) ∗ at1 (cell c (smR 0 1)) (f 3)
    ∗ at1 (cell c (smS 1 0)) (f 4) ∗ at1 (cell c (smS 1 1)) (f 5) ∗ at1 (cell c (smR 1 0)) (f 6) ∗ at1 (cell c (smR 1 1)) (f 7) ∗ at1 (cell c smF) (f 8)
    ∗ at1 (cell c (smB 0)) (f 9) ∗ at1 (cell c (smB 1)) (f 10) ∗ at1 (cell c (smB 2)) (f 11) ∗ at1 (cell c (smB 3)) (f 12) ∗ at1 (cell c (smB 4)) (f 13)
    ∗ at1 (cell c (smO 0 0)) (f 14) ∗ at1 (cell c (smO 0 1)) (f 15) ∗ at1 (cell c (smO 1 0)) (f 16) ∗ at1 (cell c (smO 1 1)) (f 17)) :=
  bigSep_univ_eq_bigSepL [(0 : Fin 18), 1, 2, 3, 4, 5, 6, 7, 8, 9, 10, 11, 12, 13, 14, 15, 16, 17] (by decide) (by decide) _
theorem five_eq (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ
/-- The round a core's own cell ends at. -/
def ends (i : Fin 18) : ℕ := nR (role (osem i))
theorem role_osem : ∀ i, role (osem i) ≠ .other := by decide

theorem close1 (sm : SemLoc sig) (hs : role sm ≠ .other) (r : ℕ) (hr : nR (role sm) ≤ r) :
    iprop(Recs I κ ∗ at1 (cell c sm) r) ⊢ (|={Set.univ}=> semVal (cell c sm) 0 : sProp 𝕄) := by
  iintro ⟨#HR, HA⟩
  unfold at1
  icases HA with ⟨HA, -⟩
  iapply (Rounds.cell_close ER (Rd I) (κ := κ (cell c sm)) (g := cell c sm) (R := r) (Set.mem_univ _) id (fun r' h => Rd_later I c sm r' (hr.trans h)))
  isplitr; · iapply (Recs_inv I κ c sm hs); iexact HR
  iexact HA
theorem close_all : iprop(Recs I κ ∗ Ats c ends) ⊢ (|={Set.univ}=> Pipeline.ownSems0 osem c : sProp 𝕄) := by
  unfold Ats Pipeline.ownSems0
  have h : iprop(Recs I κ ∗ bigSep Finset.univ (fun i : Fin 18 => at1 (cell c (osem i)) (ends i)))
      ⊢ (bigSep Finset.univ (fun i : Fin 18 => iprop(|={Set.univ}=> semVal (cell c (osem i)) 0)) : sProp 𝕄) :=
    bigSep_with_persistent fun i _ => close1 c I κ (osem i) (role_osem i) (ends i) le_rfl
  exact h.trans (bigSep_fupd _ _)
theorem open_all : iprop(Recs I κ ∗ bigSep Finset.univ (fun i : Fin 18 => openTok ER (cell c (osem i))) ∗ Pipeline.ownSems0 osem c) ⊢ (|={Set.univ}=> Ats c (fun _ => 0) : sProp 𝕄) := by
  unfold Ats Pipeline.ownSems0
  rw [← bigSep_sep']
  have h : iprop(Recs I κ ∗ bigSep Finset.univ (fun i : Fin 18 => iprop(openTok ER (cell c (osem i)) ∗ semVal (cell c (osem i)) 0)))
      ⊢ (bigSep Finset.univ (fun i : Fin 18 => iprop(|={Set.univ}=> at1 (cell c (osem i)) 0)) : sProp 𝕄) :=
    bigSep_with_persistent fun i _ => by
      refine BIBase.Entails.trans (?_ : (_ : sProp 𝕄) ⊢ _) BIBase.Entails.refl
      iintro ⟨#HR, Ho, Hs⟩
      unfold at1
      iapply (Rounds.cell_open ER (Rd I) (g := cell c (osem i)) (Set.mem_univ (κ (cell c (osem i)))))
      isplitr; · iapply (Recs_inv I κ c (osem i) (role_osem i)); iexact HR
      isplitl [Ho] <;> iassumption
  exact h.trans (bigSep_fupd _ _)

/-! ## The output rows -/

/-- The tokens of the copies to the output. -/
def stoks : sProp 𝕄 := bigSep Finset.univ (fun p : Fin 2 × Fin 32 => dutyTok ER (cell c (smO p.1 (par p.2.val))) (p.2.val / 2) 0)
theorem rows_in : iprop(anyV (F := F) outM.view c ∗ stoks c)
    ⊢ (iprop(bigSep (Finset.range 32) (fun t => rowT (F := F) c 0 t) ∗ bigSep (Finset.range 32) (fun t => rowT (F := F) c 1 t)) : sProp 𝕄) := by
  have h := (bigSep_sep' (Finset.univ : Finset (Fin 2 × Fin 32)) (fun p => (anyV (F := F) (outW c p.1 p.2.val).view c : sProp 𝕄)) (fun p => dutyTok ER (cell c (smO p.1 (par p.2.val))) (p.2.val / 2) 0)).symm
  rw [bigSep_univ_prod (fun p : Fin 2 × Fin 32 => iprop(anyV (F := F) (outW c p.1 p.2.val).view c ∗ dutyTok ER (cell c (smO p.1 (par p.2.val))) (p.2.val / 2) 0)), bigSep_fin_two] at h
  rw [bigSep_range_fin 32 (fun t => rowT (F := F) c 0 t), bigSep_range_fin 32 (fun t => rowT (F := F) c 1 t)]
  exact (sep_mono_left (rows_of c)).trans (Entails.of_eq h)
theorem rows_out : (iprop(bigSep (Finset.range 32) (fun t => rowD c I 0 t) ∗ bigSep (Finset.range 32) (fun t => rowD c I 1 t)) : sProp 𝕄) ⊢ holds outM.view c (res c I) := by
  refine BIBase.Entails.trans ?_ (of_rows c I)
  rw [bigSep_univ_prod, bigSep_fin_two, bigSep_range_fin, bigSep_range_fin]
  exact .refl

/-! ## The whole -/

/-- What the body starts with but for the operands it reads and what the core owes. -/
def Given : sProp 𝕄 :=
  iprop(Work c ∗ anyV (F := F) outM.view c ∗ stoks c ∗ Ats c (fun _ => 0) ∗ at1 (cell c smBar) 0 ∗ toks c 0 ∗ todo (inc c) 0)
/-- The operands. -/
def ops : sProp 𝕄 := iprop(scalPts c ∗ xPts c I ∗ wPts c I)
theorem pre_of : iprop(ops c I ∗ Given c ∗ ow c 0) ⊢ (Pre c I : sProp 𝕄) := by
  unfold ops Given Pre bufs Work Side Rows bfs Cnt slots ats
  rw [Ats_eq, bigSep_sep', five_eq (fun k => at1 (cell c (smB k)) 0)]
  iintro ⟨⟨Hs, Hx, Hw⟩, ⟨⟨W, F, D0, D1, ⟨S0, R0, A0, B0⟩, ⟨S1, R1, A1, B1⟩, T0, T1, G⟩, Hout, Hst,
    ⟨p0, p1, p2, p3, p4, p5, p6, p7, p8, p9, p10, p11, p12, p13, p14, p15, p16, p17⟩, PB, HT, HI⟩, HO⟩
  ihave ⟨W0, W1⟩ := (rows_in c) $$ [Hout Hst]
  · isplitl [Hout] <;> iassumption
  isplitl [Hs Hx Hw W F D0 D1]
  · isplitl [Hs]; · iexact Hs
    isplitl [Hx]; · iexact Hx
    isplitl [Hw]; · iexact Hw
    isplitl [W]; · iexact W
    isplitl [F]; · iexact F
    isplitl [D0] <;> iassumption
  isplitl [S0 R0 A0 B0 p0 p1 p2 p3]
  · isplitl [S0]; · iexact S0
    isplitl [R0]; · iexact R0
    isplitl [A0]; · iexact A0
    isplitl [B0]; · iexact B0
    isplitl [p0 p1]
    · isplitl [p0] <;> iassumption
    isplitl [p2] <;> iassumption
  isplitl [S1 R1 A1 B1 p4 p5 p6 p7]
  · isplitl [S1]; · iexact S1
    isplitl [R1]; · iexact R1
    isplitl [A1]; · iexact A1
    isplitl [B1]; · iexact B1
    isplitl [p4 p5]
    · isplitl [p4] <;> iassumption
    isplitl [p6] <;> iassumption
  isplitl [G p9 p10 p11 p12 p13]
  · isplitl [G]; · iexact G
    isplitl [p9]; · iexact p9
    isplitl [p10]; · iexact p10
    isplitl [p11]; · iexact p11
    isplitl [p12] <;> iassumption
  isplitl [p8]; · iexact p8
  isplitl [PB]; · iexact PB
  isplitl [p14 p15 T0 W0]
  · isplitl [p14 p15]
    · isplitl [p14] <;> iassumption
    isplitl [T0] <;> iassumption
  isplitl [p16 p17 T1 W1]
  · isplitl [p16 p17]
    · isplitl [p16] <;> iassumption
    isplitl [T1] <;> iassumption
  isplitl [HO]; · iexact HO
  isplitl [HT] <;> iassumption

/-- What it leaves. -/
def Left : sProp 𝕄 := iprop(Work c ∗ holds outM.view c (res c I) ∗ Ats c ends ∗ at1 (cell c smBar) 1)
theorem of_post : (Post c I : sProp 𝕄) ⊢ iprop(ops c I ∗ Left c I ∗ ow c 131) := by
  unfold ops Left Post bufs Work Side RowsD bfs slots ats
  rw [Ats_eq, bigSep_sep', five_eq (fun k => at1 (cell c (smB k)) 1)]
  iintro ⟨⟨Hs, Hx, Hw, W, F, D0, D1⟩, ⟨S0, R0, A0, B0, ⟨p0, p1⟩, ⟨p2, p3⟩⟩, ⟨S1, R1, A1, B1, ⟨p4, p5⟩, ⟨p6, p7⟩⟩, ⟨G, p9, p10, p11, p12, p13⟩, p8, PB,
    ⟨⟨p14, p15⟩, T0, W0⟩, ⟨⟨p16, p17⟩, T1, W1⟩, HO⟩
  isplitl [Hs Hx Hw]
  · isplitl [Hs]; · iexact Hs
    isplitl [Hx] <;> iassumption
  isplitr [HO]
  · isplitl [W F D0 D1 S0 R0 A0 B0 S1 R1 A1 B1 T0 T1 G]
    · isplitl [W]; · iexact W
      isplitl [F]; · iexact F
      isplitl [D0]; · iexact D0
      isplitl [D1]; · iexact D1
      isplitl [S0 R0 A0 B0]
      · isplitl [S0]; · iexact S0
        isplitl [R0]; · iexact R0
        isplitl [A0] <;> iassumption
      isplitl [S1 R1 A1 B1]
      · isplitl [S1]; · iexact S1
        isplitl [R1]; · iexact R1
        isplitl [A1] <;> iassumption
      isplitl [T0]; · iexact T0
      isplitl [T1]; · iexact T1
      iexact G
    isplitl [W0 W1]
    · iapply (rows_out c I)
      isplitl [W0] <;> iassumption
    isplitr [PB]
    · isplitl [p0]; · iexact p0
      isplitl [p1]; · iexact p1
      isplitl [p2]; · iexact p2
      isplitl [p3]; · iexact p3
      isplitl [p4]; · iexact p4
      isplitl [p5]; · iexact p5
      isplitl [p6]; · iexact p6
      isplitl [p7]; · iexact p7
      isplitl [p8]; · iexact p8
      isplitl [p9]; · iexact p9
      isplitl [p10]; · iexact p10
      isplitl [p11]; · iexact p11
      isplitl [p12]; · iexact p12
      isplitl [p13]; · iexact p13
      isplitl [p14]; · iexact p14
      isplitl [p15]; · iexact p15
      isplitl [p16]; · iexact p16
      iexact p17
    iexact PB
  iexact HO

end Cert.KernelIdeal.Ring
-- ==== Proof.IScal.lean ====
/-
  The table of scalars: what the host's operations leave in it, core by core.
-/
module

public import proofs.«01_k».proof.Proof.IBufs
public import Idealize.ShloMosaic.Lib.StableHlo.RunRead
public import proofs.«01_k».proof.Proof.Gen.KernelIdeal.Regions

@[expose] public section

set_option maxRecDepth 16384
noncomputable section

namespace Cert.KernelIdeal.Ring

open Idealize.ShloMosaic Idealize.ShloMosaic.TcCoe Idealize.SL.Sem
open Cert.KernelIdeal Cert.KernelIdeal.Gen

variable {F : FTy → Type} [FloatOps F] (c : Dev nD)

/-- An equation of words over the 32 devices, checked device by device. -/
theorem allDec {f g : Fin 32 → BitVec 32} (h : decide (∀ c, f c = g c) = true) : ∀ c, f c = g c := of_decide_eq_true h

theorem tab_cat (e0 e1 e2 e3 e4 e5 e6 e7 : Vec F S1 .i32) (h0 : e0 = fun _ => scal c 0) (h1 : e1 = fun _ => scal c 1) (h2 : e2 = fun _ => scal c 2) (h3 : e3 = fun _ => scal c 3) (h4 : e4 = fun _ => scal c 4) (h5 : e5 = fun _ => scal c 5) (h6 : e6 = fun _ => scal c 6) (h7 : e7 = fun _ => scal c 7) :
    concatenate S8 0 [⟨S1, e0⟩, ⟨S1, e1⟩, ⟨S1, e2⟩, ⟨S1, e3⟩, ⟨S1, e4⟩, ⟨S1, e5⟩, ⟨S1, e6⟩, ⟨S1, e7⟩] concatenates_S1_S1_S1_S1_S1_S1_S1_S1_S8_d0 = scalV (F := F) c := by
  subst h0 h1 h2 h3 h4 h5 h6 h7
  funext i
  obtain ⟨k, rfl⟩ : ∃ k : Fin 8, i = (show S8.Idx from fun a => ⟨k.val, by obtain rfl : a = 0 := Subsingleton.elim _ _; exact k.isLt⟩) := ⟨i 0, funext fun a => by obtain rfl : a = 0 := Subsingleton.elim _ _; rfl⟩
  fin_cases k <;> rfl
theorem ix7 (V : Valuation τ sig (Elt F)) : StableHlo.upto (hostOps0 c) V 13 (Proc.devRef .tc main_v7) = fun _ => BitVec.ofNat 32 c.val := by
  after_reads_simp [StableHlo.unaryIndexed_result_read, StableHlo.indexContents_tref_cons, StableHlo.indexContents_tref_empty]
  funext x
  change (_ : BitVec 32) = (_ : BitVec 32)
  revert c
  refine allDec ?_
  sl_kernel_rfl
theorem ic7 (V : Valuation τ sig (Elt F)) (h) (k : Fin 1) (j) : StableHlo.indexContents ![main_v7] { shape := S_, elt := EltTy.i32 } h (StableHlo.upto (hostOps0 c) V 13) k j = BitVec.ofNat 32 c.val := by
  obtain rfl : k = 0 := Subsingleton.elim _ _
  exact congrFun (ix7 c V) j
theorem ix15 (V : Valuation τ sig (Elt F)) : StableHlo.upto (hostOps0 c) V 26 (Proc.devRef .tc main_v15) = fun _ => BitVec.ofNat 32 (pos c - 1 : Fin 32).val := by
  after_reads_simp [StableHlo.unaryIndexed_result_read, StableHlo.indexContents_tref_cons, StableHlo.indexContents_tref_empty]
  simp only [ic7]
  funext x
  change (_ : BitVec 32) = (_ : BitVec 32)
  revert c
  refine allDec ?_
  sl_kernel_rfl
theorem ic15 (V : Valuation τ sig (Elt F)) (h) (k : Fin 1) (j) : StableHlo.indexContents ![main_v15] { shape := S_, elt := EltTy.i32 } h (StableHlo.upto (hostOps0 c) V 26) k j = BitVec.ofNat 32 (pos c - 1 : Fin 32).val := by
  obtain rfl : k = 0 := Subsingleton.elim _ _
  exact congrFun (ix15 c V) j
theorem ix22 (V : Valuation τ sig (Elt F)) : StableHlo.upto (hostOps0 c) V 37 (Proc.devRef .tc main_v22) = fun _ => BitVec.ofNat 32 (pos c + 1 : Fin 32).val := by
  after_reads_simp [StableHlo.unaryIndexed_result_read, StableHlo.indexContents_tref_cons, StableHlo.indexContents_tref_empty]
  simp only [ic7]
  funext x
  change (_ : BitVec 32) = (_ : BitVec 32)
  revert c
  refine allDec ?_
  sl_kernel_rfl
theorem ic22 (V : Valuation τ sig (Elt F)) (h) (k : Fin 1) (j) : StableHlo.indexContents ![main_v22] { shape := S_, elt := EltTy.i32 } h (StableHlo.upto (hostOps0 c) V 37) k j = BitVec.ofNat 32 (pos c + 1 : Fin 32).val := by
  obtain rfl : k = 0 := Subsingleton.elim _ _
  exact congrFun (ix22 c V) j
theorem ent0 (V : Valuation τ sig (Elt F)) : StableHlo.upto (hostOps0 c) V 57 (Proc.devRef .tc main_v30) = fun _ => scal c 0 := by
  after_reads_simp [StableHlo.unaryIndexed_result_read, StableHlo.indexContents_tref_cons, StableHlo.indexContents_tref_empty]
  simp only [ic7]
  funext x
  change (_ : BitVec 32) = (_ : BitVec 32)
  revert c
  refine allDec ?_
  sl_kernel_rfl
theorem ent1 (V : Valuation τ sig (Elt F)) : StableHlo.upto (hostOps0 c) V 57 (Proc.devRef .tc main_v31) = fun _ => scal c 1 := by
  after_reads_simp [StableHlo.unaryIndexed_result_read, StableHlo.indexContents_tref_cons, StableHlo.indexContents_tref_empty]
  simp only [ic15]
  funext x
  change (_ : BitVec 32) = (_ : BitVec 32)
  revert c
  refine allDec ?_
  sl_kernel_rfl
theorem ent2 (V : Valuation τ sig (Elt F)) : StableHlo.upto (hostOps0 c) V 57 (Proc.devRef .tc main_v32) = fun _ => scal c 2 := by
  after_reads_simp [StableHlo.unaryIndexed_result_read, StableHlo.indexContents_tref_cons, StableHlo.indexContents_tref_empty]
  simp only [ic22]
  funext x
  change (_ : BitVec 32) = (_ : BitVec 32)
  revert c
  refine allDec ?_
  sl_kernel_rfl
theorem ent3 (V : Valuation τ sig (Elt F)) : StableHlo.upto (hostOps0 c) V 57 (Proc.devRef .tc main_v33) = fun _ => scal c 3 := by
  after_reads_simp [StableHlo.unaryIndexed_result_read, StableHlo.indexContents_tref_cons, StableHlo.indexContents_tref_empty]
  funext x
  change (_ : BitVec 32) = (_ : BitVec 32)
  revert c
  refine allDec ?_
  sl_kernel_rfl
theorem ent4 (V : Valuation τ sig (Elt F)) : StableHlo.upto (hostOps0 c) V 57 (Proc.devRef .tc main_v34) = fun _ => scal c 4 := by
  after_reads_simp [StableHlo.unaryIndexed_result_read, StableHlo.indexContents_tref_cons, StableHlo.indexContents_tref_empty]
  funext x
  change (_ : BitVec 32) = (_ : BitVec 32)
  revert c
  refine allDec ?_
  sl_kernel_rfl
theorem ent5 (V : Valuation τ sig (Elt F)) : StableHlo.upto (hostOps0 c) V 57 (Proc.devRef .tc main_v35) = fun _ => scal c 5 := by
  after_reads_simp [StableHlo.unaryIndexed_result_read, StableHlo.indexContents_tref_cons, StableHlo.indexContents_tref_empty]
  funext x
  change (_ : BitVec 32) = (_ : BitVec 32)
  revert c
  refine allDec ?_
  sl_kernel_rfl
theorem ent6 (V : Valuation τ sig (Elt F)) : StableHlo.upto (hostOps0 c) V 57 (Proc.devRef .tc main_v36) = fun _ => scal c 6 := by
  after_reads_simp [StableHlo.unaryIndexed_result_read, StableHlo.indexContents_tref_cons, StableHlo.indexContents_tref_empty]
  funext x
  change (_ : BitVec 32) = (_ : BitVec 32)
  revert c
  refine allDec ?_
  sl_kernel_rfl
theorem ent7 (V : Valuation τ sig (Elt F)) : StableHlo.upto (hostOps0 c) V 57 (Proc.devRef .tc main_v37) = fun _ => scal c 7 := by
  after_reads_simp [StableHlo.unaryIndexed_result_read, StableHlo.indexContents_tref_cons, StableHlo.indexContents_tref_empty]
  funext x
  change (_ : BitVec 32) = (_ : BitVec 32)
  revert c
  refine allDec ?_
  sl_kernel_rfl
/-- The table of scalars, as the host leaves it. -/
theorem tab_eq (V : Valuation τ sig (Elt F)) : StableHlo.after (hostOps0 c) V (Proc.devRef .tc main_v38) = scalV (F := F) c := by
  after_reads_simp
  exact tab_cat c _ _ _ _ _ _ _ _ (ent0 c V) (ent1 c V) (ent2 c V) (ent3 c V) (ent4 c V) (ent5 c V) (ent6 c V) (ent7 c V)
end Cert.KernelIdeal.Ring
-- ==== Proof.IRollEq.lean ====
module

public import proofs.«01_k».proof.Proof.IRolled
public import Idealize.ShloMosaic.Lib.Tactic

@[expose] public section

set_option maxRecDepth 1000000

noncomputable section

namespace Cert.KernelIdeal.Ring

open Idealize.ShloMosaic Idealize.ShloMosaic.TcCoe Idealize.SL.Sem
open Cert.KernelIdeal Cert.KernelIdeal.Gen

variable {F : FTy → Type} [FloatOps F]

set_option maxHeartbeats 0 in
/-- The printed body is the rolled one. -/
theorem body_eq : cc0_body (F := F) (Memref.whole cc0_stg0_0) (Memref.isWhole_whole _) (Memref.whole cc0_stg1_0) (Memref.isWhole_whole _) (Memref.whole cc0_stg2_0) (Memref.isWhole_whole _) (Memref.whole main_v39) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 = body := by
  sl_kernel_rfl

end Cert.KernelIdeal.Ring
-- ==== Proof.IRegion.lean ====
/-
  The kernel call as one segment of @main: what it is entered with, its body's obligation, what it leaves.
-/
module

public import proofs.«01_k».proof.Proof.IWork
public import proofs.«01_k».proof.Proof.IScal
public import proofs.«01_k».proof.Proof.IRollEq
public import proofs.«01_k».proof.Proof.Gen.KernelIdeal.Points
public import Idealize.ShloMosaic.Lib.Pipeline.RegionTalk

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig ℕ (Elt F) ℕ UU ℕ

open Idealize.ShloMosaic.Pipeline (Dat BodyObligation)

variable (m : (ℓ : Loc nD τ sig) → Buf (Elt F) ℓ) (c : Dev nD)

/-- The operands, as the memory at launch has them. -/
def inOf : In F := ⟨fun c => m ((c : Thread nD τ).loc main_arg0), fun c => m ((c : Thread nD τ).loc main_arg1)⟩
theorem V1_x : V1 m c main_arg0 = (inOf m).x c := V1_of m c main_arg0 (by decide)
theorem V1_w : V1 m c main_arg1 = (inOf m).w c := V1_of m c main_arg1 (by decide)

/-! ## The invariant before and after the one point -/

def Enter : sProp 𝕄 := iprop((∃ κ, Recs (inOf m) κ ∗ Given c) ∗ ∃ r, prngReg c r)
def Exit : sProp 𝕄 := iprop(Work c ∗ holds outM.view c (res c (inOf m)) ∗ Pipeline.ownSems0 osem c ∗ semVal (cell c smBar) 0 ∗ ∃ r, prngReg c r)

def dat : Dat τ (Elt F) ℕ ℕ UU ℕ cfg0 c where
  A w := V1 m c (Proc.devRef .tc (Pipeline.arrRef spec0 w))
  after w := match w with
    | 0 => fun _ => V1 m c main_v38
    | 1 => fun _ => V1 m c main_arg0
    | 2 => fun _ => V1 m c main_arg1
  Φ t := if t.val = 0 then Enter m c else Exit m c
  q _ := fullShare
  owed t := if t.val = 0 then O c 0 else 0

abbrev pdats : (p : Fin 1) → (c : Dev nD) → Dat τ (Elt F) ℕ ℕ UU ℕ (cfgs p) c := fun _ c => dat m c

theorem owed_first : (dat m c).owed t0_0.castSucc = O c 0 := by
  show (if (t0_0.castSucc : Fin (cfg0.N + 1)).val = 0 then O c 0 else 0) = O c 0; exact if_pos rfl
theorem owed_zero : (dat m c).owed 0 = O c 0 := by
  show (if (0 : Fin (cfg0.N + 1)).val = 0 then O c 0 else 0) = O c 0; exact if_pos rfl
theorem owed_last : (dat m c).owed (Fin.last _) = 0 := by
  show (if (Fin.last cfg0.N).val = 0 then O c 0 else 0) = 0
  rw [Fin.val_last, if_neg (by rw [show cfg0.N = 1 from N_0]; decide)]
theorem Φ_first : (dat m c).Φ t0_0.castSucc = Enter m c := by
  show (if (t0_0.castSucc : Fin (cfg0.N + 1)).val = 0 then Enter m c else Exit m c) = _; exact if_pos rfl
theorem Φ_zero : (dat m c).Φ 0 = Enter m c := by
  show (if (0 : Fin (cfg0.N + 1)).val = 0 then Enter m c else Exit m c) = _; exact if_pos rfl
theorem Φ_last : (dat m c).Φ (Fin.last _) = Exit m c := by
  show (if (Fin.last cfg0.N).val = 0 then Enter m c else Exit m c) = Exit m c
  rw [Fin.val_last, if_neg (by rw [show cfg0.N = 1 from N_0]; decide)]

theorem owes_in : (dat m c).owesAt 0 t0_0.castSucc ⊢ (ow c 0 : sProp 𝕄) := by
  unfold Dat.owesAt Pipeline.owesWithin ow
  rw [owed_first]
  iintro ⟨%W, -, H⟩
  iexists W
  iexact H
theorem owes_out : (ow c 131 : sProp 𝕄) ⊢ (dat m c).owesAt 0 t0_0.succ := by
  unfold Dat.owesAt Pipeline.owesWithin Dat.bound ow
  rw [show (dat m c).owed t0_0.succ = 0 from owed_last m c, O_end]
  iintro ⟨%W, H⟩
  iexists W
  isplitr
  · ipureintro; exact fun _ _ => Or.inl trivial
  iexact H

/-! ## The operands in their staging buffers -/

theorem owns_whole (b : Ref sig .tc) (x : b.ty.Contents (Elt F)) :
    (owns c (Memref.whole b) fullShare x : sProp 𝕄) = iprop(((c : Thread nD τ).loc b) ↦{fullShare} x) := by
  refine equiv_iff.mp ⟨?_, ?_⟩
  · unfold owns
    refine BIBase.Entails.trans (?_ : (_ : sProp 𝕄) ⊢ _) BIBase.Entails.refl
    iintro ⟨%f, %h, H⟩
    ihave H := (show (((Memref.whole b).view.loc (c : Thread nD τ)) ↦[(Memref.whole b).view.set]{fullShare} f : sProp 𝕄) ⊢ iprop(((c : Thread nD τ).loc b) ↦{fullShare} x) from by
      rw [show (Memref.whole b).view.set = Finset.univ from View.set_whole b, show f = x from h]) $$ H
    iexact H
  · unfold owns
    refine BIBase.Entails.trans (?_ : (_ : sProp 𝕄) ⊢ _) BIBase.Entails.refl
    iintro H
    iexists x
    isplitr; · ipureintro; rfl
    ihave H := (show (((c : Thread nD τ).loc b) ↦{fullShare} x : sProp 𝕄) ⊢ iprop(((Memref.whole b).view.loc (c : Thread nD τ)) ↦[(Memref.whole b).view.set]{fullShare} x) from by
      rw [show (Memref.whole b).view.set = Finset.univ from View.set_whole b]) $$ H
    iexact H

theorem before0 (d) : (dat m c).before 0 t0_0 d = V1 m c main_v38 := by
  rw [(dat m c).before_fetched 0 t0_0 (fetch0_0 t0_0) d]
  unfold Dat.fetched Dat.blockOf
  funext j
  show V1 m c main_v38 (((cfg0.win 0).blk t0_0).view.emb j) = V1 m c main_v38 j
  congr 1
  funext a
  apply Fin.ext
  show 0 * _ + 1 * (j a : ℕ) = j a
  omega
theorem before1 (d) : (dat m c).before 1 t0_0 d = V1 m c main_arg0 := by
  rw [(dat m c).before_fetched 1 t0_0 (fetch0_1 t0_0) d]
  unfold Dat.fetched Dat.blockOf
  funext j
  show V1 m c main_arg0 (((cfg0.win 1).blk t0_0).view.emb j) = V1 m c main_arg0 j
  congr 1
  funext a
  apply Fin.ext
  show 0 * _ + 1 * (j a : ℕ) = j a
  omega
theorem before2 (d) : (dat m c).before 2 t0_0 d = V1 m c main_arg1 := by
  rw [(dat m c).before_fetched 2 t0_0 (fetch0_2 t0_0) d]
  unfold Dat.fetched Dat.blockOf
  funext j
  show V1 m c main_arg1 (((cfg0.win 2).blk t0_0).view.emb j) = V1 m c main_arg1 j
  congr 1
  funext a
  apply Fin.ext
  show 0 * _ + 1 * (j a : ℕ) = j a
  omega

theorem sp_eq : (owns c (Memref.whole cc0_stg0_0) fullShare (V1 m c main_v38) : sProp 𝕄) = scalPts c := by
  rw [owns_whole, show V1 m c main_v38 = scalV (F := F) c from tab_eq c (V0 m c)]; rfl
theorem xp_eq : (owns c (Memref.whole cc0_stg1_0) fullShare (V1 m c main_arg0) : sProp 𝕄) = xPts c (inOf m) := by
  rw [owns_whole, V1_x]; rfl
theorem wp_eq : (owns c (Memref.whole cc0_stg2_0) fullShare (V1 m c main_arg1) : sProp 𝕄) = wPts c (inOf m) := by
  rw [owns_whole, V1_w]; rfl

theorem prog_eq : defs₀ (F := F) .tc cfg0.body (cfg0.bodyArgs t0_0 (cfg0.slots t0_0)) = body := by
  refine Eq.trans ?_ body_eq
  rfl

/-! ## The body -/

theorem wpc_fupd (p : P F PUnit) (Q : PUnit → sProp 𝕄) : wpc (F := F) c p (fun a => iprop(|={Set.univ}=> Q a)) ⊢ wpc c p Q := wp_fupd _ _ _ p Q

theorem run_ok (κ : GSem nD τ sig → ℕ) : iprop(Recs (inOf m) κ ∗ ops c (inOf m) ∗ Given c ∗ ow c 0)
    ⊢ wpc (F := F) c body (fun _ => iprop(ops c (inOf m) ∗ (Work c ∗ holds outM.view c (res c (inOf m)) ∗ Pipeline.ownSems0 osem c ∗ semVal (cell c smBar) 0) ∗ ow c 131)) := by
  refine BIBase.Entails.trans ?_ (wpc_fupd c _ _)
  iintro ⟨#HR, Ho, HG, HO⟩
  ihave HP := (pre_of c (inOf m)) $$ [Ho HG HO]
  · isplitl [Ho]; · iexact Ho
    isplitl [HG] <;> iassumption
  iapply (body_ok c (inOf m) κ (fun _ => iprop(|={Set.univ}=> (ops c (inOf m) ∗ (Work c ∗ holds outM.view c (res c (inOf m)) ∗ Pipeline.ownSems0 osem c ∗ semVal (cell c smBar) 0) ∗ ow c 131)))) $$ [HP]
  · isplitr; · iexact HR
    iexact HP
  iintro HP
  ihave ⟨Ho, HL, HO⟩ := (of_post c (inOf m)) $$ HP
  unfold Left
  icases HL with ⟨HW, Hr, HA, HB⟩
  imod (close_all c (inOf m) κ) $$ [HA] with HA
  · isplitr; · iexact HR
    iexact HA
  imod (close1 c (inOf m) κ smBar (by decide) 1 (by decide)) $$ [HB] with HB
  · isplitr; · iexact HR
    iexact HB
  imodintro
  isplitl [Ho]; · iexact Ho
  isplitr [HO]
  · isplitl [HW]; · iexact HW
    isplitl [Hr]; · iexact Hr
    isplitl [HA] <;> iassumption
  iexact HO

theorem in0 : iprop(∃ d, owns c ((cfg0.win 0).stage (cfg0.slots t0_0 0)) fullShare ((dat m c).before 0 t0_0 d)) ⊢ (scalPts c : sProp 𝕄) := by
  iintro ⟨%d, H⟩
  rw [before0 m c d]
  iapply (Entails.of_eq (sp_eq m c)) $$ H
theorem in1 : iprop(∃ d, owns c ((cfg0.win 1).stage (cfg0.slots t0_0 1)) fullShare ((dat m c).before 1 t0_0 d)) ⊢ (xPts c (inOf m) : sProp 𝕄) := by
  iintro ⟨%d, H⟩
  rw [before1 m c d]
  iapply (Entails.of_eq (xp_eq m c)) $$ H
theorem in2 : iprop(∃ d, owns c ((cfg0.win 2).stage (cfg0.slots t0_0 2)) fullShare ((dat m c).before 2 t0_0 d)) ⊢ (wPts c (inOf m) : sProp 𝕄) := by
  iintro ⟨%d, H⟩
  rw [before2 m c d]
  iapply (Entails.of_eq (wp_eq m c)) $$ H
theorem out0 : (scalPts c : sProp 𝕄) ⊢ owns c ((cfg0.win 0).stage (cfg0.slots t0_0 0)) fullShare ((dat m c).after 0 t0_0) := Entails.of_eq (sp_eq m c).symm
theorem out1 : (xPts c (inOf m) : sProp 𝕄) ⊢ owns c ((cfg0.win 1).stage (cfg0.slots t0_0 1)) fullShare ((dat m c).after 1 t0_0) := Entails.of_eq (xp_eq m c).symm
theorem out2 : (wPts c (inOf m) : sProp 𝕄) ⊢ owns c ((cfg0.win 2).stage (cfg0.slots t0_0 2)) fullShare ((dat m c).after 2 t0_0) := Entails.of_eq (wp_eq m c).symm

theorem body_obl : BodyObligation (dat m c) defs₀ 𝒱₀ 0 Set.univ := fun t => by
  obtain rfl := fin_N0 t
  rw [bigSep_W0, bigSep_W0, prog_eq, Φ_first, show (dat m c).Φ t0_0.succ = Exit m c from Φ_last m c]
  dsimp only
  unfold Enter Exit
  iintro ⟨⟨⟨%κ, #HR, HG⟩, Hp⟩, HO, Hs, Hx, Hw⟩
  ihave HO := (owes_in m c) $$ HO
  ihave Hs := (in0 m c) $$ Hs
  ihave Hx := (in1 m c) $$ Hx
  ihave Hw := (in2 m c) $$ Hw
  ihave H := (run_ok m c κ) $$ [HG HO Hs Hx Hw]
  · isplitr; · iexact HR
    isplitl [Hs Hx Hw]
    · unfold ops
      isplitl [Hs]; · iexact Hs
      isplitl [Hx] <;> iassumption
    isplitl [HG] <;> iassumption
  unfold wpc
  iapply (wp_wand_r _ _ _)
  isplitl [H]; · iexact H
  iintro %u ⟨Ho, ⟨HW, Hr, HA, HB⟩, HO⟩
  unfold ops
  icases Ho with ⟨Hs, Hx, Hw⟩
  isplitl [HW Hr HA HB Hp]
  · isplitl [HW]; · iexact HW
    isplitl [Hr]; · iexact Hr
    isplitl [HA]; · iexact HA
    isplitl [HB] <;> iassumption
  isplitl [HO]; · iapply (owes_out m c); iexact HO
  isplitl [Hs]; · iapply (out0 m c) $$ Hs
  isplitl [Hx]; · iapply (out1 m c) $$ Hx
  iapply (out2 m c) $$ Hw

/-! ## The segment -/

/-- What a core carries from the launch to the call. -/
def Kept : sProp 𝕄 :=
  iprop(∃ κ, Recs (inOf m) κ ∗ bigSep Finset.univ (fun i : Fin 18 => openTok ER (cell c (osem i))) ∗ stoks c ∗ at1 (cell c smBar) 0 ∗ toks c 0 ∗ todo (inc c) 0)
/-- The same with its cells open. -/
def Opened : sProp 𝕄 :=
  iprop(∃ κ, Recs (inOf m) κ ∗ Ats c (fun _ => 0) ∗ stoks c ∗ at1 (cell c smBar) 0 ∗ toks c 0 ∗ todo (inc c) 0)
/-- What it carries on. -/
def Done : sProp 𝕄 := semVal (cell c smBar) 0

theorem h_open : iprop(Kept m c ∗ Pipeline.ownSems0 osem c ∗ levAts L lv) ⊢ (|={Set.univ}=> Opened m c : sProp 𝕄) := by
  unfold Kept Opened
  iintro ⟨⟨%κ, #HR, Ht, Hs, HB, HT, HI⟩, Ho, -⟩
  imod (open_all c (inOf m) κ) $$ [Ht Ho] with HA
  · isplitr; · iexact HR
    isplitl [Ht] <;> iassumption
  imodintro
  iexists κ
  isplitr; · iexact HR
  isplitl [HA]; · iexact HA
  isplitl [Hs]; · iexact Hs
  isplitl [HB]; · iexact HB
  isplitl [HT] <;> iassumption

/-- The buffer the body addresses itself: the output's. -/
abbrev outB : Finset (DevRef τ sig) := {Proc.devRef .tc main_v39}
/-- The buffers after the call. -/
abbrev Vout : Valuation τ sig (Elt F) := Function.update (V1 m c) (Proc.devRef .tc main_v39) (res c (inOf m))

theorem held_out (V : Valuation τ sig (Elt F)) :
    (StableHlo.held (c.tc : Thread nD τ) outB V : sProp 𝕄) = iprop(((c : Thread nD τ).loc main_v39) ↦{fullShare} V main_v39) := by
  unfold StableHlo.held
  rw [bigSep_singleton]
theorem h_in : iprop(Pipeline.scopedRest spec0 c ∗ (∃ r, prngReg c r) ∗ StableHlo.held (c.tc : Thread nD τ) outB (V1 m c) ∗ Opened m c) ⊢ (dat m c).Φ 0 := by
  rw [Φ_zero, scoped_scr, held_out]
  unfold Enter Given Opened
  iintro ⟨Hs, Hp, Ho, ⟨%κ, #HR, HA, Ht, HB, HT, HI⟩⟩
  isplitr [Hp]
  · iexists κ
    isplitr; · iexact HR
    isplitl [Hs]; · iapply (scr_work c) $$ Hs
    isplitl [Ho]
    · iapply (Entails.of_eq (any_whole (F := F) c main_v39).symm)
      iexists _
      iexact Ho
    isplitl [Ht]; · iexact Ht
    isplitl [HA]; · iexact HA
    isplitl [HB]; · iexact HB
    isplitl [HT] <;> iassumption
  iexact Hp
theorem h_out : (dat m c).Φ (Fin.last cfg0.N)
    ⊢ iprop(Pipeline.scopedRest spec0 c ∗ (∃ r, prngReg c r) ∗ StableHlo.held (c.tc : Thread nD τ) outB (Vout m c) ∗ Pipeline.ownSems0 osem c ∗ Done c) := by
  rw [Φ_last, scoped_scr, held_out, show Vout m c main_v39 = res c (inOf m) from Function.update_self _ _ _]
  unfold Exit Done
  iintro ⟨HW, Hr, Ho, HB, Hp⟩
  isplitl [HW]; · iapply (work_scr c) $$ HW
  isplitl [Hp]; · iexact Hp
  isplitl [Hr]
  · iapply (Entails.of_eq (owns_whole c main_v39 (res c (inOf m))))
    ihave Hr := (show (holds outM.view c (res c (inOf m)) : sProp 𝕄) ⊢ owns c (Memref.whole main_v39) fullShare (res c (inOf m)) from .refl) $$ Hr
    iexact Hr
  isplitl [Ho] <;> iassumption

theorem cut (t : Fin (cfg0.N + 1)) (g : GSem nD τ sig) (i : ℕ) (h : 0 < (dat m c).owed t g i) : i ∈ L g ∧ (0 : ℕ) < lv g i := by
  have e : (dat m c).owed t = if t.val = 0 then O c 0 else 0 := rfl
  rw [e] at h
  split at h
  · obtain ⟨j, -, hj, rfl, rfl⟩ := O_pos h
    rw [L_tc]
    have := lvl_kd j hj
    have h2 : 0 < (kd j).lvl ∧ (kd j).lvl < 100 := by rw [this]; split_ifs <;> omega
    exact ⟨Finset.mem_range.mpr h2.2, h2.1⟩
  · exact absurd h (Nat.lt_irrefl 0)

/-- The unscoped buffers that are no window's array. -/
abbrev restB : Finset (DevRef τ sig) := Pipeline.ucRefs τ sig \ Pipeline.arrRefs (τ := τ) spec0
theorem out_rest : outB ⊆ restB := by
  intro b hb
  rw [Finset.mem_singleton.mp hb]
  decide
theorem arr_ne (w : Fin 3) : (Proc.devRef .tc (Pipeline.arrRef spec0 w) : DevRef τ sig) ≠ Proc.devRef .tc main_v39 := by
  revert w; decide
theorem no_out (w : Fin 3) : (win0 w).isOut = false := by revert w; decide
theorem arr_end (w : Fin 3) : (dat m c).arrAt w cfg0.N = Vout m c (Proc.devRef .tc (Pipeline.arrRef spec0 w)) := by
  rw [(dat m c).arrAt_in w (no_out w) cfg0.N]
  exact Eq.trans (b := V1 m c (Proc.devRef .tc (Pipeline.arrRef spec0 w))) rfl (Function.update_of_ne (arr_ne w) (res c (inOf m)) (V1 m c)).symm

set_option backward.isDefEq.respectTransparency.types false in
def region : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts spec0 osem)
    outB restB out_rest launch0.toP rfl (fun c => (body_obl m c).loose)
    (fun _ => 0) (fun c => O c 0) (fun c => (owed_zero m c).trans (zero_add _).symm) (owed_last m) (fun _ => rfl) (fun _ w => by fin_cases w <;> rfl)
    (V1 m) (Vout m) (fun c b hb => Function.update_of_ne (fun e => (Finset.mem_sdiff.mp hb).2 (Finset.mem_singleton.mpr e)) _ _)
    (Kept m) Done (Opened m) Done (h_open m) (h_in m) (h_out m)
    (fun c => by iintro H; imodintro; iexact H)
    (fun _ => 0)
    ⟨fun c w s => by rw [show L ((c : Thread nD τ), .dma (((Pipeline.pin (pcfgs (F := F)) adm 0).win w).sem s)) = Finset.range 100 from L_tc c _]; decide,
      fun c w s => le_rfl, fun c t g i h => cut m c t g i h⟩
    (fun _ => iprop(emp))
    (fun c w => rfl)
    (fun c w => arr_end m c w)

end Cert.KernelIdeal.Ring
-- ==== Proof.ILaunch.lean ====
/-
  The launch: every cell's invariant, every token handed to the core that pays with it, every credit to the core that waits
  with it.
-/
module

public import proofs.«01_k».proof.Proof.IRegion

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig ℕ (Elt F) ℕ UU ℕ

variable (m : (ℓ : Loc nD τ sig) → Buf (Elt F) ℓ) (c : Dev nD)

/-! ## Tokens -/

/-- One duty of a core's cells: a message it receives, its own end of a message it sends (for the barrier's, an entry no one
    uses), a copy to the output. -/
abbrev Duty : Type := Fin 131 ⊕ (Fin 131 ⊕ (Fin 2 × Fin 32))
abbrev Key : Type := SemLoc sig × ℕ × Fin 2
def inKey (m : Msg) : Key := (m.sm, m.rd, m.du)
def outKey : Msg → Key
  | .bar b => (smBar, 1, b)
  | m => (m.osm, m.ord, 0)
def stKey (p : Fin 2 × Fin 32) : Key := (smO p.1 (par p.2.val), p.2.val / 2, 0)
def key : Duty → Key
  | .inl j => inKey (kd j.val)
  | .inr (.inl j) => outKey (kd j.val)
  | .inr (.inr p) => stKey p

def num : Duty → ℕ
  | .inl j => j.val
  | .inr (.inl j) => 131 + j.val
  | .inr (.inr p) => 262 + (p.1.val + 2 * p.2.val)
def stepOf (b p : Fin 2) (r : ℕ) : ℕ := if r < base p then 2 + 2 * (2 * r + p.val) + b.val else 69 + 2 * (2 * (r - base p) + p.val) + b.val
/-- A duty's number, read off its key. -/
def unkey (k : Key) : ℕ :=
  match role k.1 with
  | .bar => 131 * k.2.1 + k.2.2.val
  | .rcv b p => stepOf b p k.2.1
  | .snd b p => 131 + stepOf b p k.2.1
  | .bfR j => 64 + j.val
  | .bfS => 131 + (64 + k.2.1)
  | .sto b p => 262 + (b.val + 2 * (2 * k.2.1 + p.val))
  | .other => 0
theorem unkey_in : ∀ j : Fin 131, unkey (inKey (kd j.val)) = j.val := by decide +kernel
theorem unkey_out : ∀ j : Fin 131, unkey (outKey (kd j.val)) = 131 + j.val := by decide +kernel
theorem unkey_st : ∀ p : Fin 2 × Fin 32, unkey (stKey p) = 262 + (p.1.val + 2 * p.2.val) := by decide +kernel
theorem unkey_key : ∀ d : Duty, unkey (key d) = num d
  | .inl j => unkey_in j
  | .inr (.inl j) => unkey_out j
  | .inr (.inr p) => unkey_st p
theorem num_inj : Function.Injective num := by
  rintro (⟨a, ha⟩ | ⟨a, ha⟩ | ⟨⟨a, ha⟩, a', ha'⟩) (⟨b, hb⟩ | ⟨b, hb⟩ | ⟨⟨b, hb⟩, b', hb'⟩) h <;> simp only [num] at h
  · obtain rfl : a = b := h; rfl
  · omega
  · omega
  · omega
  · obtain rfl : a = b := by omega
    rfl
  · omega
  · omega
  · omega
  · obtain rfl : a = b := by omega
    obtain rfl : a' = b' := by omega
    rfl
theorem key_inj : Function.Injective key := fun a b h => num_inj (by rw [← unkey_key, ← unkey_key, h])

def tokAt (x : Dev nD × Duty) : GSem nD τ sig × ℕ × Fin 2 := (cell x.1 (key x.2).1, (key x.2).2)
theorem tokAt_inj : Function.Injective tokAt := fun a b h => by
  have h1 : a.1 = b.1 := congrArg (fun t : GSem nD τ sig × ℕ × Fin 2 => t.1.1.1) h
  have h2 : (key a.2).1 = (key b.2).1 := congrArg (fun t : GSem nD τ sig × ℕ × Fin 2 => t.1.2) h
  have h3 : (key a.2).2 = (key b.2).2 := congrArg (fun t : GSem nD τ sig × ℕ × Fin 2 => t.2) h
  exact Prod.ext h1 (key_inj (Prod.ext h2 h3))
def allToks : Finset (GSem nD τ sig × ℕ × Fin 2) := Finset.univ.image tokAt

theorem dst_inj (k : Msg) : Function.Injective (fun d : Dev nD => k.dst d) := by
  cases k with
  | bar b => exact (nbE (ob b)).injective
  | rs b s => exact (nbE b).injective
  | bf k => exact (ptE k).injective
  | ag b t => exact (nbE b).injective
/-- The receivers of a message, over its senders. -/
def dstE (k : Msg) : Dev nD ≃ Dev nD := Equiv.ofBijective _ (Finite.injective_iff_bijective.mp (dst_inj k))
theorem dstE_apply (k : Msg) (d : Dev nD) : dstE k d = k.dst d := rfl

/-- Over cores and messages, the receivers are the cores. -/
def sendE : Dev nD × Fin 131 ≃ Dev nD × Fin 131 where
  toFun x := (dstE (kd x.2.val) x.1, x.2)
  invFun x := ((dstE (kd x.2.val)).symm x.1, x.2)
  left_inv x := by simp
  right_inv x := by simp

theorem todo_fin (Φ : Msg → sProp 𝕄) : bigSep Finset.univ (fun j : Fin 131 => Φ (kd j.val)) = todo Φ 0 := by
  unfold todo
  rw [← bigSep_range_fin 131 (fun j => Φ (kd j)), Finset.range_eq_Ico]

theorem out_tok (k : Msg) : (dutyTok ER (cell c (outKey k).1) (outKey k).2.1 (outKey k).2.2 : sProp 𝕄) ⊢ otok c k := by
  cases k with
  | bar b => unfold otok; iintro -; iempintro
  | rs b s => exact .refl
  | bf k => exact .refl
  | ag b t => exact .refl

theorem deal : bigSep allToks (fun x => (dutyTok ER x.1 x.2.1 x.2.2 : sProp 𝕄)) ⊢ bigSep Finset.univ (fun c : Dev nD => iprop(toks c 0 ∗ stoks c)) := by
  have e1 : bigSep allToks (fun x => (dutyTok ER x.1 x.2.1 x.2.2 : sProp 𝕄))
      = bigSep Finset.univ (fun c : Dev nD => iprop(bigSep Finset.univ (fun j : Fin 131 => dutyTok ER (cell c (kd j.val).sm) (kd j.val).rd (kd j.val).du)
          ∗ (bigSep Finset.univ (fun j : Fin 131 => dutyTok ER (cell c (outKey (kd j.val)).1) (outKey (kd j.val)).2.1 (outKey (kd j.val)).2.2) ∗ stoks c))) := by
    unfold allToks
    rw [bigSep_image_of_injOn tokAt_inj.injOn, bigSep_univ_prod]
    refine bigSep_congr fun c _ => ?_
    rw [bigSep_univ_sum, bigSep_univ_sum]
    rfl
  have e2 : bigSep Finset.univ (fun c : Dev nD => (bigSep Finset.univ (fun j : Fin 131 => dutyTok ER (cell c (kd j.val).sm) (kd j.val).rd (kd j.val).du) : sProp 𝕄))
      = bigSep Finset.univ (fun c : Dev nD => todo (tok c) 0) := by
    rw [← bigSep_univ_prod (fun x : Dev nD × Fin 131 => (dutyTok ER (cell x.1 (kd x.2.val).sm) (kd x.2.val).rd (kd x.2.val).du : sProp 𝕄)), bigSep_univ_equiv sendE, bigSep_univ_prod]
    exact bigSep_congr fun c _ => todo_fin (tok c)
  have e3 : ∀ c : Dev nD, (bigSep Finset.univ (fun j : Fin 131 => dutyTok ER (cell c (outKey (kd j.val)).1) (outKey (kd j.val)).2.1 (outKey (kd j.val)).2.2) : sProp 𝕄) ⊢ todo (otok c) 0 := fun c => by
    rw [← todo_fin]
    have h : (bigSep Finset.univ (fun j : Fin 131 => dutyTok ER (cell c (outKey (kd j.val)).1) (outKey (kd j.val)).2.1 (outKey (kd j.val)).2.2) : sProp 𝕄)
        ⊢ bigSep Finset.univ (fun j : Fin 131 => otok c (kd j.val)) := bigSep_mono fun j _ => out_tok c (kd j.val)
    exact h
  rw [e1, bigSep_sep', e2]
  have e4 : iprop(bigSep Finset.univ (fun c : Dev nD => todo (tok c) 0)
      ∗ bigSep Finset.univ (fun c : Dev nD => iprop(bigSep Finset.univ (fun j : Fin 131 => dutyTok ER (cell c (outKey (kd j.val)).1) (outKey (kd j.val)).2.1 (outKey (kd j.val)).2.2) ∗ stoks c)))
      = (bigSep Finset.univ (fun c : Dev nD => iprop(todo (tok c) 0 ∗ (bigSep Finset.univ (fun j : Fin 131 => dutyTok ER (cell c (outKey (kd j.val)).1) (outKey (kd j.val)).2.1 (outKey (kd j.val)).2.2) ∗ stoks c))) : sProp 𝕄) :=
    (bigSep_sep' Finset.univ _ _).symm
  rw [e4]
  have e5 : ∀ c : Dev nD, iprop(todo (tok c) 0 ∗ (bigSep Finset.univ (fun j : Fin 131 => dutyTok ER (cell c (outKey (kd j.val)).1) (outKey (kd j.val)).2.1 (outKey (kd j.val)).2.2) ∗ stoks c))
      ⊢ (iprop(toks c 0 ∗ stoks c) : sProp 𝕄) := fun c => by
    unfold toks
    iintro ⟨H1, H2, H3⟩
    isplitr [H3]
    · isplitl [H1]; · iexact H1
      iapply (e3 c) $$ H2
    iexact H3
  exact bigSep_mono fun c _ => e5 c

/-! ## Credits -/

theorem tl_ne {c d : Dev nD} (k : Msg) (sm : SemLoc sig) (h : d ≠ c) : tl d k (cell c sm) = 0 :=
  tallyAt_ne_cell (fun e => h (congrArg (fun g : GSem nD τ sig => g.1.1) e).symm) _ _
theorem owed_at (sm : SemLoc sig) : (∑ d : Dev nD, O d 0) (cell c sm) = (∑ j ∈ Finset.Ico 0 131, tl c (kd j)) (cell c sm) := by
  unfold O
  rw [Finset.sum_comm, Finset.sum_apply, Finset.sum_apply]
  refine Finset.sum_congr rfl fun j _ => ?_
  have e : (∑ d : Dev nD, tl ((kd j).dst d) (kd j)) = ∑ d : Dev nD, tl d (kd j) := Equiv.sum_comp (dstE (kd j)) (fun d => tl d (kd j))
  rw [e, Finset.sum_apply]
  exact Finset.sum_eq_single c (fun d _ h => tl_ne (kd j) sm h) (fun h => absurd (Finset.mem_univ c) h)
theorem credits : (Pipeline.launchCred (fun d => O d 0) c : sProp 𝕄) = todo (inc c) 0 := by
  have h : (todo (inc c) 0 : sProp 𝕄) = cred (∑ j ∈ Finset.Ico 0 131, tl c (kd j)) := by
    rw [Pipeline.cred_finsetSum]; rfl
  rw [h, Pipeline.cred_core (c := c)]
  · unfold Pipeline.launchCred
    refine bigSep_congr fun sm _ => ?_
    rw [Pipeline.tallyOn_launchCredit_owing]
    exact congrArg (fun t => cred (tallyOn (cell c sm) t)) (owed_at c sm)
  · intro g hg
    by_contra hc
    refine hg ?_
    rw [Finset.sum_apply]
    exact Finset.sum_eq_zero fun j _ => tallyAt_ne_cell (fun e => hc (by rw [e])) _ _

theorem split_all {Φ Ψ : Dev nD → sProp 𝕄} : (bigSep Finset.univ fun c => iprop(Φ c ∗ Ψ c)) ⊢ iprop(bigSep Finset.univ Φ ∗ bigSep Finset.univ Ψ) :=
  Entails.of_eq (bigSep_sep' Finset.univ Φ Ψ)
theorem join_all {Φ Ψ : Dev nD → sProp 𝕄} : iprop(bigSep Finset.univ Φ ∗ bigSep Finset.univ Ψ) ⊢ (bigSep Finset.univ fun c => iprop(Φ c ∗ Ψ c)) :=
  Entails.of_eq (bigSep_sep' Finset.univ Φ Ψ).symm

/-! ## The launch -/

abbrev EP : Emb (UR sig nD τ) (MT nD τ sig ℕ (Elt F) ℕ UU ℕ) := embL
/-- The launch element. -/
def u₀ : UU :=
  (initOf (Pipeline.cells cfgs cellOf_inj) (Pipeline.launchToks cfgs cellOf_inj), launchOf barCells scCells allToks)
/-- The protocol's part of it, kept on core 0 until everything is dealt out at once. -/
def G (c : Dev nD) : sProp 𝕄 := if c = 0 then BI.own (ER (launchOf barCells scCells allToks)) else iprop(emp)
theorem G_all : bigSep Finset.univ (G (F := F)) = BI.own (ER (launchOf barCells scCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem unscoped_bar : ∀ sm : SemLoc sig, sm.isScoped .tc = false → sm = smBar := by decide
theorem sems0_eq : (unscopedSems0 c : sProp 𝕄) = semVal (cell c smBar) 0 := by
  unfold unscopedSems0
  rw [show (Finset.univ.filter fun sm : SemLoc sig => ¬ sm.isScoped .tc) = {smBar} from by decide, BI.bigSep_singleton]

theorem cells_disj : Disjoint (barCells : Finset (GSem nD τ sig)) scCells := by
  rw [Finset.disjoint_left]
  intro g h1 h2
  obtain ⟨d, -, rfl⟩ := Finset.mem_image.mp h1
  obtain ⟨p, -, h⟩ := Finset.mem_image.mp h2
  exact (show ∀ i : Fin 18, osem i ≠ smBar by decide) p.2 (congrArg Prod.snd h)
theorem bar_inj : Function.Injective (fun d : Dev nD => cell d smBar) := fun a b h => congrArg (fun g : GSem nD τ sig => g.1.1) h
theorem sc_inj : Function.Injective (fun p : Dev nD × Fin 18 => cell p.1 (osem p.2)) := fun a b h =>
  Prod.ext (congrArg (fun g : GSem nD τ sig => g.1.1) h) (osem_inj (congrArg Prod.snd h))
theorem bar_all (Φ : GSem nD τ sig → sProp 𝕄) : bigSep barCells Φ = bigSep Finset.univ (fun d : Dev nD => Φ (cell d smBar)) := by
  unfold barCells; exact bigSep_image_of_injOn bar_inj.injOn Φ
theorem sc_all (Φ : GSem nD τ sig → sProp 𝕄) : bigSep scCells Φ = bigSep Finset.univ (fun d : Dev nD => bigSep Finset.univ fun i : Fin 18 => Φ (cell d (osem i))) := by
  unfold scCells; rw [bigSep_image_of_injOn sc_inj.injOn Φ, bigSep_univ_prod]

/-- What rides beside the buffers up to the call. -/
def Ride (c : Dev nD) : sProp 𝕄 := iprop(Kept m c ∗ (∃ r, prngReg c r) ∗ ∃ W, owes (c : Thread nD τ) (O c 0) W)

/-- What of it is no part of the protocol. -/
def Plain (c : Dev nD) : sProp 𝕄 := iprop(todo (inc c) 0 ∗ (∃ r, prngReg c r) ∗ ∃ W, owes (c : Thread nD τ) (O c 0) W)
theorem ride_of (κ : GSem nD τ sig → ℕ) :
    iprop(Recs (inOf m) κ ∗ (Plain c ∗ atPos ER (cell c smBar) 0 ∅ 0 ∗ bigSep Finset.univ (fun i : Fin 18 => openTok ER (cell c (osem i))) ∗ (toks c 0 ∗ stoks c))) ⊢ Ride m c := by
  unfold Plain Ride Kept at1
  iintro ⟨#HR, ⟨HI, Hp, HO⟩, HA, Ho, HT, HS⟩
  isplitr [Hp HO]
  · iexists κ
    isplitr; · iexact HR
    isplitl [Ho]; · iexact Ho
    isplitl [HS]; · iexact HS
    isplitl [HA]
    · isplitl [HA]; · iexact HA
      iapply (Recs_bar (inOf m) κ c); iexact HR
    isplitl [HT] <;> iassumption
  isplitl [Hp] <;> iassumption

theorem init (ρ : Dev nD → PrngReg) :
    iprop((bigSep Finset.univ fun c : Dev nD => iprop(unscopedSems0 c ∗ owes (c : Thread nD τ) (O c 0) ∅ ∗ Pipeline.launchCred (fun d => O d 0) c ∗ prngReg c (ρ c) ∗ G c)) ∗ levAts L lv)
      ⊢ (|={Set.univ}=> bigSep Finset.univ (Ride m) : sProp 𝕄) := by
  have hcore : ∀ c : Dev nD, iprop(unscopedSems0 c ∗ owes (c : Thread nD τ) (O c 0) ∅ ∗ Pipeline.launchCred (fun d => O d 0) c ∗ prngReg c (ρ c) ∗ G c)
      ⊢ (iprop(Plain c ∗ (semVal (cell c smBar) 0 ∗ G c)) : sProp 𝕄) := fun c => by
    rw [sems0_eq, credits]
    unfold Plain
    iintro ⟨Hs, HO, Hc, Hp, HG⟩
    isplitr [Hs HG]
    · isplitl [Hc]; · iexact Hc
      isplitl [Hp]; · iexists (ρ c); iexact Hp
      iexists ∅; iexact HO
    isplitl [Hs] <;> iassumption
  iintro ⟨H, #HL⟩
  ihave H := (show (bigSep Finset.univ fun c : Dev nD => iprop(unscopedSems0 c ∗ owes (c : Thread nD τ) (O c 0) ∅ ∗ Pipeline.launchCred (fun d => O d 0) c ∗ prngReg c (ρ c) ∗ G c))
      ⊢ (bigSep Finset.univ fun c : Dev nD => iprop(Plain c ∗ (semVal (cell c smBar) 0 ∗ G c)) : sProp 𝕄) from bigSep_mono fun c _ => hcore c) $$ H
  ihave H := split_all $$ H
  icases H with ⟨HP, H⟩
  ihave H := split_all $$ H
  icases H with ⟨Hv, HG⟩
  ihave Hv := (Entails.of_eq (bar_all (F := F) (fun g => semVal g 0)).symm) $$ Hv
  ihave HG := (Entails.of_eq (G_all (F := F))) $$ HG
  imod (Rounds.fund_launch ER (Rd (inOf m)) cells_disj (fun g _ h => h) allToks) $$ [Hv HG] with ⟨%κ, -, #Hinv, #Hr, Hat, Hopen, Htok⟩
  · isplitl [Hv] <;> iassumption
  imodintro
  ihave Hat := (Entails.of_eq (bar_all (F := F) (fun g => atPos ER g 0 ∅ 0))) $$ Hat
  ihave Hopen := (Entails.of_eq (sc_all (F := F) (fun g => openTok ER g))) $$ Hopen
  ihave Htok := (deal (F := F)) $$ Htok
  iapply (bigSep_with_persistent (R := Recs (inOf m) κ)
    (Φ := fun c : Dev nD => iprop(Plain c ∗ atPos ER (cell c smBar) 0 ∅ 0 ∗ bigSep Finset.univ (fun i : Fin 18 => openTok ER (cell c (osem i))) ∗ (toks c 0 ∗ stoks c))) fun c _ => ride_of m c κ)
  isplitr
  · unfold Recs
    isplitr; · iexact Hinv
    isplitr; · iexact Hr
    iexact HL
  iapply join_all; isplitl [HP]; · iexact HP
  iapply join_all; isplitl [Hat]; · iexact Hat
  iapply join_all; isplitl [Hopen]; · iexact Hopen
  iexact Htok

end Cert.KernelIdeal.Ring
-- ==== Proof.IRun.lean ====
/-
  The run of @main: from any launch it ends on every core with the arguments as launched, the output holding the core's
  result, and every semaphore at zero.
-/
module

public import proofs.«01_k».proof.Proof.ILaunch
public import proofs.«01_k».proof.Proof.Gen.KernelIdeal.Regions

@[expose] public section

set_option maxRecDepth 16384

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
local notation "𝕄" => MT nD τ sig ℕ (Elt F) ℕ UU ℕ

variable (m : (ℓ : Loc nD τ sig) → Buf (Elt F) ℓ) (c : Dev nD)

/-- What rides beside the buffers, before and after the call. -/
def Beside : Fin 2 → Dev nD → sProp 𝕄 := fun i c => if i = 0 then Ride m c else iprop(Done c ∗ ∃ W, owes (c : Thread nD τ) (0 : CellTallies nD τ sig ℕ) W)
theorem beside0 : Beside m 0 = Ride m := by funext c; unfold Beside; rw [if_pos rfl]

theorem arr_sub : Pipeline.arrRefs (τ := τ) spec0 ⊆ Pipeline.ucRefs τ sig := by decide
theorem enter_region : iprop(StableHlo.held (c : Thread nD τ) (Pipeline.ucRefs τ sig) (V1 m c) ∗ Beside m 0 c) ⊢ (region m).pre c := by
  rw [beside0, StableHlo.held_sub_split (c : Thread nD τ) arr_sub (V1 m c)]
  unfold Ride
  refine BIBase.Entails.trans (?_ : _ ⊢ (iprop(StableHlo.held (c : Thread nD τ) (Pipeline.arrRefs (τ := τ) spec0) (V1 m c) ∗ (∃ r, prngReg c r)
      ∗ (StableHlo.held (c : Thread nD τ) restB (V1 m c) ∗ emp) ∗ Kept m c ∗ ∃ Wd, owes (c : Thread nD τ) (0 + O c 0) Wd) : sProp 𝕄)) BIBase.Entails.refl
  rw [zero_add]
  iintro ⟨⟨Ha, Hr⟩, HK, Hp, HO⟩
  isplitl [Ha]; · iexact Ha
  isplitl [Hp]; · iexact Hp
  isplitl [Hr]
  · isplitl [Hr]; · iexact Hr
    iempintro
  isplitl [HK] <;> iassumption
theorem leave_region : (region m).post c ⊢ iprop((StableHlo.held (c : Thread nD τ) (Pipeline.ucRefs τ sig) (Vout m c) ∗ Done c)
    ∗ ∃ W, owes (c : Thread nD τ) (0 : CellTallies nD τ sig ℕ) W) := by
  rw [StableHlo.held_sub_split (c : Thread nD τ) arr_sub (Vout m c)]
  refine BIBase.Entails.trans BIBase.Entails.refl (?_ : (iprop(StableHlo.held (c : Thread nD τ) (Pipeline.arrRefs (τ := τ) spec0) (Vout m c) ∗ (∃ r, prngReg c r)
      ∗ (StableHlo.held (c : Thread nD τ) restB (Vout m c) ∗ emp) ∗ Done c ∗ ∃ Wd, owes (c : Thread nD τ) (0 : CellTallies nD τ sig ℕ) Wd) : sProp 𝕄) ⊢ _)
  iintro ⟨Ha, -, ⟨Hr, -⟩, HD, HO⟩
  isplitr [HO]
  · isplitr [HD]
    · isplitl [Ha] <;> iassumption
    iexact HD
  iexact HO

theorem start (ρ : Dev nD → PrngReg) :
    iprop((bigSep Finset.univ fun c : Dev nD => iprop(unscopedBufs c (fun b => m ((c.tc : Thread nD τ).loc b)) ∗ unscopedSems0 c
        ∗ owes (c.tc : Thread nD τ) (O c 0) ∅ ∗ Pipeline.launchCred (fun d => O d 0) c ∗ prngReg c (ρ c) ∗ G c)) ∗ levAts L lv)
      ⊢ (|={Set.univ}=> bigSep Finset.univ fun c : Dev nD => iprop(StableHlo.held (c : Thread nD τ) (Pipeline.ucRefs τ sig) (V0 m c) ∗ Beside m 0 c) : sProp 𝕄) := by
  rw [beside0]
  have hc : ∀ c : Dev nD, iprop(unscopedBufs c (fun b => m ((c.tc : Thread nD τ).loc b)) ∗ unscopedSems0 c
        ∗ owes (c.tc : Thread nD τ) (O c 0) ∅ ∗ Pipeline.launchCred (fun d => O d 0) c ∗ prngReg c (ρ c) ∗ G c)
      ⊢ (iprop(StableHlo.held (c : Thread nD τ) (Pipeline.ucRefs τ sig) (V0 m c)
          ∗ (unscopedSems0 c ∗ owes (c : Thread nD τ) (O c 0) ∅ ∗ Pipeline.launchCred (fun d => O d 0) c ∗ prngReg c (ρ c) ∗ G c)) : sProp 𝕄) := fun c => by
    rw [← Pipeline.unscopedBufs_held (Ix := ℕ) (Name := ℕ) (U := UU) (Lvl := ℕ) c (V0 m c)]
  iintro ⟨H, HL⟩
  ihave H := (show (bigSep Finset.univ fun c : Dev nD => iprop(unscopedBufs c (fun b => m ((c.tc : Thread nD τ).loc b)) ∗ unscopedSems0 c
        ∗ owes (c.tc : Thread nD τ) (O c 0) ∅ ∗ Pipeline.launchCred (fun d => O d 0) c ∗ prngReg c (ρ c) ∗ G c))
      ⊢ (bigSep Finset.univ fun c : Dev nD => iprop(StableHlo.held (c : Thread nD τ) (Pipeline.ucRefs τ sig) (V0 m c)
          ∗ (unscopedSems0 c ∗ owes (c : Thread nD τ) (O c 0) ∅ ∗ Pipeline.launchCred (fun d => O d 0) c ∗ prngReg c (ρ c) ∗ G c)) : sProp 𝕄)
      from bigSep_mono fun c _ => hc c) $$ H
  ihave H := split_all $$ H
  icases H with ⟨Hh, Hr⟩
  imod (init m ρ) $$ [Hr HL] with HE
  · isplitl [Hr] <;> iassumption
  imodintro
  iapply join_all
  isplitl [Hh] <;> iassumption

theorem arg_eq (b : Ref sig .tc) (hb : (Proc.devRef .tc b : DevRef τ sig) ≠ Proc.devRef .tc main_v39) (h1 : V1 m c (Proc.devRef .tc b) = m ((c : Thread nD τ).loc b)) :
    Vout m c (Proc.devRef .tc b) = m ((c : Thread nD τ).loc b) :=
  (Function.update_of_ne hb (res c (inOf m)) (V1 m c)).trans h1

set_option backward.isDefEq.respectTransparency.types false in
/-- THE RUN. -/
theorem run_main (ρ : Dev nD → PrngReg) : θ_run defs (onTc (τ := τ) (main (F := F))) ⟨m, fun _ => 0, ρ⟩ (fun r =>
    (∀ c : Dev nD, r.2.mem ((c.tc : Thread nD τ).loc main_v39) = res c (inOf m)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine Pipeline.θ_run_regions_kit_dev_sems (pcfgs (F := F)) adm (pdats m) 0 cellOf_inj EP defs₀ 𝒱₀ L lv m ρ main
    (segs m 𝒱₀ L lv (Beside m) 0 (pdats m) (region m))
    (fun c Q => by
      rewrite [main_chain c, Pipeline.Seg.run_eq_chain,
        show (segs m 𝒱₀ L lv (Beside m) 0 (pdats m) (region m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) (fun d => O d 0) L_of_ne G u₀
    (by
      unfold u₀
      iintro Hu
      ihave H := (ownU_pair _ _) $$ Hu
      icases H with ⟨HP, HX⟩
      imodintro
      isplitl [HP]; · iexact HP
      rw [G_all]; iexact HX)
    (T₀ := fun c => iprop(StableHlo.held (c : Thread nD τ) (Pipeline.ucRefs τ sig) (V0 m c) ∗ Beside m 0 c))
    (Tₙ := fun c => iprop(StableHlo.held (c : Thread nD τ) (Pipeline.ucRefs τ sig) (Vout m c) ∗ Done c))
    (hch := fun c => ⟨.rfl, enter_region m c, leave_region m c⟩)
    (hinit := start m ρ)
    (QY := fun c s => (s.mem ((c.tc : Thread nD τ).loc main_v39) = res c (inOf m)
      ∧ s.mem ((c.tc : Thread nD τ).loc main_arg0) = m ((c.tc : Thread nD τ).loc main_arg0)
      ∧ s.mem ((c.tc : Thread nD τ).loc main_arg1) = m ((c.tc : Thread nD τ).loc main_arg1)) ∧ s.sem (cell c smBar) = 0)
    (hfin := fun c s' => ?_)
    (hQ := fun s h hs => ⟨fun c => (h c).1, sem_eq_zero hs fun c sm hsm => by
      obtain rfl := unscoped_bar sm hsm
      exact (h c).2⟩)
  unfold StableHlo.held Done
  iintro ⟨⟨Hh, Hb⟩, HSI⟩
  icombine HSI Hb gives %hb
  ihave Hr := (pointsTo_read_all (Pipeline.ucRefs τ sig) (fun b => ((c : Thread nD τ).1, b)) (Vout m c) s') $$ [Hh HSI]
  · isplitl [Hh] <;> iassumption
  icases Hr with ⟨%h, HSI⟩
  imodintro
  isplitr
  · ipureintro
    exact ⟨⟨(h (Proc.devRef .tc main_v39) (Finset.mem_filter.mpr ⟨StableHlo.devRef_mem_tcRefs main_v39, by decide⟩)).trans (Function.update_self _ _ _),
      (h (Proc.devRef .tc main_arg0) (Finset.mem_filter.mpr ⟨StableHlo.devRef_mem_tcRefs main_arg0, by decide⟩)).trans (arg_eq m c main_arg0 (by decide) ((V1_of m c main_arg0 (by decide)).trans rfl)),
      (h (Proc.devRef .tc main_arg1) (Finset.mem_filter.mpr ⟨StableHlo.devRef_mem_tcRefs main_arg1, by decide⟩)).trans (arg_eq m c main_arg1 (by decide) ((V1_of m c main_arg1 (by decide)).trans rfl))⟩,
      by simpa using hb⟩
  · iexact HSI

end Cert.KernelIdeal.Ring
-- ==== Proof.IValue.lean ====
/-
  What the ring computes over the extended reals: a device's half chunk ends as the sum of every device's share of the
  product.
-/
module

public import proofs.«01_k».proof.Proof.IBufs
public import Idealize.ShloMosaic.PureOps.Ideal.Laws
public import Idealize.ShloMosaic.Lib.ValueIdx
public import Idealize.ShloMosaic.Lib.Pipeline.Value

@[expose] public section

set_option maxRecDepth 16384

noncomputable section

namespace Cert.KernelIdeal.Ring

open Idealize.ShloMosaic Idealize.ShloMosaic.ValueIdx
open Cert.KernelIdeal Cert.KernelIdeal.Gen

variable (I : In Ideal)

/-- The row of the product that row `r` of a half chunk is. -/
def rowAt (q : Fin 32) (b : Fin 2) (r : Fin 64) : Fin 4096 := ⟨128 * q.val + 64 * b.val + r.val, by have := q.isLt; have := b.isLt; have := r.isLt; omega⟩
/-- A device's share of an element of the product. -/
def share (d : Dev nD) (r : Fin 4096) (n : Fin 8192) : EReal :=
  ∑ k : Fin 128, (I.x d (ix2 r k) : EReal) * (I.w d (ix2 k n) : EReal)

theorem wb_apply (c : Dev nD) (i : S128x8192.Idx) : wbV I c i = I.w c i := by
  unfold wbV
  rw [shapeCast_self]
  refine (congrFun (shapeCast_self ((wM.access wR).read (Elt Ideal) (I.w c)) shapeCasts_S128x8192_S128x8192) i).trans ?_
  show I.w c (wR.emb i) = I.w c i
  congr 1
  ext a
  show ![0, 0] a + 1 * (i a).val = (i a).val
  fin_cases a <;> simp

theorem part_apply (c : Dev nD) (b : Fin 2) (s : ℕ) (hs : s ≤ 31) (j : S64x8192.Idx) :
    partV I c b s j = share I c (rowAt (chX c b ⟨s, by omega⟩) b (j 0)) (j 1) := by
  unfold partV dotV
  rw [xRow_eq _ _ _ _ hs, shapeCast_self]
  simp only [matmul]
  rw [Ideal.matmul_constant_zero_apply]
  unfold share
  refine Fintype.sum_equiv (contrEquiv1 dot_S64x128_S128x8192_S64x8192_1_0_0_1_n_n 128 rfl rfl) _ _ fun k => ?_
  have e0 := offX_row c b ⟨s, by omega⟩
  have e1 := offX_col c b ⟨s, by omega⟩
  have hx : (xM.access (xR c b s hs)).read (Elt Ideal) (I.x c) (dot_S64x128_S128x8192_S64x8192_1_0_0_1_n_n.lhsIdx j k)
      = I.x c (ix2 (rowAt (chX c b ⟨s, by omega⟩) b (j 0)) (contrEquiv1 dot_S64x128_S128x8192_S64x8192_1_0_0_1_n_n 128 rfl rfl k)) := by
    show I.x c ((xR c b s hs).emb _) = _
    congr 1
    ext a
    fin_cases a
    · show offX (envOf c).v0 b s 0 + 1 * (j 0).val = 128 * (chX c b ⟨s, by omega⟩).val + 64 * b.val + (j 0).val
      rw [show offX (envOf c).v0 b s 0 = _ from e0]; omega
    · show offX (envOf c).v0 b s 1 + 1 * (k ⟨0, by decide⟩).val = (k ⟨0, by decide⟩).val
      rw [show offX (envOf c).v0 b s 1 = _ from e1]; omega
  have hw : wbV I c (dot_S64x128_S128x8192_S64x8192_1_0_0_1_n_n.rhsIdx j k)
      = I.w c (ix2 (contrEquiv1 dot_S64x128_S128x8192_S64x8192_1_0_0_1_n_n 128 rfl rfl k) (j 1)) := by
    rw [wb_apply]
    congr 1
    ext a
    fin_cases a <;> rfl
  rw [hx, hw]

/-! ## Along the ring -/

/-- The device `i` steps against side `b`'s direction. -/
def prv (b : Fin 2) : ℕ → Dev nD → Dev nD
  | 0, c => c
  | i + 1, c => prv b i (nb c (ob b))

theorem chX_nb : ∀ c b (s : Fin 31), chX (nb c (ob b)) b ⟨s.val, by omega⟩ = chX c b ⟨s.val + 1, by omega⟩ := by decide +kernel
theorem prv_inj : ∀ (c : Dev nD) (b : Fin 2), Function.Injective (fun i : Fin 32 => prv b i.val c) := by
  have h : ∀ (c : Dev nD) (b : Fin 2) (i : Fin 32), pos (prv b i.val c) = if b = 0 then pos c - i else pos c + i := by decide +kernel
  intro c b i j e
  have e' : pos (prv b i.val c) = pos (prv b j.val c) := congrArg pos e
  rw [h, h] at e'
  split at e'
  · exact sub_right_injective e'
  · exact add_right_injective _ e'
theorem chX_prv : ∀ (c : Dev nD) (b : Fin 2) (t : Fin 32), chX (prv b t.val c) b 31 = chO c b t := by decide +kernel

theorem through (v : FVec Ideal S64x8192 .f32) : unpackV (packV v) = v := by
  show shapeCast S64x8192 (shapeCast S1x64x8192 v _) _ = v
  exact shapeCast_shapeCast v _ _
theorem through8 (q : IVec S64x8192 8) : unpack8 (F := Ideal) (pack8 q) = q := shapeCast_shapeCast q _ _

theorem psum_apply (b : Fin 2) (j : S64x8192.Idx) : ∀ (s : ℕ) (hs : s ≤ 31) (c : Dev nD), psum I s c b j
    = ∑ i ∈ Finset.range (s + 1), share I (prv b i c) (rowAt (chX c b ⟨s, by omega⟩) b (j 0)) (j 1)
  | 0, _, c => by
    rw [Finset.sum_range_one]
    exact part_apply I c b 0 (by omega) j
  | s + 1, hs, c => by
    rw [Finset.sum_range_succ']
    show (addf (partV I c b (s + 1)) (unpackV (packV (psum I s (nb c (ob b)) b)))) j = _
    rw [through]
    show (partV I c b (s + 1) j : EReal) + psum I s (nb c (ob b)) b j = _
    rw [psum_apply b j s (by omega) (nb c (ob b)), part_apply I c b (s + 1) hs j, add_comm, chX_nb c b ⟨s, by omega⟩]
    rfl

/-- An element of the product. -/
def full (r : Fin 4096) (n : Fin 8192) : EReal := ∑ d : Dev nD, share I d r n
theorem red_apply (c : Dev nD) (b : Fin 2) (j : S64x8192.Idx) : red I c b j = full I (rowAt (chX c b 31) b (j 0)) (j 1) := by
  have e : red I c b j = psum I 31 c b j := by
    unfold red
    rw [shapeCast_self]
    exact add_comm (unpackV (packV (psum I 30 (nb c (ob b)) b)) j : EReal) (partV I c b 31 j)
  rw [e, psum_apply I b j 31 le_rfl c]
  show _ = ∑ d : Dev nD, share I d (rowAt (chX c b 31) b (j 0)) (j 1)
  rw [← Fin.sum_univ_eq_sum_range (fun i => share I (prv b i c) (rowAt (chX c b ⟨31, by omega⟩) b (j 0)) (j 1)) 32]
  exact Fintype.sum_bijective (fun i : Fin 32 => prv b i.val c) (Finite.injective_iff_bijective.mp (prv_inj c b)) _ _ fun i => rfl

theorem qv_apply (b : Fin 2) : ∀ (t : ℕ) (c : Dev nD), qv I t c b = quantV (inv I (prv b t c)) (red I (prv b t c) b)
  | 0, c => rfl
  | t + 1, c => by
    show unpack8 (F := Ideal) (pack8 (qv I t (nb c (ob b)) b)) = _
    rw [through8, qv_apply b t]
    rfl

end Cert.KernelIdeal.Ring
-- ==== Proof.Quant.lean ====
/-
  One element of the quantiser over the extended reals: multiplying by 127 over the greatest value, rounding, clipping to
  [0, 127] and going through an 8-bit integer gives what dividing by the scale, rounding and clipping to [-127, 127] gives.
-/
module

public import Idealize.ShloMosaic.PureOps.Ideal.Laws
public import Mathlib.Tactic.Linarith
public import Mathlib.Tactic.NormNum
public import Mathlib.Tactic.FieldSimp

@[expose] public section

noncomputable section

namespace Cert.Quant

open Idealize.ShloMosaic

theorem bits_127 : Ideal.ofBits .f32 0x42FE0000#32 = ((127 : ℝ) : EReal) := by
  simp [Ideal.ofBits, Ideal.ieee]
  rw [← EReal.coe_mul]
  norm_num
theorem bits_neg127 : Ideal.ofBits .f32 0xC2FE0000#32 = ((-127 : ℝ) : EReal) := by
  simp [Ideal.ofBits, Ideal.ieee]
  rw [← EReal.coe_mul]
  norm_num
theorem bits_bot : Ideal.ofBits .f32 0xFF800000#32 = (⊥ : EReal) := by
  simp [Ideal.ofBits, Ideal.ieee]

/-- What the kernel leaves of an element `z` when the greatest is `M`. -/
def viaInt (M z : EReal) : EReal :=
  (((Ideal.fptosi 8 (min ((127 : ℝ) : EReal) (max 0 (Ideal.liftRound Ideal.roundHalfEven (z * Ideal.div ((127 : ℝ) : EReal) M))))).toInt : ℝ) : EReal)
    * Ideal.div M ((127 : ℝ) : EReal)
/-- What the reference leaves of it. -/
def plain (M z : EReal) : EReal :=
  min ((127 : ℝ) : EReal) (max ((-127 : ℝ) : EReal) (Ideal.liftRound Ideal.roundHalfEven (Ideal.div z (Ideal.div M ((127 : ℝ) : EReal)))))
    * Ideal.div M ((127 : ℝ) : EReal)

theorem round_range (r : ℝ) (h0 : 0 ≤ r) (h1 : r ≤ 127) : 0 ≤ Ideal.roundHalfEven r ∧ Ideal.roundHalfEven r ≤ 127 := by
  have hf0 : 0 ≤ ⌊r⌋ := Int.floor_nonneg.mpr h0
  have hf1 : ⌊r⌋ ≤ 127 := by
    have : ⌊r⌋ ≤ ⌊(127 : ℝ)⌋ := Int.floor_le_floor h1
    simpa using this
  have hlt : ⌊r⌋ = 127 → r - ⌊r⌋ = 0 := fun h => by
    have h2 := Int.floor_le r
    rw [h] at h2 ⊢
    push_cast at h2 ⊢
    linarith
  unfold Ideal.roundHalfEven
  dsimp only
  by_cases h : ⌊r⌋ = 127
  · rw [if_pos (by rw [hlt h]; norm_num)]; exact ⟨hf0, hf1⟩
  · split_ifs <;> constructor <;> omega

theorem to_int (n : ℤ) (h0 : 0 ≤ n) (h1 : n ≤ 127) : (Ideal.fptosi 8 (((n : ℝ)) : EReal)).toInt = n := by
  have e : Ideal.fptosi 8 (((n : ℝ)) : EReal) = BitVec.ofInt 8 n := by
    unfold Ideal.fptosi
    rw [Ideal.toIntClamped_coe]
    have h : (if 0 ≤ (n : ℝ) then ⌊(n : ℝ)⌋ else ⌈(n : ℝ)⌉) = n := by split_ifs <;> simp
    rw [h]
    congr 1
    norm_num
    omega
  rw [e, BitVec.toInt_ofInt, Int.bmod_def]
  norm_num
  omega

theorem viaInt_eq {M z : EReal} (h0 : 0 ≤ z) (h1 : z ≤ M) : viaInt M z = plain M z := by
  unfold viaInt plain
  induction M using EReal.rec with
  | bot => exact absurd (h0.trans h1) (by simp)
  | top =>
    have e1 : Ideal.div ((127 : ℝ) : EReal) ⊤ = 0 := by simp [Ideal.div]
    have e2 : Ideal.div ⊤ ((127 : ℝ) : EReal) = ⊤ := by
      unfold Ideal.div
      rw [if_neg (by norm_num), ← EReal.coe_inv]
      exact EReal.top_mul_coe_of_pos (by norm_num)
    have e3 : Ideal.div z ⊤ = 0 := by simp [Ideal.div]
    have e4 : Ideal.liftRound Ideal.roundHalfEven 0 = 0 := by
      rw [← EReal.coe_zero, Ideal.liftRound_coe]; norm_num [Ideal.roundHalfEven]
    rw [e1, e2, e3, mul_zero, e4]
    have e5 : max (0 : EReal) 0 = 0 := max_self 0
    have e6 : min ((127 : ℝ) : EReal) 0 = 0 := min_eq_right (by exact_mod_cast (by norm_num : (0:ℝ) ≤ 127))
    have e7 : max ((-127 : ℝ) : EReal) 0 = 0 := max_eq_right (by exact_mod_cast (by norm_num : (-127:ℝ) ≤ 0))
    have e8 : (Ideal.fptosi 8 0).toInt = 0 := by
      have := to_int 0 le_rfl (by norm_num); simpa using this
    rw [e5, e6, e7, e6, e8]
    simp
  | coe m =>
    induction z using EReal.rec with
    | bot => exact absurd h0 (by simp)
    | top => exact absurd h1 (by simp)
    | coe y =>
      have hy : 0 ≤ y := by exact_mod_cast h0
      have hm : y ≤ m := by exact_mod_cast h1
      have e2 : Ideal.div (m : EReal) ((127 : ℝ) : EReal) = ((m / 127 : ℝ) : EReal) := by
        unfold Ideal.div
        rw [if_neg (by norm_num), ← EReal.coe_inv, ← EReal.coe_mul, div_eq_mul_inv]
      rw [e2]
      by_cases h : m = 0
      · subst h
        simp
      · have hm0 : 0 < m := lt_of_le_of_ne (hy.trans hm) (Ne.symm h)
        have e1 : Ideal.div ((127 : ℝ) : EReal) (m : EReal) = ((127 / m : ℝ) : EReal) := by
          unfold Ideal.div
          rw [if_neg (by exact_mod_cast h), ← EReal.coe_inv, ← EReal.coe_mul, div_eq_mul_inv]
        have e3 : Ideal.div (y : EReal) ((m / 127 : ℝ) : EReal) = ((y * (127 / m) : ℝ) : EReal) := by
          have hne : (m / 127 : ℝ) ≠ 0 := by positivity
          unfold Ideal.div
          rw [if_neg (by exact_mod_cast hne), ← EReal.coe_inv, ← EReal.coe_mul, inv_div]
        rw [e1, e3, show (y : EReal) * ((127 / m : ℝ) : EReal) = ((y * (127 / m) : ℝ) : EReal) from (EReal.coe_mul _ _).symm, Ideal.liftRound_coe]
        have hr0 : 0 ≤ y * (127 / m) := by positivity
        have hr1 : y * (127 / m) ≤ 127 := by
          rw [mul_div_assoc', div_le_iff₀ hm0]; nlinarith
        obtain ⟨ha, hb⟩ := round_range _ hr0 hr1
        generalize Ideal.roundHalfEven (y * (127 / m)) = n at ha hb ⊢
        have ha' : (0 : ℝ) ≤ (n : ℝ) := by exact_mod_cast ha
        have hb' : (n : ℝ) ≤ 127 := by exact_mod_cast hb
        have f1 : max (0 : EReal) ((n : ℝ) : EReal) = ((n : ℝ) : EReal) := max_eq_right (by exact_mod_cast ha)
        have f2 : max ((-127 : ℝ) : EReal) ((n : ℝ) : EReal) = ((n : ℝ) : EReal) := max_eq_right (EReal.coe_le_coe_iff.mpr (by linarith))
        have f3 : min ((127 : ℝ) : EReal) ((n : ℝ) : EReal) = ((n : ℝ) : EReal) := min_eq_right (EReal.coe_le_coe_iff.mpr hb')
        rw [f1, f2, f3, to_int n ha hb]

end Cert.Quant

end
-- ==== Proof.Ref.lean ====
/-
  What the reference computes, element by element over the extended reals.
-/
module

public import proofs.«01_k».proof.Proof.Gen.ReferenceIdeal.Run
public import proofs.«01_k».proof.Proof.Quant
public import Idealize.ShloMosaic.PureOps.Ideal.Laws
public import Idealize.ShloMosaic.Lib.ValueIdx
public import Idealize.ShloMosaic.Lib.IdealHost

@[expose] public section

set_option maxRecDepth 16384

noncomputable section

namespace Cert.ReferenceIdeal.Plain

open Cert.ReferenceIdeal Cert.ReferenceIdeal.Gen Idealize.ShloMosaic Idealize.ShloMosaic.ValueIdx

variable (X : FVec Ideal S4096x4096 .bf16) (W : FVec Ideal S4096x8192 .bf16)

/-- The product, rectified. -/
def act : FVec Ideal S4096x8192 .f32 :=
  maximumf (extf .f32 (truncf .bf16 (Host.dotGeneral dot_S4096x4096_S4096x8192_S4096x8192_1_0_0_1_n_n none X W) bitsLt_bf16_f32) bitsLt_bf16_f32)
    (broadcastInDim S4096x8192 ![] bcast_S_S4096x8192 (constant S_ .f32 0x00000000#32))
/-- Its greatest absolute value. -/
def amax : FVec Ideal S_ .f32 :=
  Host.reduce FloatOps.maximumf (Host.absf (act X W)) (constant S_ .f32 0xFF800000#32) reducesTo_S4096x8192_S_d0_1 h_S_
/-- The scale. -/
def scale : FVec Ideal S_ .f32 := Host.divf (amax X W) (constant S_ .f32 0x42FE0000#32)
/-- The result. -/
def answer : FVec Ideal S4096x8192 .f32 :=
  mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf (act X W) (broadcastInDim S4096x8192 ![] bcast_S_S4096x8192 (scale X W))))))
    (broadcastInDim S4096x8192 ![] bcast_S_S4096x8192 (scale X W))

/-- An element of the product. -/
def elem (r : Fin 4096) (n : Fin 8192) : EReal := ∑ k : Fin 4096, (X (ix2 r k) : EReal) * (W (ix2 k n) : EReal)

theorem dot_apply (i : S4096x8192.Idx) :
    Host.dotGeneral dot_S4096x4096_S4096x8192_S4096x8192_1_0_0_1_n_n none X W i = elem X W (i 0) (i 1) := by
  simp only [Host.dotGeneral]
  rw [Ideal.dotGeneral_apply]
  unfold elem
  refine Fintype.sum_equiv (contrEquiv1 dot_S4096x4096_S4096x8192_S4096x8192_1_0_0_1_n_n 4096 rfl rfl) _ _ fun k => ?_
  congr 1
  · congr 1
    ext a
    fin_cases a <;> rfl
  · congr 1
    ext a
    fin_cases a <;> rfl
theorem act_apply (i : S4096x8192.Idx) : act X W i = max (elem X W (i 0) (i 1)) 0 := by
  unfold act
  show max (Host.dotGeneral dot_S4096x4096_S4096x8192_S4096x8192_1_0_0_1_n_n none X W i : EReal) (Ideal.ofBits .f32 0x00000000#32) = _
  rw [dot_apply, Ideal.ofBits_zero_f32]
theorem act_nonneg (i : S4096x8192.Idx) : (0 : EReal) ≤ act X W i := by rw [act_apply]; exact le_max_right _ _

theorem amax_le (u : S_.Idx) (M : EReal) : (amax X W u : EReal) ≤ M ↔ ∀ i, (act X W i : EReal) ≤ M := by
  unfold amax
  rw [Host.reduce_eq_fold]
  have hu : (Finset.univ.filter fun i : S4096x8192.Idx => reducesTo_S4096x8192_S_d0_1.drop i = u) = Finset.univ :=
    Finset.filter_true_of_mem fun i _ => funext fun a => a.elim0
  rw [hu]
  have habs : ∀ i, (Host.absf (act X W) i : EReal) = act X W i := fun i => by
    show max (act X W i : EReal) (-(act X W i : EReal)) = _
    exact max_eq_left ((EReal.neg_le_neg_iff.mpr (act_nonneg X W i)).trans (by rw [neg_zero]; exact act_nonneg X W i))
  have hs : Finset.fold FloatOps.maximumf (constant S_ .f32 0xFF800000#32 (Shape.Idx.first h_S_)) (Host.absf (act X W)) Finset.univ
      = (Finset.univ.sup (fun i => (act X W i : EReal)) : EReal) := by
    have h1 : Host.absf (act X W) = act X W := funext habs
    rw [h1, show (constant S_ .f32 0xFF800000#32 : FVec Ideal S_ .f32) (Shape.Idx.first h_S_) = (⊥ : EReal) from Quant.bits_bot]
    rfl
  rw [hs, Finset.sup_le_iff]
  exact ⟨fun h i => h i (Finset.mem_univ i), fun h i _ => h i⟩

theorem answer_apply (i : S4096x8192.Idx) : answer X W i = Quant.plain (amax X W ix0) (max (elem X W (i 0) (i 1)) 0) := by
  rw [← act_apply]
  unfold answer Quant.plain
  rw [← Quant.bits_127, ← Quant.bits_neg127]
  show _ * _ = _ * _
  rw [broadcastInDim_scalar_apply]
  show min (broadcastInDim S4096x8192 ![] bcast_S_S4096x8192 (id (constant S_ .f32 0x42FE0000#32) : FVec Ideal S_ .f32) i : EReal)
    (max (broadcastInDim S4096x8192 ![] bcast_S_S4096x8192 (id (constant S_ .f32 0xC2FE0000#32) : FVec Ideal S_ .f32) i : EReal)
      (Ideal.liftRound Ideal.roundHalfEven (Ideal.div (act X W i) (broadcastInDim S4096x8192 ![] bcast_S_S4096x8192 (scale X W) i)))) * _ = _
  rw [broadcastInDim_scalar_apply, broadcastInDim_scalar_apply, broadcastInDim_scalar_apply]
  rfl

end Cert.ReferenceIdeal.Plain

end
-- ==== Proof.IMatch.lean ====
/-
  The array a device leaves is the reference's array, over the extended reals.
-/
module

public import proofs.«01_k».proof.Proof.IValue
public import proofs.«01_k».proof.Proof.Ref
public import Idealize.ShloMosaic.Lib.Layout

@[expose] public section

set_option maxRecDepth 16384

noncomputable section

namespace Cert.KernelIdeal.Ring

open Idealize.ShloMosaic Idealize.ShloMosaic.ValueIdx
open Cert.KernelIdeal Cert.KernelIdeal.Gen

variable (I : In Ideal)

/-! ## The greatest value -/

theorem fold_sup {s : Shape} (v : s.Idx → EReal) (M : EReal) :
    (Finset.univ.fold (FloatOps.maximumf (F := Ideal) (φ := .f32)) (Ideal.ofBits .f32 0xFF800000#32) v : EReal) ≤ M ↔ ∀ i, v i ≤ M := by
  have h : (Finset.univ.fold (FloatOps.maximumf (F := Ideal) (φ := .f32)) (Ideal.ofBits .f32 0xFF800000#32) v : EReal) = Finset.univ.sup v := by
    rw [Quant.bits_bot]; rfl
  rw [h, Finset.sup_le_iff]
  exact ⟨fun h i => h i (Finset.mem_univ i), fun h i _ => h i⟩
theorem one_idx (i j : S1.Idx) : i = j := by
  funext a
  fin_cases a
  exact Subsingleton.elim (α := Fin 1) _ _

/-- A greatest-value reduction to one element is below a bound when every element is. -/
theorem reduced_le {s : Shape} {axes : List (Fin s.rank)} (src : FVec Ideal s .f32) (h : s.Reduces axes S1) (j : S1.Idx) (M : EReal) :
    ((multiReduction .maximumf axes S1 src 0xFF800000#32 h (.inl rfl) rfl : FVec Ideal S1 .f32) j : EReal) ≤ M ↔ ∀ i, (src i : EReal) ≤ M := by
  have e := multiReduction_maximumf_eq_fold src 0xFF800000#32 h (.inl rfl) rfl j
  rw [Finset.filter_true_of_mem fun i _ => one_idx _ _] at e
  exact (iff_of_eq (congrArg (fun z : EReal => z ≤ M) e)).trans (fold_sup _ M)
theorem picked_le (w : FVec Ideal S1 .f32) (M : EReal) (P : Prop) (h : ∀ j, (w j : EReal) ≤ M ↔ P) :
    (extractAt ![0, 0, 0] (shapeCast S1x1x1 w shapeCasts_S1_S1x1x1) inpos_S1x1x1_p0_0_0 : EReal) ≤ M ↔ P := h _
/-- There and back through the shape with a leading unit. -/
theorem lead_back (v : FVec Ideal S64x8192 .f32) (j : S64x8192.Idx) :
    (shapeCast S1x64x8192 v shapeCasts_S64x8192_S1x64x8192 : FVec Ideal S1x64x8192 .f32) (Shape.reshapeEquiv squeezes_S1x64x8192_S64x8192.numel_eq j) = v j :=
  congrArg v ((Shape.reshapeEquiv_reshapeEquiv _ _ j).trans (Shape.reshapeEquiv_self _ j))
theorem lead_le (v : FVec Ideal S64x8192 .f32) (M : EReal) :
    (∀ i, ((shapeCast S1x64x8192 v shapeCasts_S64x8192_S1x64x8192 : FVec Ideal S1x64x8192 .f32) i : EReal) ≤ M) ↔ ∀ j, (v j : EReal) ≤ M :=
  ⟨fun h j => (lead_back v j).symm.trans_le (h _), fun h i => h _⟩

theorem maxV_le (v : FVec Ideal S64x8192 .f32) (M : EReal) : (maxV (F := Ideal) v : EReal) ≤ M ↔ ∀ j, (v j : EReal) ≤ M :=
  picked_le _ M _ fun j => (reduced_le (shapeCast S1x64x8192 v shapeCasts_S64x8192_S1x64x8192 : FVec Ideal S1x64x8192 .f32) reduces_S1x64x8192_S1 j M).trans (lead_le v M)

theorem blockV_apply (m : EReal) (i : S8x128.Idx) : (blockV (F := Ideal) m i : EReal) = m := by
  have h : (blockV (F := Ideal) m i : EReal) = (Ideal.ofBits .f32 0x00000000#32 : EReal) + m := congrFun (shapeCast_self _ _) i
  rw [h, Ideal.ofBits_zero_f32, zero_add]
theorem maxB_le (m M : EReal) : (maxB (F := Ideal) (shapeCast S1x8x128 (blockV (F := Ideal) m) shapeCasts_S8x128_S1x8x128) : EReal) ≤ M ↔ m ≤ M := by
  refine (reduced_le (shapeCast S1x8x128 (shapeCast S8x128 (shapeCast S1x8x128 (blockV (F := Ideal) m) shapeCasts_S8x128_S1x8x128 : FVec Ideal S1x8x128 .f32) shapeCasts_S1x8x128_S8x128 : FVec Ideal S8x128 .f32) shapeCasts_S8x128_S1x8x128 : FVec Ideal S1x8x128 .f32)
    reduces_S1x8x128_S1 _ M).trans ⟨fun h => ?_, fun h i => ?_⟩
  · exact (blockV_apply m _).symm.trans_le (h (ix3 (0 : Fin 1) (0 : Fin 8) (0 : Fin 128)))
  · exact (blockV_apply m _).trans_le h

theorem max_le' (a b M : EReal) : (Scalar.maximumf (F := Ideal) (φ := .f32) a b : EReal) ≤ M ↔ a ≤ M ∧ b ≤ M := max_le_iff
theorem mx0_le (c : Dev nD) (M : EReal) : (mx I 0 c : EReal) ≤ M ↔ (∀ b j, (red I c b j : EReal) ≤ M) ∧ 0 ≤ M := by
  rw [mx]
  refine (max_le' _ _ M).trans (and_congr ((max_le' _ _ M).trans ((and_congr (maxV_le _ M) (maxV_le _ M)).trans ?_)) ?_)
  · exact ⟨fun h b => by
      fin_cases b
      · exact h.1
      · exact h.2, fun h => ⟨h 0, h 1⟩⟩
  · show (Ideal.ofBits .f32 0x00000000#32 : EReal) ≤ M ↔ 0 ≤ M
    rw [Ideal.ofBits_zero_f32]
theorem mxS_le (k : ℕ) (c : Dev nD) (M : EReal) : (mx I (k + 1) c : EReal) ≤ M ↔ (mx I k c : EReal) ≤ M ∧ (mx I k (pt c (Fin.ofNat 5 k)) : EReal) ≤ M := by
  rw [mx]
  exact (max_le' _ _ M).trans (and_congr Iff.rfl (maxB_le _ M))

/-- Where device `d`'s value has got to after `k` rounds on its way to `c`. -/
def way (d c : Dev nD) : ℕ → Dev nD
  | 0 => d
  | k + 1 => if (way d c k).val / 2 ^ k % 2 = c.val / 2 ^ k % 2 then way d c k else pt (way d c k) (Fin.ofNat 5 k)
theorem way_end : ∀ d c : Dev nD, way d c 5 = c := by decide +kernel
theorem way_le (M : EReal) (f : ℕ → Dev nD → EReal)
    (hf : ∀ k c, f (k + 1) c ≤ M ↔ f k c ≤ M ∧ f k (pt c (Fin.ofNat 5 k)) ≤ M) (d c : Dev nD) (k : ℕ) :
    f k (way d c k) ≤ M → f 0 d ≤ M := by
  induction k with
  | zero => exact id
  | succ k ih =>
    intro h
    refine ih ?_
    have h' := (hf k _).mp h
    rw [way] at h'
    split at h'
    · exact h'.1
    · have := h'.2
      rw [pt_pt] at this
      exact this
theorem all_le (M : EReal) (f : ℕ → Dev nD → EReal)
    (hf : ∀ k c, f (k + 1) c ≤ M ↔ f k c ≤ M ∧ f k (pt c (Fin.ofNat 5 k)) ≤ M) (h : ∀ d, f 0 d ≤ M) (k : ℕ) : ∀ c, f k c ≤ M := by
  induction k with
  | zero => exact h
  | succ k ih => exact fun c => (hf k c).mpr ⟨ih c, ih _⟩
theorem mx_le (c : Dev nD) (M : EReal) : (mx I 5 c : EReal) ≤ M ↔ ∀ d, (mx I 0 d : EReal) ≤ M := by
  refine ⟨fun h d => way_le M (fun k c => mx I k c) (fun k c => mxS_le I k c M) d c 5 ?_,
    fun h => all_le M (fun k c => mx I k c) (fun k c => mxS_le I k c M) h 5 c⟩
  rw [way_end]
  exact h

/-! ## The rows -/

theorem chunk_of : ∀ (q : Fin 32) (b : Fin 2), ∃ c : Dev nD, chX c b 31 = q := by decide +kernel
theorem row_of (r : Fin 4096) : ∃ (c : Dev nD) (b : Fin 2) (j : Fin 64), rowAt (chX c b 31) b j = r := by
  obtain ⟨c, hc⟩ := chunk_of ⟨r.val / 128, by have := r.isLt; omega⟩ ⟨r.val / 64 % 2, by omega⟩
  refine ⟨c, ⟨r.val / 64 % 2, by omega⟩, ⟨r.val % 64, by omega⟩, ?_⟩
  rw [hc]
  ext
  show 128 * (r.val / 128) + 64 * (r.val / 64 % 2) + r.val % 64 = r.val
  omega
theorem mx_full (c : Dev nD) (M : EReal) : (mx I 5 c : EReal) ≤ M ↔ ∀ r n, max (full I r n) 0 ≤ M := by
  rw [mx_le]
  constructor
  · intro h r n
    obtain ⟨d, b, j, rfl⟩ := row_of r
    obtain ⟨h1, h2⟩ := (mx0_le I d M).mp (h d)
    refine max_le ?_ h2
    have := h1 b (ix2 j n)
    rw [red_apply] at this
    exact this
  · intro h d
    refine (mx0_le I d M).mpr ⟨fun b j => ?_, (le_max_right _ _).trans (h 0 0)⟩
    rw [red_apply]
    exact (le_max_left _ _).trans (h _ _)

/-! ## The result -/

theorem dequant_apply (v : FVec Ideal S64x8192 .f32) (A : EReal) (j : S64x8192.Idx) :
    (dequantV (F := Ideal) (Scalar.divf (F := Ideal) (φ := .f32) A (Scalar.ofBits .f32 0x42FE0000#32))
      (quantV (F := Ideal) (Scalar.divf (F := Ideal) (φ := .f32) (Scalar.ofBits .f32 0x42FE0000#32) A) v) (Shape.reshapeEquiv squeezes_S1x64x8192_S64x8192.numel_eq j) : EReal)
      = Quant.viaInt A (max (v j) 0) := by
  refine (lead_back _ j).trans ?_
  unfold Quant.viaInt
  rw [← Quant.bits_127, ← Ideal.ofBits_zero_f32]
  rfl

theorem res_apply (c : Dev nD) (i : S4096x8192.Idx) (A : EReal) (hA : ∀ d, (mx I 5 d : EReal) = A) :
    res c I i = Quant.viaInt A (max (full I (i 0) (i 1)) 0) := by
  have e1 : rowAt (chX (prv (sideOf i) (stO c (sideOf i) (chunkOf i)).val c) (sideOf i) 31) (sideOf i) (rowOf i 0) = i 0 := by
    rw [chX_prv, chO_stO]
    apply Fin.ext
    show 128 * ((i 0).val / 64 / 2) + 64 * ((i 0).val / 64 % 2) + (i 0).val % 64 = (i 0).val
    omega
  have e2 : (red I (prv (sideOf i) (stO c (sideOf i) (chunkOf i)).val c) (sideOf i) (rowOf i) : EReal) = full I (i 0) (i 1) := by
    rw [red_apply, e1]
    exact congrArg (full I (i 0)) rfl
  have e3 : (res c I i : EReal) = dequantV (sc I c) (qv I (stO c (sideOf i) (chunkOf i)).val c (sideOf i)) (Shape.reshapeEquiv squeezes_S1x64x8192_S64x8192.numel_eq (rowOf i)) := rfl
  rw [e3, qv_apply, ← e2]
  unfold sc inv
  rw [hA, hA]
  exact dequant_apply _ A (rowOf i)

variable (X : FVec Ideal Cert.ReferenceIdeal.S4096x4096 .bf16) (W : FVec Ideal Cert.ReferenceIdeal.S4096x8192 .bf16)

/-- The devices' operands are the parts of two whole arrays. -/
def Cut : Prop := ∀ c : Dev nD, I.x c = Layout.block ⟨2, ![4096, 128]⟩ ⟨2, ![4096, 4096]⟩ 1 32 c X ∧ I.w c = Layout.block ⟨2, ![128, 8192]⟩ ⟨2, ![4096, 8192]⟩ 0 32 c W

open Cert.ReferenceIdeal.Plain in
theorem full_eq (h : Cut I X W) (r : Fin 4096) (n : Fin 8192) : full I r n = elem X W r n := by
  unfold full elem
  rw [← Equiv.sum_comp (finProdFinEquiv (m := 32) (n := 128)) (fun k : Fin (32 * 128) => (X (ix2 r k) : EReal) * (W (ix2 k n) : EReal)), Fintype.sum_prod_type]
  refine Finset.sum_congr rfl fun d _ => ?_
  unfold share
  refine Finset.sum_congr rfl fun k _ => ?_
  have hx : I.x d (ix2 r k) = X (ix2 r (finProdFinEquiv (m := 32) (n := 128) (d, k))) := by
    rw [(h d).1]
    show X (Layout.Tiles.idx _ d (ix2 r k)) = _
    congr 1
    ext a
    rw [Layout.Tiles.idx_val]
    fin_cases a
    · rfl
    · show d.val * 128 + k.val = k.val + 128 * d.val
      omega
  have hw : I.w d (ix2 k n) = W (ix2 (finProdFinEquiv (m := 32) (n := 128) (d, k)) n) := by
    rw [(h d).2]
    show W (Layout.Tiles.idx _ d (ix2 k n)) = _
    congr 1
    ext a
    rw [Layout.Tiles.idx_val]
    fin_cases a
    · show d.val * 128 + k.val = k.val + 128 * d.val
      omega
    · rfl
  rw [hx, hw]

open Cert.ReferenceIdeal.Plain in
/-- Every device leaves the reference's array. -/
theorem match_ref (h : Cut I X W) (c : Dev nD) : res c I = answer X W := by
  funext i
  have hA : ∀ d, (mx I 5 d : EReal) = amax X W ix0 := fun d => eq_of_forall_ge_iff fun M =>
    (mx_full I d M).trans (Iff.trans ⟨fun hm i =>
        (act_apply X W i).trans_le ((congrArg (fun z : EReal => max z 0) (full_eq I X W h (i 0) (i 1))).symm.trans_le (hm (i 0) (i 1))),
      fun hm r n => (congrArg (fun z : EReal => max z 0) (full_eq I X W h r n)).trans_le ((act_apply X W (ix2 r n)).symm.trans_le (hm (ix2 r n)))⟩
      (amax_le X W ix0 M).symm)
  have hz : max (elem X W (i 0) (i 1)) 0 ≤ (amax X W ix0 : EReal) :=
    (act_apply X W i).symm.trans_le ((amax_le X W ix0 _).mp le_rfl i)
  exact (res_apply I c i _ hA).trans ((congrArg (fun z : EReal => Quant.viaInt (amax X W ix0) (max z 0)) (full_eq I X W h (i 0) (i 1))).trans
    ((Quant.viaInt_eq (le_max_right _ _) hz).trans (answer_apply X W i).symm))

end Cert.KernelIdeal.Ring
-- ==== Proof.lean ====
/-
  The claims about the ring kernel: it runs to the end on every core, leaves its arguments alone and its semaphores at zero,
  and the array it leaves on every device is the reference's.
-/
module

public import proofs.«01_k».proof.Defs
public import proofs.«01_k».proof.Proof.KRun
public import proofs.«01_k».proof.Proof.IRun
public import proofs.«01_k».proof.Proof.IMatch
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

theorem kernel_ends : Cert.quiescent_Kernel (hKernel := Cert.Kernel.Gen.facts) := fun m g _ =>
  (θ_run _ _ _).mono (fun _ h => ⟨fun c => (h.1 c).2, h.2⟩) (Cert.Kernel.Ring.run_main (F := Bits) m g)
theorem ideal_ends : Cert.quiescent_KernelIdeal (hKernelIdeal := Cert.KernelIdeal.Gen.facts) := fun m g _ =>
  (θ_run _ _ _).mono (fun _ h => ⟨fun c => (h.1 c).2, h.2⟩) (Cert.KernelIdeal.Ring.run_main (F := Ideal) m g)
theorem reference_ends : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run (F := Ideal) m g)

theorem same_value : Cert.algebraic_KernelIdeal_ReferenceIdeal (hKernelIdeal := Cert.KernelIdeal.Gen.facts) (hReferenceIdeal := Cert.ReferenceIdeal.Gen.facts) :=
  fun m g m' g' _ cut =>
    ⟨Cert.ReferenceIdeal.Plain.answer (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)),
      (θ_run _ _ _).mono (fun _ h c => ⟨(h.1 c).1.trans (Cert.KernelIdeal.Ring.match_ref (Cert.KernelIdeal.Ring.inOf m) _ _ cut c), (h.1 c).2⟩)
        (Cert.KernelIdeal.Ring.run_main (F := Ideal) m g),
      (θ_run _ _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, kernel_ends, ideal_ends, reference_ends, trivial, same_value⟩

end Cert.Proof

end
